-- ==== Defs.lean ====
def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_BackDown (m : (ℓ : Loc Cert.BackDown.nD Cert.BackDown.τ Cert.BackDown.sig) → Buf (Elt Bits) ℓ) : Prop :=
  True

def Pre_BackDownIdeal (m : (ℓ : Loc Cert.BackDownIdeal.nD Cert.BackDownIdeal.τ Cert.BackDownIdeal.sig) → Buf (Elt Ideal) ℓ) : Prop :=
  True

def Pre_BackDownRefIdeal (m : (ℓ : Loc Cert.BackDownRefIdeal.nD Cert.BackDownRefIdeal.τ Cert.BackDownRefIdeal.sig) → Buf (Elt Ideal) ℓ) : Prop :=
  True

def Pre_BackUp (m : (ℓ : Loc Cert.BackUp.nD Cert.BackUp.τ Cert.BackUp.sig) → Buf (Elt Bits) ℓ) : Prop :=
  True

def Pre_BackUpIdeal (m : (ℓ : Loc Cert.BackUpIdeal.nD Cert.BackUpIdeal.τ Cert.BackUpIdeal.sig) → Buf (Elt Ideal) ℓ) : Prop :=
  True

def Pre_BackUpRefIdeal (m : (ℓ : Loc Cert.BackUpRefIdeal.nD Cert.BackUpRefIdeal.τ Cert.BackUpRefIdeal.sig) → Buf (Elt Ideal) ℓ) : Prop :=
  True

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6)
      ∧ r.2.mem ((c.tc : Thread Cert.GateUp.nD Cert.GateUp.τ).loc Cert.GateUp.main_arg7) = m ((c.tc : Thread Cert.GateUp.nD Cert.GateUp.τ).loc Cert.GateUp.main_arg7))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
      ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6)
      ∧ r.2.mem ((c.tc : Thread Cert.GateUpRefIdeal.nD Cert.GateUpRefIdeal.τ).loc Cert.GateUpRefIdeal.main_arg7) = m ((c.tc : Thread Cert.GateUpRefIdeal.nD Cert.GateUpRefIdeal.τ).loc Cert.GateUpRefIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_BackDown [hBackDown : Cert.BackDown.Facts] : Prop :=
  ∀ (m : (ℓ : Loc Cert.BackDown.nD Cert.BackDown.τ Cert.BackDown.sig) → Buf (Elt Bits) ℓ) (g : Dev Cert.BackDown.nD → PrngReg), Pre_BackDown m →
    θ_run (Cert.BackDown.defs (F := Bits)) (onTc (τ := Cert.BackDown.τ) (Cert.BackDown.main (F := Bits))) ⟨m, fun _ => 0, g⟩ (fun r => (∀ c : Dev Cert.BackDown.nD,
      r.2.mem ((c.tc : Thread Cert.BackDown.nD Cert.BackDown.τ).loc Cert.BackDown.main_arg0) = m ((c.tc : Thread Cert.BackDown.nD Cert.BackDown.τ).loc Cert.BackDown.main_arg0)
      ∧ r.2.mem ((c.tc : Thread Cert.BackDown.nD Cert.BackDown.τ).loc Cert.BackDown.main_arg1) = m ((c.tc : Thread Cert.BackDown.nD Cert.BackDown.τ).loc Cert.BackDown.main_arg1)
      ∧ r.2.mem ((c.tc : Thread Cert.BackDown.nD Cert.BackDown.τ).loc Cert.BackDown.main_arg2) = m ((c.tc : Thread Cert.BackDown.nD Cert.BackDown.τ).loc Cert.BackDown.main_arg2)
      ∧ r.2.mem ((c.tc : Thread Cert.BackDown.nD Cert.BackDown.τ).loc Cert.BackDown.main_arg3) = m ((c.tc : Thread Cert.BackDown.nD Cert.BackDown.τ).loc Cert.BackDown.main_arg3)
      ∧ r.2.mem ((c.tc : Thread Cert.BackDown.nD Cert.BackDown.τ).loc Cert.BackDown.main_arg4) = m ((c.tc : Thread Cert.BackDown.nD Cert.BackDown.τ).loc Cert.BackDown.main_arg4)
      ∧ r.2.mem ((c.tc : Thread Cert.BackDown.nD Cert.BackDown.τ).loc Cert.BackDown.main_arg5) = m ((c.tc : Thread Cert.BackDown.nD Cert.BackDown.τ).loc Cert.BackDown.main_arg5)
      ∧ r.2.mem ((c.tc : Thread Cert.BackDown.nD Cert.BackDown.τ).loc Cert.BackDown.main_arg6) = m ((c.tc : Thread Cert.BackDown.nD Cert.BackDown.τ).loc Cert.BackDown.main_arg6)
      ∧ r.2.mem ((c.tc : Thread Cert.BackDown.nD Cert.BackDown.τ).loc Cert.BackDown.main_arg7) = m ((c.tc : Thread Cert.BackDown.nD Cert.BackDown.τ).loc Cert.BackDown.main_arg7)
      ∧ r.2.mem ((c.tc : Thread Cert.BackDown.nD Cert.BackDown.τ).loc Cert.BackDown.main_arg8) = m ((c.tc : Thread Cert.BackDown.nD Cert.BackDown.τ).loc Cert.BackDown.main_arg8))
      ∧ r.2.sem = fun _ => 0)

def quiescent_BackDownIdeal [hBackDownIdeal : Cert.BackDownIdeal.Facts] : Prop :=
  ∀ (m : (ℓ : Loc Cert.BackDownIdeal.nD Cert.BackDownIdeal.τ Cert.BackDownIdeal.sig) → Buf (Elt Ideal) ℓ) (g : Dev Cert.BackDownIdeal.nD → PrngReg), Pre_BackDownIdeal m →
    θ_run (Cert.BackDownIdeal.defs (F := Ideal)) (onTc (τ := Cert.BackDownIdeal.τ) (Cert.BackDownIdeal.main (F := Ideal))) ⟨m, fun _ => 0, g⟩ (fun r => (∀ c : Dev Cert.BackDownIdeal.nD,
      r.2.mem ((c.tc : Thread Cert.BackDownIdeal.nD Cert.BackDownIdeal.τ).loc Cert.BackDownIdeal.main_arg0) = m ((c.tc : Thread Cert.BackDownIdeal.nD Cert.BackDownIdeal.τ).loc Cert.BackDownIdeal.main_arg0)
      ∧ r.2.mem ((c.tc : Thread Cert.BackDownIdeal.nD Cert.BackDownIdeal.τ).loc Cert.BackDownIdeal.main_arg1) = m ((c.tc : Thread Cert.BackDownIdeal.nD Cert.BackDownIdeal.τ).loc Cert.BackDownIdeal.main_arg1)
      ∧ r.2.mem ((c.tc : Thread Cert.BackDownIdeal.nD Cert.BackDownIdeal.τ).loc Cert.BackDownIdeal.main_arg2) = m ((c.tc : Thread Cert.BackDownIdeal.nD Cert.BackDownIdeal.τ).loc Cert.BackDownIdeal.main_arg2)
      ∧ r.2.mem ((c.tc : Thread Cert.BackDownIdeal.nD Cert.BackDownIdeal.τ).loc Cert.BackDownIdeal.main_arg3) = m ((c.tc : Thread Cert.BackDownIdeal.nD Cert.BackDownIdeal.τ).loc Cert.BackDownIdeal.main_arg3)
      ∧ r.2.mem ((c.tc : Thread Cert.BackDownIdeal.nD Cert.BackDownIdeal.τ).loc Cert.BackDownIdeal.main_arg4) = m ((c.tc : Thread Cert.BackDownIdeal.nD Cert.BackDownIdeal.τ).loc Cert.BackDownIdeal.main_arg4)
      ∧ r.2.mem ((c.tc : Thread Cert.BackDownIdeal.nD Cert.BackDownIdeal.τ).loc Cert.BackDownIdeal.main_arg5) = m ((c.tc : Thread Cert.BackDownIdeal.nD Cert.BackDownIdeal.τ).loc Cert.BackDownIdeal.main_arg5)
      ∧ r.2.mem ((c.tc : Thread Cert.BackDownIdeal.nD Cert.BackDownIdeal.τ).loc Cert.BackDownIdeal.main_arg6) = m ((c.tc : Thread Cert.BackDownIdeal.nD Cert.BackDownIdeal.τ).loc Cert.BackDownIdeal.main_arg6)
      ∧ r.2.mem ((c.tc : Thread Cert.BackDownIdeal.nD Cert.BackDownIdeal.τ).loc Cert.BackDownIdeal.main_arg7) = m ((c.tc : Thread Cert.BackDownIdeal.nD Cert.BackDownIdeal.τ).loc Cert.BackDownIdeal.main_arg7)
      ∧ r.2.mem ((c.tc : Thread Cert.BackDownIdeal.nD Cert.BackDownIdeal.τ).loc Cert.BackDownIdeal.main_arg8) = m ((c.tc : Thread Cert.BackDownIdeal.nD Cert.BackDownIdeal.τ).loc Cert.BackDownIdeal.main_arg8))
      ∧ r.2.sem = fun _ => 0)

def quiescent_BackDownRefIdeal [hBackDownRefIdeal : Cert.BackDownRefIdeal.Facts] : Prop :=
  ∀ (m : (ℓ : Loc Cert.BackDownRefIdeal.nD Cert.BackDownRefIdeal.τ Cert.BackDownRefIdeal.sig) → Buf (Elt Ideal) ℓ) (g : Dev Cert.BackDownRefIdeal.nD → PrngReg), Pre_BackDownRefIdeal m →
    θ_run (Cert.BackDownRefIdeal.defs (F := Ideal)) (onTc (τ := Cert.BackDownRefIdeal.τ) (Cert.BackDownRefIdeal.main (F := Ideal))) ⟨m, fun _ => 0, g⟩ (fun r => (∀ c : Dev Cert.BackDownRefIdeal.nD,
      r.2.mem ((c.tc : Thread Cert.BackDownRefIdeal.nD Cert.BackDownRefIdeal.τ).loc Cert.BackDownRefIdeal.main_arg0) = m ((c.tc : Thread Cert.BackDownRefIdeal.nD Cert.BackDownRefIdeal.τ).loc Cert.BackDownRefIdeal.main_arg0)
      ∧ r.2.mem ((c.tc : Thread Cert.BackDownRefIdeal.nD Cert.BackDownRefIdeal.τ).loc Cert.BackDownRefIdeal.main_arg1) = m ((c.tc : Thread Cert.BackDownRefIdeal.nD Cert.BackDownRefIdeal.τ).loc Cert.BackDownRefIdeal.main_arg1)
      ∧ r.2.mem ((c.tc : Thread Cert.BackDownRefIdeal.nD Cert.BackDownRefIdeal.τ).loc Cert.BackDownRefIdeal.main_arg2) = m ((c.tc : Thread Cert.BackDownRefIdeal.nD Cert.BackDownRefIdeal.τ).loc Cert.BackDownRefIdeal.main_arg2)
      ∧ r.2.mem ((c.tc : Thread Cert.BackDownRefIdeal.nD Cert.BackDownRefIdeal.τ).loc Cert.BackDownRefIdeal.main_arg3) = m ((c.tc : Thread Cert.BackDownRefIdeal.nD Cert.BackDownRefIdeal.τ).loc Cert.BackDownRefIdeal.main_arg3)
      ∧ r.2.mem ((c.tc : Thread Cert.BackDownRefIdeal.nD Cert.BackDownRefIdeal.τ).loc Cert.BackDownRefIdeal.main_arg4) = m ((c.tc : Thread Cert.BackDownRefIdeal.nD Cert.BackDownRefIdeal.τ).loc Cert.BackDownRefIdeal.main_arg4)
      ∧ r.2.mem ((c.tc : Thread Cert.BackDownRefIdeal.nD Cert.BackDownRefIdeal.τ).loc Cert.BackDownRefIdeal.main_arg5) = m ((c.tc : Thread Cert.BackDownRefIdeal.nD Cert.BackDownRefIdeal.τ).loc Cert.BackDownRefIdeal.main_arg5)
      ∧ r.2.mem ((c.tc : Thread Cert.BackDownRefIdeal.nD Cert.BackDownRefIdeal.τ).loc Cert.BackDownRefIdeal.main_arg6) = m ((c.tc : Thread Cert.BackDownRefIdeal.nD Cert.BackDownRefIdeal.τ).loc Cert.BackDownRefIdeal.main_arg6)
      ∧ r.2.mem ((c.tc : Thread Cert.BackDownRefIdeal.nD Cert.BackDownRefIdeal.τ).loc Cert.BackDownRefIdeal.main_arg7) = m ((c.tc : Thread Cert.BackDownRefIdeal.nD Cert.BackDownRefIdeal.τ).loc Cert.BackDownRefIdeal.main_arg7)
      ∧ r.2.mem ((c.tc : Thread Cert.BackDownRefIdeal.nD Cert.BackDownRefIdeal.τ).loc Cert.BackDownRefIdeal.main_arg8) = m ((c.tc : Thread Cert.BackDownRefIdeal.nD Cert.BackDownRefIdeal.τ).loc Cert.BackDownRefIdeal.main_arg8))
      ∧ r.2.sem = fun _ => 0)

def quiescent_BackUp [hBackUp : Cert.BackUp.Facts] : Prop :=
  ∀ (m : (ℓ : Loc Cert.BackUp.nD Cert.BackUp.τ Cert.BackUp.sig) → Buf (Elt Bits) ℓ) (g : Dev Cert.BackUp.nD → PrngReg), Pre_BackUp m →
    θ_run (Cert.BackUp.defs (F := Bits)) (onTc (τ := Cert.BackUp.τ) (Cert.BackUp.main (F := Bits))) ⟨m, fun _ => 0, g⟩ (fun r => (∀ c : Dev Cert.BackUp.nD,
      r.2.mem ((c.tc : Thread Cert.BackUp.nD Cert.BackUp.τ).loc Cert.BackUp.main_arg0) = m ((c.tc : Thread Cert.BackUp.nD Cert.BackUp.τ).loc Cert.BackUp.main_arg0)
      ∧ r.2.mem ((c.tc : Thread Cert.BackUp.nD Cert.BackUp.τ).loc Cert.BackUp.main_arg1) = m ((c.tc : Thread Cert.BackUp.nD Cert.BackUp.τ).loc Cert.BackUp.main_arg1)
      ∧ r.2.mem ((c.tc : Thread Cert.BackUp.nD Cert.BackUp.τ).loc Cert.BackUp.main_arg2) = m ((c.tc : Thread Cert.BackUp.nD Cert.BackUp.τ).loc Cert.BackUp.main_arg2)
      ∧ r.2.mem ((c.tc : Thread Cert.BackUp.nD Cert.BackUp.τ).loc Cert.BackUp.main_arg3) = m ((c.tc : Thread Cert.BackUp.nD Cert.BackUp.τ).loc Cert.BackUp.main_arg3)
      ∧ r.2.mem ((c.tc : Thread Cert.BackUp.nD Cert.BackUp.τ).loc Cert.BackUp.main_arg4) = m ((c.tc : Thread Cert.BackUp.nD Cert.BackUp.τ).loc Cert.BackUp.main_arg4)
      ∧ r.2.mem ((c.tc : Thread Cert.BackUp.nD Cert.BackUp.τ).loc Cert.BackUp.main_arg5) = m ((c.tc : Thread Cert.BackUp.nD Cert.BackUp.τ).loc Cert.BackUp.main_arg5)
      ∧ r.2.mem ((c.tc : Thread Cert.BackUp.nD Cert.BackUp.τ).loc Cert.BackUp.main_arg6) = m ((c.tc : Thread Cert.BackUp.nD Cert.BackUp.τ).loc Cert.BackUp.main_arg6)
      ∧ r.2.mem ((c.tc : Thread Cert.BackUp.nD Cert.BackUp.τ).loc Cert.BackUp.main_arg7) = m ((c.tc : Thread Cert.BackUp.nD Cert.BackUp.τ).loc Cert.BackUp.main_arg7)
      ∧ r.2.mem ((c.tc : Thread Cert.BackUp.nD Cert.BackUp.τ).loc Cert.BackUp.main_arg8) = m ((c.tc : Thread Cert.BackUp.nD Cert.BackUp.τ).loc Cert.BackUp.main_arg8))
      ∧ r.2.sem = fun _ => 0)

def quiescent_BackUpIdeal [hBackUpIdeal : Cert.BackUpIdeal.Facts] : Prop :=
  ∀ (m : (ℓ : Loc Cert.BackUpIdeal.nD Cert.BackUpIdeal.τ Cert.BackUpIdeal.sig) → Buf (Elt Ideal) ℓ) (g : Dev Cert.BackUpIdeal.nD → PrngReg), Pre_BackUpIdeal m →
    θ_run (Cert.BackUpIdeal.defs (F := Ideal)) (onTc (τ := Cert.BackUpIdeal.τ) (Cert.BackUpIdeal.main (F := Ideal))) ⟨m, fun _ => 0, g⟩ (fun r => (∀ c : Dev Cert.BackUpIdeal.nD,
      r.2.mem ((c.tc : Thread Cert.BackUpIdeal.nD Cert.BackUpIdeal.τ).loc Cert.BackUpIdeal.main_arg0) = m ((c.tc : Thread Cert.BackUpIdeal.nD Cert.BackUpIdeal.τ).loc Cert.BackUpIdeal.main_arg0)
      ∧ r.2.mem ((c.tc : Thread Cert.BackUpIdeal.nD Cert.BackUpIdeal.τ).loc Cert.BackUpIdeal.main_arg1) = m ((c.tc : Thread Cert.BackUpIdeal.nD Cert.BackUpIdeal.τ).loc Cert.BackUpIdeal.main_arg1)
      ∧ r.2.mem ((c.tc : Thread Cert.BackUpIdeal.nD Cert.BackUpIdeal.τ).loc Cert.BackUpIdeal.main_arg2) = m ((c.tc : Thread Cert.BackUpIdeal.nD Cert.BackUpIdeal.τ).loc Cert.BackUpIdeal.main_arg2)
      ∧ r.2.mem ((c.tc : Thread Cert.BackUpIdeal.nD Cert.BackUpIdeal.τ).loc Cert.BackUpIdeal.main_arg3) = m ((c.tc : Thread Cert.BackUpIdeal.nD Cert.BackUpIdeal.τ).loc Cert.BackUpIdeal.main_arg3)
      ∧ r.2.mem ((c.tc : Thread Cert.BackUpIdeal.nD Cert.BackUpIdeal.τ).loc Cert.BackUpIdeal.main_arg4) = m ((c.tc : Thread Cert.BackUpIdeal.nD Cert.BackUpIdeal.τ).loc Cert.BackUpIdeal.main_arg4)
      ∧ r.2.mem ((c.tc : Thread Cert.BackUpIdeal.nD Cert.BackUpIdeal.τ).loc Cert.BackUpIdeal.main_arg5) = m ((c.tc : Thread Cert.BackUpIdeal.nD Cert.BackUpIdeal.τ).loc Cert.BackUpIdeal.main_arg5)
      ∧ r.2.mem ((c.tc : Thread Cert.BackUpIdeal.nD Cert.BackUpIdeal.τ).loc Cert.BackUpIdeal.main_arg6) = m ((c.tc : Thread Cert.BackUpIdeal.nD Cert.BackUpIdeal.τ).loc Cert.BackUpIdeal.main_arg6)
      ∧ r.2.mem ((c.tc : Thread Cert.BackUpIdeal.nD Cert.BackUpIdeal.τ).loc Cert.BackUpIdeal.main_arg7) = m ((c.tc : Thread Cert.BackUpIdeal.nD Cert.BackUpIdeal.τ).loc Cert.BackUpIdeal.main_arg7)
      ∧ r.2.mem ((c.tc : Thread Cert.BackUpIdeal.nD Cert.BackUpIdeal.τ).loc Cert.BackUpIdeal.main_arg8) = m ((c.tc : Thread Cert.BackUpIdeal.nD Cert.BackUpIdeal.τ).loc Cert.BackUpIdeal.main_arg8))
      ∧ r.2.sem = fun _ => 0)

def quiescent_BackUpRefIdeal [hBackUpRefIdeal : Cert.BackUpRefIdeal.Facts] : Prop :=
  ∀ (m : (ℓ : Loc Cert.BackUpRefIdeal.nD Cert.BackUpRefIdeal.τ Cert.BackUpRefIdeal.sig) → Buf (Elt Ideal) ℓ) (g : Dev Cert.BackUpRefIdeal.nD → PrngReg), Pre_BackUpRefIdeal m →
    θ_run (Cert.BackUpRefIdeal.defs (F := Ideal)) (onTc (τ := Cert.BackUpRefIdeal.τ) (Cert.BackUpRefIdeal.main (F := Ideal))) ⟨m, fun _ => 0, g⟩ (fun r => (∀ c : Dev Cert.BackUpRefIdeal.nD,
      r.2.mem ((c.tc : Thread Cert.BackUpRefIdeal.nD Cert.BackUpRefIdeal.τ).loc Cert.BackUpRefIdeal.main_arg0) = m ((c.tc : Thread Cert.BackUpRefIdeal.nD Cert.BackUpRefIdeal.τ).loc Cert.BackUpRefIdeal.main_arg0)
      ∧ r.2.mem ((c.tc : Thread Cert.BackUpRefIdeal.nD Cert.BackUpRefIdeal.τ).loc Cert.BackUpRefIdeal.main_arg1) = m ((c.tc : Thread Cert.BackUpRefIdeal.nD Cert.BackUpRefIdeal.τ).loc Cert.BackUpRefIdeal.main_arg1)
      ∧ r.2.mem ((c.tc : Thread Cert.BackUpRefIdeal.nD Cert.BackUpRefIdeal.τ).loc Cert.BackUpRefIdeal.main_arg2) = m ((c.tc : Thread Cert.BackUpRefIdeal.nD Cert.BackUpRefIdeal.τ).loc Cert.BackUpRefIdeal.main_arg2)
      ∧ r.2.mem ((c.tc : Thread Cert.BackUpRefIdeal.nD Cert.BackUpRefIdeal.τ).loc Cert.BackUpRefIdeal.main_arg3) = m ((c.tc : Thread Cert.BackUpRefIdeal.nD Cert.BackUpRefIdeal.τ).loc Cert.BackUpRefIdeal.main_arg3)
      ∧ r.2.mem ((c.tc : Thread Cert.BackUpRefIdeal.nD Cert.BackUpRefIdeal.τ).loc Cert.BackUpRefIdeal.main_arg4) = m ((c.tc : Thread Cert.BackUpRefIdeal.nD Cert.BackUpRefIdeal.τ).loc Cert.BackUpRefIdeal.main_arg4)
      ∧ r.2.mem ((c.tc : Thread Cert.BackUpRefIdeal.nD Cert.BackUpRefIdeal.τ).loc Cert.BackUpRefIdeal.main_arg5) = m ((c.tc : Thread Cert.BackUpRefIdeal.nD Cert.BackUpRefIdeal.τ).loc Cert.BackUpRefIdeal.main_arg5)
      ∧ r.2.mem ((c.tc : Thread Cert.BackUpRefIdeal.nD Cert.BackUpRefIdeal.τ).loc Cert.BackUpRefIdeal.main_arg6) = m ((c.tc : Thread Cert.BackUpRefIdeal.nD Cert.BackUpRefIdeal.τ).loc Cert.BackUpRefIdeal.main_arg6)
      ∧ r.2.mem ((c.tc : Thread Cert.BackUpRefIdeal.nD Cert.BackUpRefIdeal.τ).loc Cert.BackUpRefIdeal.main_arg7) = m ((c.tc : Thread Cert.BackUpRefIdeal.nD Cert.BackUpRefIdeal.τ).loc Cert.BackUpRefIdeal.main_arg7)
      ∧ r.2.mem ((c.tc : Thread Cert.BackUpRefIdeal.nD Cert.BackUpRefIdeal.τ).loc Cert.BackUpRefIdeal.main_arg8) = m ((c.tc : Thread Cert.BackUpRefIdeal.nD Cert.BackUpRefIdeal.τ).loc Cert.BackUpRefIdeal.main_arg8))
      ∧ r.2.sem = fun _ => 0)

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v1_0)) (v1 : (c : Dev Cert.QuantIdeal.nD) → Buf (Elt Ideal) ((c.tc : Thread Cert.QuantIdeal.nD Cert.QuantIdeal.τ).loc Cert.QuantIdeal.main_v1_1)) (v2 : (c : Dev Cert.QuantIdeal.nD) → Buf (Elt Ideal) ((c.tc : Thread Cert.QuantIdeal.nD Cert.QuantIdeal.τ).loc Cert.QuantIdeal.main_v1_2)) (v3 : (c : Dev Cert.QuantIdeal.nD) → Buf (Elt Ideal) ((c.tc : Thread Cert.QuantIdeal.nD Cert.QuantIdeal.τ).loc Cert.QuantIdeal.main_v1_3)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v1_0) = v0 c
          ∧ r.2.mem ((c.tc : Thread Cert.QuantIdeal.nD Cert.QuantIdeal.τ).loc Cert.QuantIdeal.main_v1_1) = v1 c
          ∧ r.2.mem ((c.tc : Thread Cert.QuantIdeal.nD Cert.QuantIdeal.τ).loc Cert.QuantIdeal.main_v1_2) = v2 c
          ∧ r.2.mem ((c.tc : Thread Cert.QuantIdeal.nD Cert.QuantIdeal.τ).loc Cert.QuantIdeal.main_v1_3) = v3 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v1_0) = v0 c
          ∧ r.2.mem ((c.tc : Thread Cert.QuantRefIdeal.nD Cert.QuantRefIdeal.τ).loc Cert.QuantRefIdeal.main_v1_1) = v1 c
          ∧ r.2.mem ((c.tc : Thread Cert.QuantRefIdeal.nD Cert.QuantRefIdeal.τ).loc Cert.QuantRefIdeal.main_v1_2) = v2 c
          ∧ r.2.mem ((c.tc : Thread Cert.QuantRefIdeal.nD Cert.QuantRefIdeal.τ).loc Cert.QuantRefIdeal.main_v1_3) = v3 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)
      ∧ m' ((c.tc : Thread Cert.GateUpRefIdeal.nD Cert.GateUpRefIdeal.τ).loc Cert.GateUpRefIdeal.main_arg7) = m ((c.tc : Thread Cert.GateUpIdeal.nD Cert.GateUpIdeal.τ).loc Cert.GateUpIdeal.main_arg7)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)) (v3 : (c : Dev Cert.GateUpIdeal.nD) → Buf (Elt Ideal) ((c.tc : Thread Cert.GateUpIdeal.nD Cert.GateUpIdeal.τ).loc Cert.GateUpIdeal.main_v0_3)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_v0_3) = v3 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6)
          ∧ r.2.mem ((c.tc : Thread Cert.GateUpIdeal.nD Cert.GateUpIdeal.τ).loc Cert.GateUpIdeal.main_arg7) = m ((c.tc : Thread Cert.GateUpIdeal.nD Cert.GateUpIdeal.τ).loc Cert.GateUpIdeal.main_arg7))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_v0_2) = v2 c
          ∧ r.2.mem ((c.tc : Thread Cert.GateUpRefIdeal.nD Cert.GateUpRefIdeal.τ).loc Cert.GateUpRefIdeal.main_v0_3) = v3 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6)
          ∧ r.2.mem ((c.tc : Thread Cert.GateUpRefIdeal.nD Cert.GateUpRefIdeal.τ).loc Cert.GateUpRefIdeal.main_arg7) = m' ((c.tc : Thread Cert.GateUpRefIdeal.nD Cert.GateUpRefIdeal.τ).loc Cert.GateUpRefIdeal.main_arg7))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v17) = v0 c
          ∧ r.2.mem ((c.tc : Thread Cert.LossRefIdeal.nD Cert.LossRefIdeal.τ).loc Cert.LossRefIdeal.main_v18) = v1 c
          ∧ r.2.mem ((c.tc : Thread Cert.LossRefIdeal.nD Cert.LossRefIdeal.τ).loc Cert.LossRefIdeal.main_v21) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_BackDown_BackDownIdeal : Prop :=
  True

def algebraic_BackDownIdeal_BackDownRefIdeal [hBackDownIdeal : Cert.BackDownIdeal.Facts] [hBackDownRefIdeal : Cert.BackDownRefIdeal.Facts] : Prop :=
  ∀ (m : (ℓ : Loc Cert.BackDownIdeal.nD Cert.BackDownIdeal.τ Cert.BackDownIdeal.sig) → Buf (Elt Ideal) ℓ) (g : Dev Cert.BackDownIdeal.nD → PrngReg)
    (m' : (ℓ : Loc Cert.BackDownRefIdeal.nD Cert.BackDownRefIdeal.τ Cert.BackDownRefIdeal.sig) → Buf (Elt Ideal) ℓ) (g' : Dev Cert.BackDownRefIdeal.nD → PrngReg), Pre_BackDownIdeal m →
    (∀ c : Dev Cert.BackDownIdeal.nD,
      m' ((c.tc : Thread Cert.BackDownRefIdeal.nD Cert.BackDownRefIdeal.τ).loc Cert.BackDownRefIdeal.main_arg0) = m ((c.tc : Thread Cert.BackDownIdeal.nD Cert.BackDownIdeal.τ).loc Cert.BackDownIdeal.main_arg0)
      ∧ m' ((c.tc : Thread Cert.BackDownRefIdeal.nD Cert.BackDownRefIdeal.τ).loc Cert.BackDownRefIdeal.main_arg1) = m ((c.tc : Thread Cert.BackDownIdeal.nD Cert.BackDownIdeal.τ).loc Cert.BackDownIdeal.main_arg1)
      ∧ m' ((c.tc : Thread Cert.BackDownRefIdeal.nD Cert.BackDownRefIdeal.τ).loc Cert.BackDownRefIdeal.main_arg2) = m ((c.tc : Thread Cert.BackDownIdeal.nD Cert.BackDownIdeal.τ).loc Cert.BackDownIdeal.main_arg2)
      ∧ m' ((c.tc : Thread Cert.BackDownRefIdeal.nD Cert.BackDownRefIdeal.τ).loc Cert.BackDownRefIdeal.main_arg3) = m ((c.tc : Thread Cert.BackDownIdeal.nD Cert.BackDownIdeal.τ).loc Cert.BackDownIdeal.main_arg3)
      ∧ m' ((c.tc : Thread Cert.BackDownRefIdeal.nD Cert.BackDownRefIdeal.τ).loc Cert.BackDownRefIdeal.main_arg4) = m ((c.tc : Thread Cert.BackDownIdeal.nD Cert.BackDownIdeal.τ).loc Cert.BackDownIdeal.main_arg4)
      ∧ m' ((c.tc : Thread Cert.BackDownRefIdeal.nD Cert.BackDownRefIdeal.τ).loc Cert.BackDownRefIdeal.main_arg5) = m ((c.tc : Thread Cert.BackDownIdeal.nD Cert.BackDownIdeal.τ).loc Cert.BackDownIdeal.main_arg5)
      ∧ m' ((c.tc : Thread Cert.BackDownRefIdeal.nD Cert.BackDownRefIdeal.τ).loc Cert.BackDownRefIdeal.main_arg6) = m ((c.tc : Thread Cert.BackDownIdeal.nD Cert.BackDownIdeal.τ).loc Cert.BackDownIdeal.main_arg6)
      ∧ m' ((c.tc : Thread Cert.BackDownRefIdeal.nD Cert.BackDownRefIdeal.τ).loc Cert.BackDownRefIdeal.main_arg7) = m ((c.tc : Thread Cert.BackDownIdeal.nD Cert.BackDownIdeal.τ).loc Cert.BackDownIdeal.main_arg7)
      ∧ m' ((c.tc : Thread Cert.BackDownRefIdeal.nD Cert.BackDownRefIdeal.τ).loc Cert.BackDownRefIdeal.main_arg8) = m ((c.tc : Thread Cert.BackDownIdeal.nD Cert.BackDownIdeal.τ).loc Cert.BackDownIdeal.main_arg8)) →
    ∃ (v0 : (c : Dev Cert.BackDownIdeal.nD) → Buf (Elt Ideal) ((c.tc : Thread Cert.BackDownIdeal.nD Cert.BackDownIdeal.τ).loc Cert.BackDownIdeal.main_v1_0)) (v1 : (c : Dev Cert.BackDownIdeal.nD) → Buf (Elt Ideal) ((c.tc : Thread Cert.BackDownIdeal.nD Cert.BackDownIdeal.τ).loc Cert.BackDownIdeal.main_v1_1)) (v2 : (c : Dev Cert.BackDownIdeal.nD) → Buf (Elt Ideal) ((c.tc : Thread Cert.BackDownIdeal.nD Cert.BackDownIdeal.τ).loc Cert.BackDownIdeal.main_v1_2)),
      θ_run (Cert.BackDownIdeal.defs (F := Ideal)) (onTc (τ := Cert.BackDownIdeal.τ) (Cert.BackDownIdeal.main (F := Ideal))) ⟨m, fun _ => 0, g⟩ (fun r => ∀ c : Dev Cert.BackDownIdeal.nD,
          r.2.mem ((c.tc : Thread Cert.BackDownIdeal.nD Cert.BackDownIdeal.τ).loc Cert.BackDownIdeal.main_v1_0) = v0 c
          ∧ r.2.mem ((c.tc : Thread Cert.BackDownIdeal.nD Cert.BackDownIdeal.τ).loc Cert.BackDownIdeal.main_v1_1) = v1 c
          ∧ r.2.mem ((c.tc : Thread Cert.BackDownIdeal.nD Cert.BackDownIdeal.τ).loc Cert.BackDownIdeal.main_v1_2) = v2 c
          ∧ r.2.mem ((c.tc : Thread Cert.BackDownIdeal.nD Cert.BackDownIdeal.τ).loc Cert.BackDownIdeal.main_arg0) = m ((c.tc : Thread Cert.BackDownIdeal.nD Cert.BackDownIdeal.τ).loc Cert.BackDownIdeal.main_arg0)
          ∧ r.2.mem ((c.tc : Thread Cert.BackDownIdeal.nD Cert.BackDownIdeal.τ).loc Cert.BackDownIdeal.main_arg1) = m ((c.tc : Thread Cert.BackDownIdeal.nD Cert.BackDownIdeal.τ).loc Cert.BackDownIdeal.main_arg1)
          ∧ r.2.mem ((c.tc : Thread Cert.BackDownIdeal.nD Cert.BackDownIdeal.τ).loc Cert.BackDownIdeal.main_arg2) = m ((c.tc : Thread Cert.BackDownIdeal.nD Cert.BackDownIdeal.τ).loc Cert.BackDownIdeal.main_arg2)
          ∧ r.2.mem ((c.tc : Thread Cert.BackDownIdeal.nD Cert.BackDownIdeal.τ).loc Cert.BackDownIdeal.main_arg3) = m ((c.tc : Thread Cert.BackDownIdeal.nD Cert.BackDownIdeal.τ).loc Cert.BackDownIdeal.main_arg3)
          ∧ r.2.mem ((c.tc : Thread Cert.BackDownIdeal.nD Cert.BackDownIdeal.τ).loc Cert.BackDownIdeal.main_arg4) = m ((c.tc : Thread Cert.BackDownIdeal.nD Cert.BackDownIdeal.τ).loc Cert.BackDownIdeal.main_arg4)
          ∧ r.2.mem ((c.tc : Thread Cert.BackDownIdeal.nD Cert.BackDownIdeal.τ).loc Cert.BackDownIdeal.main_arg5) = m ((c.tc : Thread Cert.BackDownIdeal.nD Cert.BackDownIdeal.τ).loc Cert.BackDownIdeal.main_arg5)
          ∧ r.2.mem ((c.tc : Thread Cert.BackDownIdeal.nD Cert.BackDownIdeal.τ).loc Cert.BackDownIdeal.main_arg6) = m ((c.tc : Thread Cert.BackDownIdeal.nD Cert.BackDownIdeal.τ).loc Cert.BackDownIdeal.main_arg6)
          ∧ r.2.mem ((c.tc : Thread Cert.BackDownIdeal.nD Cert.BackDownIdeal.τ).loc Cert.BackDownIdeal.main_arg7) = m ((c.tc : Thread Cert.BackDownIdeal.nD Cert.BackDownIdeal.τ).loc Cert.BackDownIdeal.main_arg7)
          ∧ r.2.mem ((c.tc : Thread Cert.BackDownIdeal.nD Cert.BackDownIdeal.τ).loc Cert.BackDownIdeal.main_arg8) = m ((c.tc : Thread Cert.BackDownIdeal.nD Cert.BackDownIdeal.τ).loc Cert.BackDownIdeal.main_arg8))
      ∧ θ_run (Cert.BackDownRefIdeal.defs (F := Ideal)) (onTc (τ := Cert.BackDownRefIdeal.τ) (Cert.BackDownRefIdeal.main (F := Ideal))) ⟨m', fun _ => 0, g'⟩ (fun r => ∀ c : Dev Cert.BackDownRefIdeal.nD,
          r.2.mem ((c.tc : Thread Cert.BackDownRefIdeal.nD Cert.BackDownRefIdeal.τ).loc Cert.BackDownRefIdeal.main_v0_0) = v0 c
          ∧ r.2.mem ((c.tc : Thread Cert.BackDownRefIdeal.nD Cert.BackDownRefIdeal.τ).loc Cert.BackDownRefIdeal.main_v0_1) = v1 c
          ∧ r.2.mem ((c.tc : Thread Cert.BackDownRefIdeal.nD Cert.BackDownRefIdeal.τ).loc Cert.BackDownRefIdeal.main_v0_2) = v2 c
          ∧ r.2.mem ((c.tc : Thread Cert.BackDownRefIdeal.nD Cert.BackDownRefIdeal.τ).loc Cert.BackDownRefIdeal.main_arg0) = m' ((c.tc : Thread Cert.BackDownRefIdeal.nD Cert.BackDownRefIdeal.τ).loc Cert.BackDownRefIdeal.main_arg0)
          ∧ r.2.mem ((c.tc : Thread Cert.BackDownRefIdeal.nD Cert.BackDownRefIdeal.τ).loc Cert.BackDownRefIdeal.main_arg1) = m' ((c.tc : Thread Cert.BackDownRefIdeal.nD Cert.BackDownRefIdeal.τ).loc Cert.BackDownRefIdeal.main_arg1)
          ∧ r.2.mem ((c.tc : Thread Cert.BackDownRefIdeal.nD Cert.BackDownRefIdeal.τ).loc Cert.BackDownRefIdeal.main_arg2) = m' ((c.tc : Thread Cert.BackDownRefIdeal.nD Cert.BackDownRefIdeal.τ).loc Cert.BackDownRefIdeal.main_arg2)
          ∧ r.2.mem ((c.tc : Thread Cert.BackDownRefIdeal.nD Cert.BackDownRefIdeal.τ).loc Cert.BackDownRefIdeal.main_arg3) = m' ((c.tc : Thread Cert.BackDownRefIdeal.nD Cert.BackDownRefIdeal.τ).loc Cert.BackDownRefIdeal.main_arg3)
          ∧ r.2.mem ((c.tc : Thread Cert.BackDownRefIdeal.nD Cert.BackDownRefIdeal.τ).loc Cert.BackDownRefIdeal.main_arg4) = m' ((c.tc : Thread Cert.BackDownRefIdeal.nD Cert.BackDownRefIdeal.τ).loc Cert.BackDownRefIdeal.main_arg4)
          ∧ r.2.mem ((c.tc : Thread Cert.BackDownRefIdeal.nD Cert.BackDownRefIdeal.τ).loc Cert.BackDownRefIdeal.main_arg5) = m' ((c.tc : Thread Cert.BackDownRefIdeal.nD Cert.BackDownRefIdeal.τ).loc Cert.BackDownRefIdeal.main_arg5)
          ∧ r.2.mem ((c.tc : Thread Cert.BackDownRefIdeal.nD Cert.BackDownRefIdeal.τ).loc Cert.BackDownRefIdeal.main_arg6) = m' ((c.tc : Thread Cert.BackDownRefIdeal.nD Cert.BackDownRefIdeal.τ).loc Cert.BackDownRefIdeal.main_arg6)
          ∧ r.2.mem ((c.tc : Thread Cert.BackDownRefIdeal.nD Cert.BackDownRefIdeal.τ).loc Cert.BackDownRefIdeal.main_arg7) = m' ((c.tc : Thread Cert.BackDownRefIdeal.nD Cert.BackDownRefIdeal.τ).loc Cert.BackDownRefIdeal.main_arg7)
          ∧ r.2.mem ((c.tc : Thread Cert.BackDownRefIdeal.nD Cert.BackDownRefIdeal.τ).loc Cert.BackDownRefIdeal.main_arg8) = m' ((c.tc : Thread Cert.BackDownRefIdeal.nD Cert.BackDownRefIdeal.τ).loc Cert.BackDownRefIdeal.main_arg8))

def preserves_BackUp_BackUpIdeal : Prop :=
  True

def algebraic_BackUpIdeal_BackUpRefIdeal [hBackUpIdeal : Cert.BackUpIdeal.Facts] [hBackUpRefIdeal : Cert.BackUpRefIdeal.Facts] : Prop :=
  ∀ (m : (ℓ : Loc Cert.BackUpIdeal.nD Cert.BackUpIdeal.τ Cert.BackUpIdeal.sig) → Buf (Elt Ideal) ℓ) (g : Dev Cert.BackUpIdeal.nD → PrngReg)
    (m' : (ℓ : Loc Cert.BackUpRefIdeal.nD Cert.BackUpRefIdeal.τ Cert.BackUpRefIdeal.sig) → Buf (Elt Ideal) ℓ) (g' : Dev Cert.BackUpRefIdeal.nD → PrngReg), Pre_BackUpIdeal m →
    (∀ c : Dev Cert.BackUpIdeal.nD,
      m' ((c.tc : Thread Cert.BackUpRefIdeal.nD Cert.BackUpRefIdeal.τ).loc Cert.BackUpRefIdeal.main_arg0) = m ((c.tc : Thread Cert.BackUpIdeal.nD Cert.BackUpIdeal.τ).loc Cert.BackUpIdeal.main_arg0)
      ∧ m' ((c.tc : Thread Cert.BackUpRefIdeal.nD Cert.BackUpRefIdeal.τ).loc Cert.BackUpRefIdeal.main_arg1) = m ((c.tc : Thread Cert.BackUpIdeal.nD Cert.BackUpIdeal.τ).loc Cert.BackUpIdeal.main_arg1)
      ∧ m' ((c.tc : Thread Cert.BackUpRefIdeal.nD Cert.BackUpRefIdeal.τ).loc Cert.BackUpRefIdeal.main_arg2) = m ((c.tc : Thread Cert.BackUpIdeal.nD Cert.BackUpIdeal.τ).loc Cert.BackUpIdeal.main_arg2)
      ∧ m' ((c.tc : Thread Cert.BackUpRefIdeal.nD Cert.BackUpRefIdeal.τ).loc Cert.BackUpRefIdeal.main_arg3) = m ((c.tc : Thread Cert.BackUpIdeal.nD Cert.BackUpIdeal.τ).loc Cert.BackUpIdeal.main_arg3)
      ∧ m' ((c.tc : Thread Cert.BackUpRefIdeal.nD Cert.BackUpRefIdeal.τ).loc Cert.BackUpRefIdeal.main_arg4) = m ((c.tc : Thread Cert.BackUpIdeal.nD Cert.BackUpIdeal.τ).loc Cert.BackUpIdeal.main_arg4)
      ∧ m' ((c.tc : Thread Cert.BackUpRefIdeal.nD Cert.BackUpRefIdeal.τ).loc Cert.BackUpRefIdeal.main_arg5) = m ((c.tc : Thread Cert.BackUpIdeal.nD Cert.BackUpIdeal.τ).loc Cert.BackUpIdeal.main_arg5)
      ∧ m' ((c.tc : Thread Cert.BackUpRefIdeal.nD Cert.BackUpRefIdeal.τ).loc Cert.BackUpRefIdeal.main_arg6) = m ((c.tc : Thread Cert.BackUpIdeal.nD Cert.BackUpIdeal.τ).loc Cert.BackUpIdeal.main_arg6)
      ∧ m' ((c.tc : Thread Cert.BackUpRefIdeal.nD Cert.BackUpRefIdeal.τ).loc Cert.BackUpRefIdeal.main_arg7) = m ((c.tc : Thread Cert.BackUpIdeal.nD Cert.BackUpIdeal.τ).loc Cert.BackUpIdeal.main_arg7)
      ∧ m' ((c.tc : Thread Cert.BackUpRefIdeal.nD Cert.BackUpRefIdeal.τ).loc Cert.BackUpRefIdeal.main_arg8) = m ((c.tc : Thread Cert.BackUpIdeal.nD Cert.BackUpIdeal.τ).loc Cert.BackUpIdeal.main_arg8)) →
    ∃ (v0 : (c : Dev Cert.BackUpIdeal.nD) → Buf (Elt Ideal) ((c.tc : Thread Cert.BackUpIdeal.nD Cert.BackUpIdeal.τ).loc Cert.BackUpIdeal.main_v0_0)) (v1 : (c : Dev Cert.BackUpIdeal.nD) → Buf (Elt Ideal) ((c.tc : Thread Cert.BackUpIdeal.nD Cert.BackUpIdeal.τ).loc Cert.BackUpIdeal.main_v0_1)),
      θ_run (Cert.BackUpIdeal.defs (F := Ideal)) (onTc (τ := Cert.BackUpIdeal.τ) (Cert.BackUpIdeal.main (F := Ideal))) ⟨m, fun _ => 0, g⟩ (fun r => ∀ c : Dev Cert.BackUpIdeal.nD,
          r.2.mem ((c.tc : Thread Cert.BackUpIdeal.nD Cert.BackUpIdeal.τ).loc Cert.BackUpIdeal.main_v0_0) = v0 c
          ∧ r.2.mem ((c.tc : Thread Cert.BackUpIdeal.nD Cert.BackUpIdeal.τ).loc Cert.BackUpIdeal.main_v0_1) = v1 c
          ∧ r.2.mem ((c.tc : Thread Cert.BackUpIdeal.nD Cert.BackUpIdeal.τ).loc Cert.BackUpIdeal.main_arg0) = m ((c.tc : Thread Cert.BackUpIdeal.nD Cert.BackUpIdeal.τ).loc Cert.BackUpIdeal.main_arg0)
          ∧ r.2.mem ((c.tc : Thread Cert.BackUpIdeal.nD Cert.BackUpIdeal.τ).loc Cert.BackUpIdeal.main_arg1) = m ((c.tc : Thread Cert.BackUpIdeal.nD Cert.BackUpIdeal.τ).loc Cert.BackUpIdeal.main_arg1)
          ∧ r.2.mem ((c.tc : Thread Cert.BackUpIdeal.nD Cert.BackUpIdeal.τ).loc Cert.BackUpIdeal.main_arg2) = m ((c.tc : Thread Cert.BackUpIdeal.nD Cert.BackUpIdeal.τ).loc Cert.BackUpIdeal.main_arg2)
          ∧ r.2.mem ((c.tc : Thread Cert.BackUpIdeal.nD Cert.BackUpIdeal.τ).loc Cert.BackUpIdeal.main_arg3) = m ((c.tc : Thread Cert.BackUpIdeal.nD Cert.BackUpIdeal.τ).loc Cert.BackUpIdeal.main_arg3)
          ∧ r.2.mem ((c.tc : Thread Cert.BackUpIdeal.nD Cert.BackUpIdeal.τ).loc Cert.BackUpIdeal.main_arg4) = m ((c.tc : Thread Cert.BackUpIdeal.nD Cert.BackUpIdeal.τ).loc Cert.BackUpIdeal.main_arg4)
          ∧ r.2.mem ((c.tc : Thread Cert.BackUpIdeal.nD Cert.BackUpIdeal.τ).loc Cert.BackUpIdeal.main_arg5) = m ((c.tc : Thread Cert.BackUpIdeal.nD Cert.BackUpIdeal.τ).loc Cert.BackUpIdeal.main_arg5)
          ∧ r.2.mem ((c.tc : Thread Cert.BackUpIdeal.nD Cert.BackUpIdeal.τ).loc Cert.BackUpIdeal.main_arg6) = m ((c.tc : Thread Cert.BackUpIdeal.nD Cert.BackUpIdeal.τ).loc Cert.BackUpIdeal.main_arg6)
          ∧ r.2.mem ((c.tc : Thread Cert.BackUpIdeal.nD Cert.BackUpIdeal.τ).loc Cert.BackUpIdeal.main_arg7) = m ((c.tc : Thread Cert.BackUpIdeal.nD Cert.BackUpIdeal.τ).loc Cert.BackUpIdeal.main_arg7)
          ∧ r.2.mem ((c.tc : Thread Cert.BackUpIdeal.nD Cert.BackUpIdeal.τ).loc Cert.BackUpIdeal.main_arg8) = m ((c.tc : Thread Cert.BackUpIdeal.nD Cert.BackUpIdeal.τ).loc Cert.BackUpIdeal.main_arg8))
      ∧ θ_run (Cert.BackUpRefIdeal.defs (F := Ideal)) (onTc (τ := Cert.BackUpRefIdeal.τ) (Cert.BackUpRefIdeal.main (F := Ideal))) ⟨m', fun _ => 0, g'⟩ (fun r => ∀ c : Dev Cert.BackUpRefIdeal.nD,
          r.2.mem ((c.tc : Thread Cert.BackUpRefIdeal.nD Cert.BackUpRefIdeal.τ).loc Cert.BackUpRefIdeal.main_v0_0) = v0 c
          ∧ r.2.mem ((c.tc : Thread Cert.BackUpRefIdeal.nD Cert.BackUpRefIdeal.τ).loc Cert.BackUpRefIdeal.main_v0_1) = v1 c
          ∧ r.2.mem ((c.tc : Thread Cert.BackUpRefIdeal.nD Cert.BackUpRefIdeal.τ).loc Cert.BackUpRefIdeal.main_arg0) = m' ((c.tc : Thread Cert.BackUpRefIdeal.nD Cert.BackUpRefIdeal.τ).loc Cert.BackUpRefIdeal.main_arg0)
          ∧ r.2.mem ((c.tc : Thread Cert.BackUpRefIdeal.nD Cert.BackUpRefIdeal.τ).loc Cert.BackUpRefIdeal.main_arg1) = m' ((c.tc : Thread Cert.BackUpRefIdeal.nD Cert.BackUpRefIdeal.τ).loc Cert.BackUpRefIdeal.main_arg1)
          ∧ r.2.mem ((c.tc : Thread Cert.BackUpRefIdeal.nD Cert.BackUpRefIdeal.τ).loc Cert.BackUpRefIdeal.main_arg2) = m' ((c.tc : Thread Cert.BackUpRefIdeal.nD Cert.BackUpRefIdeal.τ).loc Cert.BackUpRefIdeal.main_arg2)
          ∧ r.2.mem ((c.tc : Thread Cert.BackUpRefIdeal.nD Cert.BackUpRefIdeal.τ).loc Cert.BackUpRefIdeal.main_arg3) = m' ((c.tc : Thread Cert.BackUpRefIdeal.nD Cert.BackUpRefIdeal.τ).loc Cert.BackUpRefIdeal.main_arg3)
          ∧ r.2.mem ((c.tc : Thread Cert.BackUpRefIdeal.nD Cert.BackUpRefIdeal.τ).loc Cert.BackUpRefIdeal.main_arg4) = m' ((c.tc : Thread Cert.BackUpRefIdeal.nD Cert.BackUpRefIdeal.τ).loc Cert.BackUpRefIdeal.main_arg4)
          ∧ r.2.mem ((c.tc : Thread Cert.BackUpRefIdeal.nD Cert.BackUpRefIdeal.τ).loc Cert.BackUpRefIdeal.main_arg5) = m' ((c.tc : Thread Cert.BackUpRefIdeal.nD Cert.BackUpRefIdeal.τ).loc Cert.BackUpRefIdeal.main_arg5)
          ∧ r.2.mem ((c.tc : Thread Cert.BackUpRefIdeal.nD Cert.BackUpRefIdeal.τ).loc Cert.BackUpRefIdeal.main_arg6) = m' ((c.tc : Thread Cert.BackUpRefIdeal.nD Cert.BackUpRefIdeal.τ).loc Cert.BackUpRefIdeal.main_arg6)
          ∧ r.2.mem ((c.tc : Thread Cert.BackUpRefIdeal.nD Cert.BackUpRefIdeal.τ).loc Cert.BackUpRefIdeal.main_arg7) = m' ((c.tc : Thread Cert.BackUpRefIdeal.nD Cert.BackUpRefIdeal.τ).loc Cert.BackUpRefIdeal.main_arg7)
          ∧ r.2.mem ((c.tc : Thread Cert.BackUpRefIdeal.nD Cert.BackUpRefIdeal.τ).loc Cert.BackUpRefIdeal.main_arg8) = m' ((c.tc : Thread Cert.BackUpRefIdeal.nD Cert.BackUpRefIdeal.τ).loc Cert.BackUpRefIdeal.main_arg8))

def Claim : Prop :=
  ∃ (hQuant : Cert.Quant.Facts) (hQuantIdeal : Cert.QuantIdeal.Facts) (hQuantRefIdeal : Cert.QuantRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hLoss : Cert.Loss.Facts) (hLossIdeal : Cert.LossIdeal.Facts) (hLossRefIdeal : Cert.LossRefIdeal.Facts) (hBackDown : Cert.BackDown.Facts) (hBackDownIdeal : Cert.BackDownIdeal.Facts) (hBackDownRefIdeal : Cert.BackDownRefIdeal.Facts) (hBackUp : Cert.BackUp.Facts) (hBackUpIdeal : Cert.BackUpIdeal.Facts) (hBackUpRefIdeal : Cert.BackUpRefIdeal.Facts),
    quiescent_Quant (hQuant := hQuant)
    ∧ quiescent_QuantIdeal (hQuantIdeal := hQuantIdeal)
    ∧ quiescent_QuantRefIdeal (hQuantRefIdeal := hQuantRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Loss (hLoss := hLoss)
    ∧ quiescent_LossIdeal (hLossIdeal := hLossIdeal)
    ∧ quiescent_LossRefIdeal (hLossRefIdeal := hLossRefIdeal)
    ∧ quiescent_BackDown (hBackDown := hBackDown)
    ∧ quiescent_BackDownIdeal (hBackDownIdeal := hBackDownIdeal)
    ∧ quiescent_BackDownRefIdeal (hBackDownRefIdeal := hBackDownRefIdeal)
    ∧ quiescent_BackUp (hBackUp := hBackUp)
    ∧ quiescent_BackUpIdeal (hBackUpIdeal := hBackUpIdeal)
    ∧ quiescent_BackUpRefIdeal (hBackUpRefIdeal := hBackUpRefIdeal)
    ∧ preserves_Quant_QuantIdeal
    ∧ algebraic_QuantIdeal_QuantRefIdeal (hQuantIdeal := hQuantIdeal) (hQuantRefIdeal := hQuantRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Loss_LossIdeal
    ∧ algebraic_LossIdeal_LossRefIdeal (hLossIdeal := hLossIdeal) (hLossRefIdeal := hLossRefIdeal)
    ∧ preserves_BackDown_BackDownIdeal
    ∧ algebraic_BackDownIdeal_BackDownRefIdeal (hBackDownIdeal := hBackDownIdeal) (hBackDownRefIdeal := hBackDownRefIdeal)
    ∧ preserves_BackUp_BackUpIdeal
    ∧ algebraic_BackUpIdeal_BackUpRefIdeal (hBackUpIdeal := hBackUpIdeal) (hBackUpRefIdeal := hBackUpRefIdeal)
-- ==== Quant.lean ====
abbrev S3x640x2048 : Shape := ⟨3, ![3, 640, 2048]⟩
abbrev S1920x2048 : Shape := ⟨2, ![1920, 2048]⟩
abbrev S2048x1920 : Shape := ⟨2, ![2048, 1920]⟩
abbrev S1920x1 : Shape := ⟨2, ![1920, 1]⟩
abbrev S384x2048 : Shape := ⟨2, ![384, 2048]⟩
abbrev S2048x384 : Shape := ⟨2, ![2048, 384]⟩
abbrev S384x1 : Shape := ⟨2, ![384, 1]⟩
abbrev S384 : Shape := ⟨1, ![384]⟩

abbrev nBuf : Space → Nat
  | .hbm => 6
  | .vmem => 10
  | .smem => 0
  | _ => 0

abbrev bufTy : (tb : Table) → Fin (tcTables nBuf tb) → BufTy
  | .hbm, ⟨0, _⟩ => ⟨S3x640x2048, .bf16⟩
  | .hbm, ⟨1, _⟩ => ⟨S1920x2048, .bf16⟩
  | .hbm, ⟨2, _⟩ => ⟨S1920x2048, .i8⟩
  | .hbm, ⟨3, _⟩ => ⟨S1920x2048, .bf16⟩
  | .hbm, ⟨4, _⟩ => ⟨S2048x1920, .bf16⟩
  | .hbm, ⟨5, _⟩ => ⟨S1920x1, .f32⟩
  | .local _ .vmem, ⟨0, _⟩ => ⟨S384x2048, .bf16⟩
  | .local _ .vmem, ⟨1, _⟩ => ⟨S384x2048, .bf16⟩
  | .local _ .vmem, ⟨2, _⟩ => ⟨S384x2048, .i8⟩
  | .local _ .vmem, ⟨3, _⟩ => ⟨S384x2048, .i8⟩
  | .local _ .vmem, ⟨4, _⟩ => ⟨S384x2048, .bf16⟩
  | .local _ .vmem, ⟨5, _⟩ => ⟨S384x2048, .bf16⟩
  | .local _ .vmem, ⟨6, _⟩ => ⟨S2048x384, .bf16⟩
  | .local _ .vmem, ⟨7, _⟩ => ⟨S2048x384, .bf16⟩
  | .local _ .vmem, ⟨8, _⟩ => ⟨S384x1, .f32⟩
  | .local _ .vmem, ⟨9, _⟩ => ⟨S384x1, .f32⟩
  | _, _ => ⟨S3x640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantRefIdeal.lean ====
abbrev S3x640x2048 : Shape := ⟨3, ![3, 640, 2048]⟩
abbrev S1920x2048 : Shape := ⟨2, ![1920, 2048]⟩
abbrev S2048x1920 : Shape := ⟨2, ![2048, 1920]⟩
abbrev S1920x1 : Shape := ⟨2, ![1920, 1]⟩
abbrev S1920 : Shape := ⟨1, ![1920]⟩

abbrev nBuf : Space → Nat
  | .hbm => 6
  | .vmem => 5
  | .smem => 0
  | _ => 0

abbrev bufTy : (tb : Table) → Fin (tcTables nBuf tb) → BufTy
  | .hbm, ⟨0, _⟩ => ⟨S3x640x2048, .bf16⟩
  | .hbm, ⟨1, _⟩ => ⟨S1920x2048, .bf16⟩
  | .hbm, ⟨2, _⟩ => ⟨S1920x2048, .i8⟩
  | .hbm, ⟨3, _⟩ => ⟨S1920x2048, .bf16⟩
  | .hbm, ⟨4, _⟩ => ⟨S2048x1920, .bf16⟩
  | .hbm, ⟨5, _⟩ => ⟨S1920x1, .f32⟩
  | .local _ .vmem, ⟨0, _⟩ => ⟨S1920x2048, .bf16⟩
  | .local _ .vmem, ⟨1, _⟩ => ⟨S1920x2048, .i8⟩
  | .local _ .vmem, ⟨2, _⟩ => ⟨S1920x2048, .bf16⟩
  | .local _ .vmem, ⟨3, _⟩ => ⟨S2048x1920, .bf16⟩
  | .local _ .vmem, ⟨4, _⟩ => ⟨S1920x1, .f32⟩
  | _, _ => ⟨S3x640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1920x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GateUp.lean ====
abbrev S1920x2048 : Shape := ⟨2, ![1920, 2048]⟩
abbrev S1920x1 : Shape := ⟨2, ![1920, 1]⟩
abbrev S2048x16384 : Shape := ⟨2, ![2048, 16384]⟩
abbrev S32x16384 : Shape := ⟨2, ![32, 16384]⟩
abbrev S1920x16384 : Shape := ⟨2, ![1920, 16384]⟩
abbrev S2048x256 : Shape := ⟨2, ![2048, 256]⟩
abbrev S32x256 : Shape := ⟨2, ![32, 256]⟩
abbrev S1920x256 : Shape := ⟨2, ![1920, 256]⟩
abbrev S1920x128 : Shape := ⟨2, ![1920, 128]⟩
abbrev S64x256 : Shape := ⟨2, ![64, 256]⟩
abbrev S1x256 : Shape := ⟨2, ![1, 256]⟩
abbrev S384x2048 : Shape := ⟨2, ![384, 2048]⟩
abbrev S384x1 : Shape := ⟨2, ![384, 1]⟩
abbrev S384x256 : Shape := ⟨2, ![384, 256]⟩
abbrev S384x128 : Shape := ⟨2, ![384, 128]⟩
abbrev S1920 : Shape := ⟨1, ![1920]⟩

abbrev nBuf : Space → Nat
  | .hbm => 12
  | .vmem => 24
  | .smem => 0
  | _ => 0

abbrev bufTy : (tb : Table) → Fin (tcTables nBuf tb) → BufTy
  | .hbm, ⟨0, _⟩ => ⟨S1920x2048, .bf16⟩
  | .hbm, ⟨1, _⟩ => ⟨S1920x1, .f32⟩
  | .hbm, ⟨2, _⟩ => ⟨S2048x16384, .i8⟩
  | .hbm, ⟨3, _⟩ => ⟨S32x16384, .f32⟩
  | .hbm, ⟨4, _⟩ => ⟨S2048x16384, .f32⟩
  | .hbm, ⟨5, _⟩ => ⟨S2048x16384, .i8⟩
  | .hbm, ⟨6, _⟩ => ⟨S32x16384, .f32⟩
  | .hbm, ⟨7, _⟩ => ⟨S2048x16384, .f32⟩
  | .hbm, ⟨8, _⟩ => ⟨S1920x16384, .f32⟩
  | .hbm, ⟨9, _⟩ => ⟨S1920x16384, .f32⟩
  | .hbm, ⟨10, _⟩ => ⟨S1920x16384, .f32⟩
  | .hbm, ⟨11, _⟩ => ⟨S1920x1, .f32⟩
  | .local _ .vmem, ⟨0, _⟩ => ⟨S1920x2048, .bf16⟩
  | .local _ .vmem, ⟨1, _⟩ => ⟨S1920x1, .f32⟩
  | .local _ .vmem, ⟨2, _⟩ => ⟨S2048x256, .i8⟩
  | .local _ .vmem, ⟨3, _⟩ => ⟨S2048x256, .i8⟩
  | .local _ .vmem, ⟨4, _⟩ => ⟨S32x256, .f32⟩
  | .local _ .vmem, ⟨5, _⟩ => ⟨S32x256, .f32⟩
  | .local _ .vmem, ⟨6, _⟩ => ⟨S2048x256, .f32⟩
  | .local _ .vmem, ⟨7, _⟩ => ⟨S2048x256, .f32⟩
  | .local _ .vmem, ⟨8, _⟩ => ⟨S2048x256, .i8⟩
  | .local _ .vmem, ⟨9, _⟩ => ⟨S2048x256, .i8⟩
  | .local _ .vmem, ⟨10, _⟩ => ⟨S32x256, .f32⟩
  | .local _ .vmem, ⟨11, _⟩ => ⟨S32x256, .f32⟩
  | .local _ .vmem, ⟨12, _⟩ => ⟨S2048x256, .f32⟩
  | .local _ .vmem, ⟨13, _⟩ => ⟨S2048x256, .f32⟩
  | .local _ .vmem, ⟨14, _⟩ => ⟨S1920x256, .f32⟩
  | .local _ .vmem, ⟨15, _⟩ => ⟨S1920x256, .f32⟩
  | .local _ .vmem, ⟨16, _⟩ => ⟨S1920x256, .f32⟩
  | .local _ .vmem, ⟨17, _⟩ => ⟨S1920x256, .f32⟩
  | .local _ .vmem, ⟨18, _⟩ => ⟨S1920x256, .f32⟩
  | .local _ .vmem, ⟨19, _⟩ => ⟨S1920x256, .f32⟩
  | .local _ .vmem, ⟨20, _⟩ => ⟨S1920x1, .f32⟩
  | .local _ .vmem, ⟨21, _⟩ => ⟨S2048x256, .bf16⟩
  | .local _ .vmem, ⟨22, _⟩ => ⟨S2048x256, .bf16⟩
  | .local _ .vmem, ⟨23, _⟩ => ⟨S1920x128, .f32⟩
  | _, _ => ⟨S1920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v1763 : BitVec 1 := Scalar.cmpi .eq arg0 c63_i32
  let v1764 : BitVec 32 := Scalar.extui v1763
  let c0_i32_943 : BitVec 32 := 0#32
  let v1765 : BitVec 1 := Scalar.cmpi .ne v1764 c0_i32_943
  v1765

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1920x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1920x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1920x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1920x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1920x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GateUpRefIdeal.lean ====
abbrev S1920x2048 : Shape := ⟨2, ![1920, 2048]⟩
abbrev S1920x1 : Shape := ⟨2, ![1920, 1]⟩
abbrev S2048x16384 : Shape := ⟨2, ![2048, 16384]⟩
abbrev S32x16384 : Shape := ⟨2, ![32, 16384]⟩
abbrev S1920x16384 : Shape := ⟨2, ![1920, 16384]⟩
abbrev S32x64x16384 : Shape := ⟨3, ![32, 64, 16384]⟩
abbrev S32x1x16384 : Shape := ⟨3, ![32, 1, 16384]⟩
abbrev S1920 : Shape := ⟨1, ![1920]⟩

abbrev nBuf : Space → Nat
  | .hbm => 12
  | .vmem => 12
  | .smem => 0
  | _ => 0

abbrev bufTy : (tb : Table) → Fin (tcTables nBuf tb) → BufTy
  | .hbm, ⟨0, _⟩ => ⟨S1920x2048, .bf16⟩
  | .hbm, ⟨1, _⟩ => ⟨S1920x1, .f32⟩
  | .hbm, ⟨2, _⟩ => ⟨S2048x16384, .i8⟩
  | .hbm, ⟨3, _⟩ => ⟨S32x16384, .f32⟩
  | .hbm, ⟨4, _⟩ => ⟨S2048x16384, .f32⟩
  | .hbm, ⟨5, _⟩ => ⟨S2048x16384, .i8⟩
  | .hbm, ⟨6, _⟩ => ⟨S32x16384, .f32⟩
  | .hbm, ⟨7, _⟩ => ⟨S2048x16384, .f32⟩
  | .hbm, ⟨8, _⟩ => ⟨S1920x16384, .f32⟩
  | .hbm, ⟨9, _⟩ => ⟨S1920x16384, .f32⟩
  | .hbm, ⟨10, _⟩ => ⟨S1920x16384, .f32⟩
  | .hbm, ⟨11, _⟩ => ⟨S1920x1, .f32⟩
  | .local _ .vmem, ⟨0, _⟩ => ⟨S1920x2048, .bf16⟩
  | .local _ .vmem, ⟨1, _⟩ => ⟨S1920x1, .f32⟩
  | .local _ .vmem, ⟨2, _⟩ => ⟨S2048x16384, .i8⟩
  | .local _ .vmem, ⟨3, _⟩ => ⟨S32x16384, .f32⟩
  | .local _ .vmem, ⟨4, _⟩ => ⟨S2048x16384, .f32⟩
  | .local _ .vmem, ⟨5, _⟩ => ⟨S2048x16384, .i8⟩
  | .local _ .vmem, ⟨6, _⟩ => ⟨S32x16384, .f32⟩
  | .local _ .vmem, ⟨7, _⟩ => ⟨S2048x16384, .f32⟩
  | .local _ .vmem, ⟨8, _⟩ => ⟨S1920x16384, .f32⟩
  | .local _ .vmem, ⟨9, _⟩ => ⟨S1920x16384, .f32⟩
  | .local _ .vmem, ⟨10, _⟩ => ⟨S1920x16384, .f32⟩
  | .local _ .vmem, ⟨11, _⟩ => ⟨S1920x1, .f32⟩
  | _, _ => ⟨S1920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1920x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x16384 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x16384 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x16384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1920x16384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1920x16384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1920x16384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1920x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Down.lean ====
abbrev S1920x16384 : Shape := ⟨2, ![1920, 16384]⟩
abbrev S1920x1 : Shape := ⟨2, ![1920, 1]⟩
abbrev S16384x2048 : Shape := ⟨2, ![16384, 2048]⟩
abbrev S256x2048 : Shape := ⟨2, ![256, 2048]⟩
abbrev S64x4x2048 : Shape := ⟨3, ![64, 4, 2048]⟩
abbrev S1920x2048 : Shape := ⟨2, ![1920, 2048]⟩
abbrev S1920x256 : Shape := ⟨2, ![1920, 256]⟩
abbrev S1x4x2048 : Shape := ⟨3, ![1, 4, 2048]⟩
abbrev S64x2048 : Shape := ⟨2, ![64, 2048]⟩
abbrev S1x1x2048 : Shape := ⟨3, ![1, 1, 2048]⟩
abbrev S1x2048 : Shape := ⟨2, ![1, 2048]⟩
abbrev S128x256 : Shape := ⟨2, ![128, 256]⟩
abbrev S128x1 : Shape := ⟨2, ![128, 1]⟩
abbrev S1920x512 : Shape := ⟨2, ![1920, 512]⟩
abbrev S256x512 : Shape := ⟨2, ![256, 512]⟩

abbrev nBuf : Space → Nat
  | .hbm => 8
  | .vmem => 14
  | .smem => 0
  | _ => 0

abbrev bufTy : (tb : Table) → Fin (tcTables nBuf tb) → BufTy
  | .hbm, ⟨0, _⟩ => ⟨S1920x16384, .f32⟩
  | .hbm, ⟨1, _⟩ => ⟨S1920x1, .f32⟩
  | .hbm, ⟨2, _⟩ => ⟨S16384x2048, .i8⟩
  | .hbm, ⟨3, _⟩ => ⟨S256x2048, .f32⟩
  | .hbm, ⟨4, _⟩ => ⟨S16384x2048, .f32⟩
  | .hbm, ⟨5, _⟩ => ⟨S64x4x2048, .f32⟩
  | .hbm, ⟨6, _⟩ => ⟨S1920x16384, .i8⟩
  | .hbm, ⟨7, _⟩ => ⟨S1920x2048, .f32⟩
  | .local _ .vmem, ⟨0, _⟩ => ⟨S1920x256, .f32⟩
  | .local _ .vmem, ⟨1, _⟩ => ⟨S1920x256, .f32⟩
  | .local _ .vmem, ⟨2, _⟩ => ⟨S1920x1, .f32⟩
  | .local _ .vmem, ⟨3, _⟩ => ⟨S256x2048, .i8⟩
  | .local _ .vmem, ⟨4, _⟩ => ⟨S256x2048, .i8⟩
  | .local _ .vmem, ⟨5, _⟩ => ⟨S1x4x2048, .f32⟩
  | .local _ .vmem, ⟨6, _⟩ => ⟨S1x4x2048, .f32⟩
  | .local _ .vmem, ⟨7, _⟩ => ⟨S256x2048, .f32⟩
  | .local _ .vmem, ⟨8, _⟩ => ⟨S256x2048, .f32⟩
  | .local _ .vmem, ⟨9, _⟩ => ⟨S1920x256, .i8⟩
  | .local _ .vmem, ⟨10, _⟩ => ⟨S1920x256, .i8⟩
  | .local _ .vmem, ⟨11, _⟩ => ⟨S1920x2048, .f32⟩
  | .local _ .vmem, ⟨12, _⟩ => ⟨S1920x256, .bf16⟩
  | .local _ .vmem, ⟨13, _⟩ => ⟨S256x2048, .bf16⟩
  | _, _ => ⟨S1920x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1920x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1920x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1920x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DownRefIdeal.lean ====
abbrev S1920x16384 : Shape := ⟨2, ![1920, 16384]⟩
abbrev S1920x1 : Shape := ⟨2, ![1920, 1]⟩
abbrev S16384x2048 : Shape := ⟨2, ![16384, 2048]⟩
abbrev S256x2048 : Shape := ⟨2, ![256, 2048]⟩
abbrev S1920x2048 : Shape := ⟨2, ![1920, 2048]⟩
abbrev S256x64x2048 : Shape := ⟨3, ![256, 64, 2048]⟩
abbrev S256x1x2048 : Shape := ⟨3, ![256, 1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1920x16384, .f32⟩
  | .hbm, ⟨1, _⟩ => ⟨S1920x1, .f32⟩
  | .hbm, ⟨2, _⟩ => ⟨S16384x2048, .i8⟩
  | .hbm, ⟨3, _⟩ => ⟨S256x2048, .f32⟩
  | .hbm, ⟨4, _⟩ => ⟨S16384x2048, .f32⟩
  | .hbm, ⟨5, _⟩ => ⟨S1920x16384, .i8⟩
  | .hbm, ⟨6, _⟩ => ⟨S1920x2048, .f32⟩
  | .local _ .vmem, ⟨0, _⟩ => ⟨S1920x16384, .f32⟩
  | .local _ .vmem, ⟨1, _⟩ => ⟨S1920x1, .f32⟩
  | .local _ .vmem, ⟨2, _⟩ => ⟨S16384x2048, .i8⟩
  | .local _ .vmem, ⟨3, _⟩ => ⟨S256x2048, .f32⟩
  | .local _ .vmem, ⟨4, _⟩ => ⟨S16384x2048, .f32⟩
  | .local _ .vmem, ⟨5, _⟩ => ⟨S1920x16384, .i8⟩
  | .local _ .vmem, ⟨6, _⟩ => ⟨S1920x2048, .f32⟩
  | _, _ => ⟨S1920x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1920x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x16384 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Loss.lean ====
abbrev S1920x2048 : Shape := ⟨2, ![1920, 2048]⟩
abbrev S1920x1 : Shape := ⟨2, ![1920, 1]⟩
abbrev S3x640x2048 : Shape := ⟨3, ![3, 640, 2048]⟩
abbrev S384x2048 : Shape := ⟨2, ![384, 2048]⟩
abbrev S384x1 : Shape := ⟨2, ![384, 1]⟩
abbrev S384 : Shape := ⟨1, ![384]⟩

abbrev nBuf : Space → Nat
  | .hbm => 9
  | .vmem => 14
  | .smem => 0
  | _ => 0

abbrev bufTy : (tb : Table) → Fin (tcTables nBuf tb) → BufTy
  | .hbm, ⟨0, _⟩ => ⟨S1920x2048, .f32⟩
  | .hbm, ⟨1, _⟩ => ⟨S1920x1, .f32⟩
  | .hbm, ⟨2, _⟩ => ⟨S3x640x2048, .bf16⟩
  | .hbm, ⟨3, _⟩ => ⟨S3x640x2048, .bf16⟩
  | .hbm, ⟨4, _⟩ => ⟨S1920x2048, .bf16⟩
  | .hbm, ⟨5, _⟩ => ⟨S1920x2048, .bf16⟩
  | .hbm, ⟨6, _⟩ => ⟨S1920x1, .f32⟩
  | .hbm, ⟨7, _⟩ => ⟨S1920x2048, .bf16⟩
  | .hbm, ⟨8, _⟩ => ⟨S1920x2048, .bf16⟩
  | .local _ .vmem, ⟨0, _⟩ => ⟨S384x2048, .f32⟩
  | .local _ .vmem, ⟨1, _⟩ => ⟨S384x2048, .f32⟩
  | .local _ .vmem, ⟨2, _⟩ => ⟨S384x1, .f32⟩
  | .local _ .vmem, ⟨3, _⟩ => ⟨S384x1, .f32⟩
  | .local _ .vmem, ⟨4, _⟩ => ⟨S384x2048, .bf16⟩
  | .local _ .vmem, ⟨5, _⟩ => ⟨S384x2048, .bf16⟩
  | .local _ .vmem, ⟨6, _⟩ => ⟨S384x2048, .bf16⟩
  | .local _ .vmem, ⟨7, _⟩ => ⟨S384x2048, .bf16⟩
  | .local _ .vmem, ⟨8, _⟩ => ⟨S384x1, .f32⟩
  | .local _ .vmem, ⟨9, _⟩ => ⟨S384x1, .f32⟩
  | .local _ .vmem, ⟨10, _⟩ => ⟨S384x2048, .bf16⟩
  | .local _ .vmem, ⟨11, _⟩ => ⟨S384x2048, .bf16⟩
  | .local _ .vmem, ⟨12, _⟩ => ⟨S384x2048, .bf16⟩
  | .local _ .vmem, ⟨13, _⟩ => ⟨S384x2048, .bf16⟩
  | _, _ => ⟨S1920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossRefIdeal.lean ====
abbrev S1920x2048 : Shape := ⟨2, ![1920, 2048]⟩
abbrev S1920x1 : Shape := ⟨2, ![1920, 1]⟩
abbrev S3x640x2048 : Shape := ⟨3, ![3, 640, 2048]⟩
abbrev S_ : Shape := ⟨0, ![]⟩
abbrev S1920 : Shape := ⟨1, ![1920]⟩

abbrev nBuf : Space → Nat
  | .hbm => 30
  | .vmem => 0
  | .smem => 0
  | _ => 0

abbrev bufTy : (tb : Table) → Fin (tcTables nBuf tb) → BufTy
  | .hbm, ⟨0, _⟩ => ⟨S1920x2048, .f32⟩
  | .hbm, ⟨1, _⟩ => ⟨S1920x1, .f32⟩
  | .hbm, ⟨2, _⟩ => ⟨S3x640x2048, .bf16⟩
  | .hbm, ⟨3, _⟩ => ⟨S3x640x2048, .bf16⟩
  | .hbm, ⟨4, _⟩ => ⟨S1920x2048, .f32⟩
  | .hbm, ⟨5, _⟩ => ⟨S1920x2048, .f32⟩
  | .hbm, ⟨6, _⟩ => ⟨S1920x2048, .bf16⟩
  | .hbm, ⟨7, _⟩ => ⟨S1920x2048, .f32⟩
  | .hbm, ⟨8, _⟩ => ⟨S1920x2048, .f32⟩
  | .hbm, ⟨9, _⟩ => ⟨S1920x2048, .bf16⟩
  | .hbm, ⟨10, _⟩ => ⟨S1920x2048, .f32⟩
  | .hbm, ⟨11, _⟩ => ⟨S1920x2048, .f32⟩
  | .hbm, ⟨12, _⟩ => ⟨S1920x2048, .f32⟩
  | .hbm, ⟨13, _⟩ => ⟨S1920x2048, .f32⟩
  | .hbm, ⟨14, _⟩ => ⟨S_, .f32⟩
  | .hbm, ⟨15, _⟩ => ⟨S1920, .f32⟩
  | .hbm, ⟨16, _⟩ => ⟨S_, .f32⟩
  | .hbm, ⟨17, _⟩ => ⟨S1920, .f32⟩
  | .hbm, ⟨18, _⟩ => ⟨S1920, .f32⟩
  | .hbm, ⟨19, _⟩ => ⟨S_, .f32⟩
  | .hbm, ⟨20, _⟩ => ⟨S1920x2048, .f32⟩
  | .hbm, ⟨21, _⟩ => ⟨S1920x2048, .f32⟩
  | .hbm, ⟨22, _⟩ => ⟨S_, .f32⟩
  | .hbm, ⟨23, _⟩ => ⟨S1920x2048, .f32⟩
  | .hbm, ⟨24, _⟩ => ⟨S1920x2048, .f32⟩
  | .hbm, ⟨25, _⟩ => ⟨S1920x1, .f32⟩
  | .hbm, ⟨26, _⟩ => ⟨S1920x2048, .bf16⟩
  | .hbm, ⟨27, _⟩ => ⟨S1920x2048, .f32⟩
  | .hbm, ⟨28, _⟩ => ⟨S1920x2048, .f32⟩
  | .hbm, ⟨29, _⟩ => ⟨S1920x2048, .bf16⟩
  | _, _ => ⟨S1920x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== BackDown.lean ====
abbrev S1920x2048 : Shape := ⟨2, ![1920, 2048]⟩
abbrev S1920x1 : Shape := ⟨2, ![1920, 1]⟩
abbrev S1920x16384 : Shape := ⟨2, ![1920, 16384]⟩
abbrev S16384x2048 : Shape := ⟨2, ![16384, 2048]⟩
abbrev S256x2048 : Shape := ⟨2, ![256, 2048]⟩
abbrev S64x4x2048 : Shape := ⟨3, ![64, 4, 2048]⟩
abbrev S1920x256 : Shape := ⟨2, ![1920, 256]⟩
abbrev S1x4x2048 : Shape := ⟨3, ![1, 4, 2048]⟩
abbrev S64x2048 : Shape := ⟨2, ![64, 2048]⟩
abbrev S1x1x2048 : Shape := ⟨3, ![1, 1, 2048]⟩
abbrev S1x2048 : Shape := ⟨2, ![1, 2048]⟩
abbrev S384x2048 : Shape := ⟨2, ![384, 2048]⟩
abbrev S384x256 : Shape := ⟨2, ![384, 256]⟩
abbrev S384x1 : Shape := ⟨2, ![384, 1]⟩
abbrev S256x1920 : Shape := ⟨2, ![256, 1920]⟩
abbrev S1920x512 : Shape := ⟨2, ![1920, 512]⟩
abbrev S256x512 : Shape := ⟨2, ![256, 512]⟩
abbrev S64x512 : Shape := ⟨2, ![64, 512]⟩
abbrev S1x4x512 : Shape := ⟨3, ![1, 4, 512]⟩
abbrev S4x512 : Shape := ⟨2, ![4, 512]⟩
abbrev S1x512 : Shape := ⟨2, ![1, 512]⟩

abbrev nBuf : Space → Nat
  | .hbm => 13
  | .vmem => 22
  | .smem => 0
  | _ => 0

abbrev bufTy : (tb : Table) → Fin (tcTables nBuf tb) → BufTy
  | .hbm, ⟨0, _⟩ => ⟨S1920x2048, .bf16⟩
  | .hbm, ⟨1, _⟩ => ⟨S1920x2048, .bf16⟩
  | .hbm, ⟨2, _⟩ => ⟨S1920x1, .f32⟩
  | .hbm, ⟨3, _⟩ => ⟨S1920x16384, .i8⟩
  | .hbm, ⟨4, _⟩ => ⟨S1920x16384, .f32⟩
  | .hbm, ⟨5, _⟩ => ⟨S1920x16384, .f32⟩
  | .hbm, ⟨6, _⟩ => ⟨S16384x2048, .i8⟩
  | .hbm, ⟨7, _⟩ => ⟨S256x2048, .f32⟩
  | .hbm, ⟨8, _⟩ => ⟨S16384x2048, .f32⟩
  | .hbm, ⟨9, _⟩ => ⟨S64x4x2048, .f32⟩
  | .hbm, ⟨10, _⟩ => ⟨S1920x16384, .bf16⟩
  | .hbm, ⟨11, _⟩ => ⟨S1920x16384, .bf16⟩
  | .hbm, ⟨12, _⟩ => ⟨S16384x2048, .f32⟩
  | .local _ .vmem, ⟨0, _⟩ => ⟨S1920x2048, .bf16⟩
  | .local _ .vmem, ⟨1, _⟩ => ⟨S1920x2048, .bf16⟩
  | .local _ .vmem, ⟨2, _⟩ => ⟨S1920x1, .f32⟩
  | .local _ .vmem, ⟨3, _⟩ => ⟨S1920x256, .i8⟩
  | .local _ .vmem, ⟨4, _⟩ => ⟨S1920x256, .i8⟩
  | .local _ .vmem, ⟨5, _⟩ => ⟨S1920x256, .f32⟩
  | .local _ .vmem, ⟨6, _⟩ => ⟨S1920x256, .f32⟩
  | .local _ .vmem, ⟨7, _⟩ => ⟨S1920x256, .f32⟩
  | .local _ .vmem, ⟨8, _⟩ => ⟨S1920x256, .f32⟩
  | .local _ .vmem, ⟨9, _⟩ => ⟨S256x2048, .i8⟩
  | .local _ .vmem, ⟨10, _⟩ => ⟨S256x2048, .i8⟩
  | .local _ .vmem, ⟨11, _⟩ => ⟨S1x4x2048, .f32⟩
  | .local _ .vmem, ⟨12, _⟩ => ⟨S1x4x2048, .f32⟩
  | .local _ .vmem, ⟨13, _⟩ => ⟨S256x2048, .f32⟩
  | .local _ .vmem, ⟨14, _⟩ => ⟨S256x2048, .f32⟩
  | .local _ .vmem, ⟨15, _⟩ => ⟨S1920x256, .bf16⟩
  | .local _ .vmem, ⟨16, _⟩ => ⟨S1920x256, .bf16⟩
  | .local _ .vmem, ⟨17, _⟩ => ⟨S1920x256, .bf16⟩
  | .local _ .vmem, ⟨18, _⟩ => ⟨S1920x256, .bf16⟩
  | .local _ .vmem, ⟨19, _⟩ => ⟨S256x2048, .f32⟩
  | .local _ .vmem, ⟨20, _⟩ => ⟨S256x2048, .f32⟩
  | .local _ .vmem, ⟨21, _⟩ => ⟨S256x2048, .bf16⟩
  | _, _ => ⟨S1920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1920x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1920x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1920x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1920x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1920x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1920x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1920x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== BackDownRefIdeal.lean ====
abbrev S1920x2048 : Shape := ⟨2, ![1920, 2048]⟩
abbrev S1920x1 : Shape := ⟨2, ![1920, 1]⟩
abbrev S1920x16384 : Shape := ⟨2, ![1920, 16384]⟩
abbrev S16384x2048 : Shape := ⟨2, ![16384, 2048]⟩
abbrev S256x2048 : Shape := ⟨2, ![256, 2048]⟩
abbrev S256x64x2048 : Shape := ⟨3, ![256, 64, 2048]⟩
abbrev S256x1x2048 : Shape := ⟨3, ![256, 1, 2048]⟩

abbrev nBuf : Space → Nat
  | .hbm => 12
  | .vmem => 12
  | .smem => 0
  | _ => 0

abbrev bufTy : (tb : Table) → Fin (tcTables nBuf tb) → BufTy
  | .hbm, ⟨0, _⟩ => ⟨S1920x2048, .bf16⟩
  | .hbm, ⟨1, _⟩ => ⟨S1920x2048, .bf16⟩
  | .hbm, ⟨2, _⟩ => ⟨S1920x1, .f32⟩
  | .hbm, ⟨3, _⟩ => ⟨S1920x16384, .i8⟩
  | .hbm, ⟨4, _⟩ => ⟨S1920x16384, .f32⟩
  | .hbm, ⟨5, _⟩ => ⟨S1920x16384, .f32⟩
  | .hbm, ⟨6, _⟩ => ⟨S16384x2048, .i8⟩
  | .hbm, ⟨7, _⟩ => ⟨S256x2048, .f32⟩
  | .hbm, ⟨8, _⟩ => ⟨S16384x2048, .f32⟩
  | .hbm, ⟨9, _⟩ => ⟨S1920x16384, .bf16⟩
  | .hbm, ⟨10, _⟩ => ⟨S1920x16384, .bf16⟩
  | .hbm, ⟨11, _⟩ => ⟨S16384x2048, .f32⟩
  | .local _ .vmem, ⟨0, _⟩ => ⟨S1920x2048, .bf16⟩
  | .local _ .vmem, ⟨1, _⟩ => ⟨S1920x2048, .bf16⟩
  | .local _ .vmem, ⟨2, _⟩ => ⟨S1920x1, .f32⟩
  | .local _ .vmem, ⟨3, _⟩ => ⟨S1920x16384, .i8⟩
  | .local _ .vmem, ⟨4, _⟩ => ⟨S1920x16384, .f32⟩
  | .local _ .vmem, ⟨5, _⟩ => ⟨S1920x16384, .f32⟩
  | .local _ .vmem, ⟨6, _⟩ => ⟨S16384x2048, .i8⟩
  | .local _ .vmem, ⟨7, _⟩ => ⟨S256x2048, .f32⟩
  | .local _ .vmem, ⟨8, _⟩ => ⟨S16384x2048, .f32⟩
  | .local _ .vmem, ⟨9, _⟩ => ⟨S1920x16384, .bf16⟩
  | .local _ .vmem, ⟨10, _⟩ => ⟨S1920x16384, .bf16⟩
  | .local _ .vmem, ⟨11, _⟩ => ⟨S16384x2048, .f32⟩
  | _, _ => ⟨S1920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1920x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x16384 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x2048 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1920x16384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1920x16384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16384x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== BackUp.lean ====
abbrev S2048x1920 : Shape := ⟨2, ![2048, 1920]⟩
abbrev S1920x16384 : Shape := ⟨2, ![1920, 16384]⟩
abbrev S2048x16384 : Shape := ⟨2, ![2048, 16384]⟩
abbrev S32x16384 : Shape := ⟨2, ![32, 16384]⟩
abbrev S1920x256 : Shape := ⟨2, ![1920, 256]⟩
abbrev S2048x256 : Shape := ⟨2, ![2048, 256]⟩
abbrev S32x256 : Shape := ⟨2, ![32, 256]⟩
abbrev S512x1920 : Shape := ⟨2, ![512, 1920]⟩
abbrev S512x256 : Shape := ⟨2, ![512, 256]⟩
abbrev S64x256 : Shape := ⟨2, ![64, 256]⟩
abbrev S1x256 : Shape := ⟨2, ![1, 256]⟩

abbrev nBuf : Space → Nat
  | .hbm => 11
  | .vmem => 21
  | .smem => 0
  | _ => 0

abbrev bufTy : (tb : Table) → Fin (tcTables nBuf tb) → BufTy
  | .hbm, ⟨0, _⟩ => ⟨S2048x1920, .bf16⟩
  | .hbm, ⟨1, _⟩ => ⟨S1920x16384, .bf16⟩
  | .hbm, ⟨2, _⟩ => ⟨S1920x16384, .bf16⟩
  | .hbm, ⟨3, _⟩ => ⟨S2048x16384, .i8⟩
  | .hbm, ⟨4, _⟩ => ⟨S32x16384, .f32⟩
  | .hbm, ⟨5, _⟩ => ⟨S2048x16384, .f32⟩
  | .hbm, ⟨6, _⟩ => ⟨S2048x16384, .i8⟩
  | .hbm, ⟨7, _⟩ => ⟨S32x16384, .f32⟩
  | .hbm, ⟨8, _⟩ => ⟨S2048x16384, .f32⟩
  | .hbm, ⟨9, _⟩ => ⟨S2048x16384, .f32⟩
  | .hbm, ⟨10, _⟩ => ⟨S2048x16384, .f32⟩
  | .local _ .vmem, ⟨0, _⟩ => ⟨S2048x1920, .bf16⟩
  | .local _ .vmem, ⟨1, _⟩ => ⟨S1920x256, .bf16⟩
  | .local _ .vmem, ⟨2, _⟩ => ⟨S1920x256, .bf16⟩
  | .local _ .vmem, ⟨3, _⟩ => ⟨S1920x256, .bf16⟩
  | .local _ .vmem, ⟨4, _⟩ => ⟨S1920x256, .bf16⟩
  | .local _ .vmem, ⟨5, _⟩ => ⟨S2048x256, .i8⟩
  | .local _ .vmem, ⟨6, _⟩ => ⟨S2048x256, .i8⟩
  | .local _ .vmem, ⟨7, _⟩ => ⟨S32x256, .f32⟩
  | .local _ .vmem, ⟨8, _⟩ => ⟨S32x256, .f32⟩
  | .local _ .vmem, ⟨9, _⟩ => ⟨S2048x256, .f32⟩
  | .local _ .vmem, ⟨10, _⟩ => ⟨S2048x256, .f32⟩
  | .local _ .vmem, ⟨11, _⟩ => ⟨S2048x256, .i8⟩
  | .local _ .vmem, ⟨12, _⟩ => ⟨S2048x256, .i8⟩
  | .local _ .vmem, ⟨13, _⟩ => ⟨S32x256, .f32⟩
  | .local _ .vmem, ⟨14, _⟩ => ⟨S32x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | _, _ => ⟨S2048x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1920x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1920x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== BackUpRefIdeal.lean ====
abbrev S2048x1920 : Shape := ⟨2, ![2048, 1920]⟩
abbrev S1920x16384 : Shape := ⟨2, ![1920, 16384]⟩
abbrev S2048x16384 : Shape := ⟨2, ![2048, 16384]⟩
abbrev S32x16384 : Shape := ⟨2, ![32, 16384]⟩
abbrev S32x64x16384 : Shape := ⟨3, ![32, 64, 16384]⟩
abbrev S32x1x16384 : Shape := ⟨3, ![32, 1, 16384]⟩

abbrev nBuf : Space → Nat
  | .hbm => 11
  | .vmem => 11
  | .smem => 0
  | _ => 0

abbrev bufTy : (tb : Table) → Fin (tcTables nBuf tb) → BufTy
  | .hbm, ⟨0, _⟩ => ⟨S2048x1920, .bf16⟩
  | .hbm, ⟨1, _⟩ => ⟨S1920x16384, .bf16⟩
  | .hbm, ⟨2, _⟩ => ⟨S1920x16384, .bf16⟩
  | .hbm, ⟨3, _⟩ => ⟨S2048x16384, .i8⟩
  | .hbm, ⟨4, _⟩ => ⟨S32x16384, .f32⟩
  | .hbm, ⟨5, _⟩ => ⟨S2048x16384, .f32⟩
  | .hbm, ⟨6, _⟩ => ⟨S2048x16384, .i8⟩
  | .hbm, ⟨7, _⟩ => ⟨S32x16384, .f32⟩
  | .hbm, ⟨8, _⟩ => ⟨S2048x16384, .f32⟩
  | .hbm, ⟨9, _⟩ => ⟨S2048x16384, .f32⟩
  | .hbm, ⟨10, _⟩ => ⟨S2048x16384, .f32⟩
  | .local _ .vmem, ⟨0, _⟩ => ⟨S2048x1920, .bf16⟩
  | .local _ .vmem, ⟨1, _⟩ => ⟨S1920x16384, .bf16⟩
  | .local _ .vmem, ⟨2, _⟩ => ⟨S1920x16384, .bf16⟩
  | .local _ .vmem, ⟨3, _⟩ => ⟨S2048x16384, .i8⟩
  | .local _ .vmem, ⟨4, _⟩ => ⟨S32x16384, .f32⟩
  | .local _ .vmem, ⟨5, _⟩ => ⟨S2048x16384, .f32⟩
  | .local _ .vmem, ⟨6, _⟩ => ⟨S2048x16384, .i8⟩
  | .local _ .vmem, ⟨7, _⟩ => ⟨S32x16384, .f32⟩
  | .local _ .vmem, ⟨8, _⟩ => ⟨S2048x16384, .f32⟩
  | .local _ .vmem, ⟨9, _⟩ => ⟨S2048x16384, .f32⟩
  | .local _ .vmem, ⟨10, _⟩ => ⟨S2048x16384, .f32⟩
  | _, _ => ⟨S2048x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2048x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16384 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x16384 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x16384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x16384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x16384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Soft.lean ====
/-
  The soft-rounding part of the kernels, one element at a time: what `_soft` and the gradient of the rounding variable are worth
  at one code `f` and one rounding variable `v`, and the shape `S a b` of a matrix. Kernel and reference both apply these
  functions elementwise, so the proofs below never open them.
-/
module

public import Idealize.ShloMosaic.Lib.ValueIdx
public import Idealize.ShloMosaic.Lib.Pipeline.Value
public import Idealize.ShloMosaic.Lib.Pointwise

@[expose] public section

noncomputable section

namespace Cert.Soft

open Idealize.ShloMosaic

/-- The shape of an `a × b` matrix. -/
abbrev S (a b : ℕ) : Shape := ⟨2, ![a, b]⟩

/-- The `f32` constant with these bits, as an extended real. -/
abbrev K (b : BitVec 32) : EReal := Ideal.ofBits .f32 b

/-- The sigmoid. -/
def sig (v : EReal) : EReal := FloatOps.logistic (F := Ideal) (φ := .f32) v
/-- The stretched sigmoid, before it is clipped to `[0, 1]`. -/
def hraw (v : EReal) : EReal := sig v * K 0x3F99999A#32 + K 0xBDCCCCCD#32
/-- The code plus the clipped stretched sigmoid. -/
def pre (f : BitVec 8) (v : EReal) : EReal :=
  FloatOps.sitofp (F := Ideal) .f32 f + min (K 0x3F800000#32) (max (K 0x00000000#32) (hraw v))
/-- The softly rounded weight, clipped to the code range. -/
def wq (f : BitVec 8) (v : EReal) : EReal := min (K 0x40E00000#32) (max (K 0xC1000000#32) (pre f v))
/-- Whether neither clip is active, that is whether the rounding variable has a gradient. -/
def mask (f : BitVec 8) (v : EReal) : BitVec 1 :=
  IntOp.andi (IntOp.andi (IntOp.andi (FloatOps.cmpf (F := Ideal) (φ := .f32) .oge (pre f v) (K 0xC1000000#32))
    (FloatOps.cmpf (F := Ideal) (φ := .f32) .ole (pre f v) (K 0x40E00000#32)))
    (FloatOps.cmpf (F := Ideal) (φ := .f32) .ogt (hraw v) (K 0x00000000#32)))
    (FloatOps.cmpf (F := Ideal) (φ := .f32) .olt (hraw v) (K 0x3F800000#32))
/-- The gradient of the rounding variable, from the gradient `q` of the weight it rounds. -/
def dv (q : EReal) (f : BitVec 8) (v : EReal) : EReal :=
  Scalar.select (mask f v) (q * K 0x3F99999A#32 * sig v * (K 0x3F800000#32 - sig v)) (K 0x00000000#32)

/-- `dv` of whole matrices. -/
def dvV {s : Shape} (q : FVec Ideal s .f32) (f : IVec s 8) (v : FVec Ideal s .f32) : FVec Ideal s .f32 :=
  fun i => dv (q i) (f i) (v i)

/-- The number of the 64-row group that row `i` lies in. -/
abbrev grp {R : ℕ} (i : Fin (64 * R)) : Fin R := ⟨i.val / 64, by omega⟩

/-- `R` blocks of 64 rows set below each other, read at an entry. -/
theorem concat_groups {R n c : ℕ} (hn : n = 64 * R) (f : Fin R → (S 64 c).Idx → EReal)
    (h : Shape.Concatenates ((List.ofFn fun r : Fin R => (⟨S 64 c, f r⟩ : (s : Shape) × (s.Idx → EReal))).map (·.1)) (S n c) 0)
    (i : Fin n) (j : Fin c) :
    concatenate (S n c) 0 (List.ofFn fun r : Fin R => (⟨S 64 c, f r⟩ : (s : Shape) × (s.Idx → EReal))) h (ix2 i j)
      = f ⟨i.val / 64, by omega⟩ (ix2 ⟨i.val % 64, Nat.mod_lt _ (by norm_num)⟩ j) := by
  refine concatenate_ofFn_apply (t := S n c) (s₁ := S 64 c) 0 f h rfl 64 rfl _ _ rfl _ rfl ?_
  intro b hb
  match b with
  | ⟨0, _⟩ => exact absurd rfl hb
  | ⟨1, _⟩ => rfl

/-- Each block of 64 rows of `q` times its own row of scales: what the kernels set together with `concatenate`. -/
def group (R n c : ℕ) (hn : n = 64 * R) (q : FVec Ideal (S n c) .f32) (sc : Fin R → FVec Ideal (S 1 c) .f32)
    (hs : ∀ r : Fin R, Shape.Slices (S n c) ![64 * r.val, 0] (S 64 c)) (hb : Shape.Broadcasts (S 1 c) (S 64 c))
    (hc : ∀ f : Fin R → (S 64 c).Idx → EReal,
      Shape.Concatenates ((List.ofFn fun r : Fin R => (⟨S 64 c, f r⟩ : (s : Shape) × (s.Idx → EReal))).map (·.1)) (S n c) 0) :
    FVec Ideal (S n c) .f32 :=
  concatenate (S n c) 0 (List.ofFn fun r : Fin R => ⟨S 64 c, mulf (extractStridedSlice (S 64 c) ![64 * r.val, 0] q (hs r))
    (broadcastTo (S 64 c) (sc r) hb)⟩) (hc _)

/-- An entry of `group` is the entry of `q` times its column's scale in its group. -/
theorem group_apply {R n c : ℕ} (hn : n = 64 * R) (q : FVec Ideal (S n c) .f32) (sc : Fin R → FVec Ideal (S 1 c) .f32) (hs hb hc)
    (i : Fin n) (j : Fin c) :
    group R n c hn q sc hs hb hc (ix2 i j) = q (ix2 i j) * sc ⟨i.val / 64, by omega⟩ (ix2 0 j) := by
  unfold group
  rw [concat_groups hn]
  show q _ * sc _ _ = _
  congr 1
  · congr 1
    funext a
    match a with
    | ⟨0, _⟩ => exact Fin.ext (Nat.div_add_mod i.val 64)
    | ⟨1, _⟩ => exact Fin.ext (Nat.zero_add _)
  · congr 1
    funext a
    match a with
    | ⟨0, _⟩ => exact Fin.ext rfl
    | ⟨1, _⟩ =>
      apply Fin.ext
      show (if h1 : c = 1 then (⟨0, by omega⟩ : Fin c) else ⟨j.val, j.isLt⟩).val = j.val
      split
      · have := j.isLt; simp only; omega
      · rfl

/-- Each group of 64 rows of `q` times its row of `s`, as the reference writes it: a product of rank-3 arrays. -/
def groupRef (φ : FTy) (R n c : ℕ) (q : FVec Ideal (S n c) φ) (s : FVec Ideal (S R c) φ) (h1 : (S n c).ShapeCasts ⟨3, ![R, 64, c]⟩)
    (h2 : (S R c).ShapeCasts ⟨3, ![R, 1, c]⟩) (h3 : Shape.Broadcasts ⟨3, ![R, 1, c]⟩ ⟨3, ![R, 64, c]⟩)
    (h4 : Shape.ShapeCasts ⟨3, ![R, 64, c]⟩ (S n c)) : FVec Ideal (S n c) φ :=
  shapeCast (S n c) (mulf (shapeCast ⟨3, ![R, 64, c]⟩ q h1) (broadcastTo ⟨3, ![R, 64, c]⟩ (shapeCast ⟨3, ![R, 1, c]⟩ s h2) h3)) h4

/-- An entry of `groupRef` is the entry of `q` times its column's scale in its group. -/
theorem groupRef_apply {φ : FTy} {R n c : ℕ} (hn : n = 64 * R) (q : FVec Ideal (S n c) φ) (s : FVec Ideal (S R c) φ) (h1 h2 h3 h4)
    (i : Fin n) (j : Fin c) :
    groupRef φ R n c q s h1 h2 h3 h4 (ix2 i j) = q (ix2 i j) * s (ix2 ⟨i.val / 64, by omega⟩ j) := by
  have hi : 64 * (i.val / 64) + i.val % 64 = i.val := Nat.div_add_mod i.val 64
  have e : (i.val / 64 * 64 + i.val % 64) * c + j.val = i.val * c + j.val := by rw [Nat.mul_comm (i.val / 64), hi]
  have step : ∀ x : (⟨3, ![R, 64, c]⟩ : Shape).Idx → EReal, shapeCast (S n c) x h4 (ix2 i j)
      = x (ix3 ⟨i.val / 64, by omega⟩ ⟨i.val % 64, Nat.mod_lt _ (by norm_num)⟩ j) := fun x =>
    shapeCast_apply x h4 _ _ (by rw [Shape.rowMajor_val_three, Shape.rowMajor_val_two]; exact e)
  unfold groupRef
  rw [step]
  show shapeCast _ q h1 _ * broadcastTo _ _ h3 _ = _
  congr 1
  · exact shapeCast_apply q h1 _ _ (by rw [Shape.rowMajor_val_three, Shape.rowMajor_val_two]; exact e.symm)
  · rw [broadcastTo_apply _ h3 _ (ix3 ⟨i.val / 64, by omega⟩ 0 j) (fun a => by
      match a with
      | ⟨0, _⟩ =>
        show i.val / 64 = if R = 1 then 0 else i.val / 64
        split
        · omega
        · rfl
      | ⟨1, _⟩ => rfl
      | ⟨2, _⟩ =>
        show j.val = if c = 1 then 0 else j.val
        split
        · omega
        · rfl)]
    refine shapeCast_apply s h2 _ _ ?_
    rw [Shape.rowMajor_val_three, Shape.rowMajor_val_two]
    show i.val / 64 * c + j.val = (i.val / 64 * 1 + 0) * c + j.val
    rw [Nat.mul_one, Nat.add_zero]

/-! ## Blocks of columns -/

/-- Columns `c t` to `c t + c - 1` of a matrix with `c B` columns. -/
def colBlk {α : Type} {n N : ℕ} (c B : ℕ) (hN : N = c * B) (t : Fin B) (X : (S n N).Idx → α) : (S n c).Idx → α :=
  fun y => X (ix2 (y 0) ⟨c * t.val + (y 1).val, by
    have h1 : (y 1).val < c := (y 1).isLt
    have h2 : c * (t.val + 1) ≤ c * B := Nat.mul_le_mul_left c t.isLt
    have h3 : c * (t.val + 1) = c * t.val + c := Nat.mul_succ ..
    omega⟩)

/-- Reading a matrix through an embedding whose coordinates are those of the block is reading the block. -/
theorem colBlk_of {α : Type} {n N : ℕ} (c B : ℕ) (hN : N = c * B) (t : Fin B) (X : (S n N).Idx → α) (e : (S n c).Idx → (S n N).Idx)
    (h0 : ∀ y, (e y 0).val = (y 0).val) (h1 : ∀ y, (e y 1).val = c * t.val + (y 1).val) :
    (fun y => X (e y)) = colBlk c B hN t X := by
  funext y
  refine congrArg X ?_
  funext a
  match a with
  | ⟨0, _⟩ => exact Fin.ext (h0 y)
  | ⟨1, _⟩ => exact Fin.ext (h1 y)

end Cert.Soft

end
-- ==== Proof.RowMax.lean ====
/-
  The largest entry of each row of a matrix, and the scale made of it.
-/
module

public import proofs.«01_k».proof.Proof.Soft

@[expose] public section

noncomputable section

namespace Cert.Soft

open Idealize.ShloMosaic

/-- The magnitude of a value. -/
def mag (v : EReal) : EReal := FloatOps.absf (F := Ideal) (φ := .f32) v

theorem mag_nonneg (v : EReal) : 0 ≤ mag v := by
  show 0 ≤ max v (-v)
  rcases le_total 0 v with h | h
  · exact le_max_of_le_left h
  · exact le_max_of_le_right (EReal.neg_nonneg.mpr h)

/-- The largest entry of row `i`. -/
def rowMax {n c : ℕ} (x : (S n c).Idx → EReal) (i : Fin n) : EReal := Finset.univ.sup fun k : Fin c => x (ix2 i k)

theorem rowMax_le {n c : ℕ} (x : (S n c).Idx → EReal) (i : Fin n) (b : EReal) : rowMax x i ≤ b ↔ ∀ k, x (ix2 i k) ≤ b := by
  unfold rowMax
  rw [Finset.sup_le_iff]
  exact ⟨fun h k => h k (Finset.mem_univ k), fun h k _ => h k⟩

/-- The scale that a largest magnitude gives: a hundred and twenty-seventh of it, or one when all is zero. -/
def scaleOf (b : EReal) : EReal :=
  Scalar.select (FloatOps.cmpf (F := Ideal) (φ := .f32) .ogt b (K 0x00000000#32)) (FloatOps.divf (F := Ideal) (φ := .f32) b (K 0x42FE0000#32)) (K 0x3F800000#32)

/-- A reduction of the rows by the maximum. -/
theorem multiReduction_rowMax {n c : ℕ} (x : FVec Ideal (S n c) .f32) (h : (S n c).Reduces [1] ⟨1, ![n]⟩) (hφ : FKind.Formats .f32)
    (hacc : (0xFF800000#32 : BitVec 32) = FKind.maximumf.neutral .f32 hφ) (i : Fin n) :
    multiReduction .maximumf [1] ⟨1, ![n]⟩ x 0xFF800000#32 h hφ hacc (ix1 i) = rowMax x i := by
  rw [Ideal.multiReduction_maximumf_single (a := (1 : Fin 2)) x _ h hφ hacc (ix1 i)]
  have e : ∀ k : Fin c, h.lift (a := (1 : Fin 2)) (ix1 i) k = ix2 i k := fun k => by
    funext a
    match a with
    | ⟨0, _⟩ => rfl
    | ⟨1, _⟩ => rfl
  refine eq_of_forall_ge_iff fun b => ?_
  rw [rowMax_le, Finset.fold_max_le]
  refine ⟨fun hb k => ?_, fun hb => ⟨?_, fun k _ => ?_⟩⟩
  · rw [← e k]
    exact hb.2 k (Finset.mem_univ _)
  · rw [show FloatOps.ofBits (F := Ideal) .f32 0xFF800000#32 = (⊥ : EReal) by simp [Ideal.ofBits, Ideal.ieee]]
    exact bot_le
  · show x (h.lift (a := (1 : Fin 2)) (ix1 i) k) ≤ b
    rw [e k]
    exact hb k

/-- A column set upright, read at an entry. -/
theorem upright {α : Type} {n : ℕ} (x : (⟨1, ![n]⟩ : Shape).Idx → α) (h : (⟨1, ![n]⟩ : Shape).ShapeCasts (S n 1)) (i : Fin n) :
    shapeCast (S n 1) x h (ix2 i 0) = x (ix1 i) := by
  refine shapeCast_apply x h (ix2 i 0) (ix1 i) ?_
  rw [Shape.rowMajor_val_two, Shape.rowMajor_val_one]
  show i.val = i.val * 1 + 0
  omega

/-- The scales of the rows of a matrix of magnitudes, as the kernels write them. -/
def scaleV {n c : ℕ} (x : FVec Ideal (S n c) .f32) (h : (S n c).Reduces [1] ⟨1, ![n]⟩) (h' : (⟨1, ![n]⟩ : Shape).ShapeCasts (S n 1)) : FVec Ideal (S n 1) .f32 :=
  have r : FVec Ideal ⟨1, ![n]⟩ .f32 := multiReduction .maximumf [1] ⟨1, ![n]⟩ x 0xFF800000#32 h (.inl rfl) rfl
  shapeCast (S n 1) (select (cmpf .ogt r (broadcast ⟨1, ![n]⟩ (Scalar.ofBits (F := Ideal) .f32 0x00000000#32)))
    (divf r (broadcast ⟨1, ![n]⟩ (Scalar.ofBits (F := Ideal) .f32 0x42FE0000#32))) (broadcast ⟨1, ![n]⟩ (Scalar.ofBits (F := Ideal) .f32 0x3F800000#32))) h'

theorem scaleV_apply {n c : ℕ} (x : FVec Ideal (S n c) .f32) (h : (S n c).Reduces [1] ⟨1, ![n]⟩) (h' : (⟨1, ![n]⟩ : Shape).ShapeCasts (S n 1)) (i : Fin n) :
    scaleV x h h' (ix2 i 0) = scaleOf (rowMax x i) := by
  unfold scaleV
  dsimp only
  rw [upright, ← multiReduction_rowMax x h (.inl rfl) rfl i]
  rfl

/-- The same with the maxima set upright first. -/
def scaleU {n c : ℕ} (x : FVec Ideal (S n c) .f32) (h : (S n c).Reduces [1] ⟨1, ![n]⟩) (h' : (⟨1, ![n]⟩ : Shape).ShapeCasts (S n 1)) : FVec Ideal (S n 1) .f32 :=
  have r : FVec Ideal (S n 1) .f32 := shapeCast (S n 1) (multiReduction .maximumf [1] ⟨1, ![n]⟩ x 0xFF800000#32 h (.inl rfl) rfl) h'
  select (cmpf .ogt r (broadcast (S n 1) (Scalar.ofBits (F := Ideal) .f32 0x00000000#32)))
    (divf r (broadcast (S n 1) (Scalar.ofBits (F := Ideal) .f32 0x42FE0000#32))) (broadcast (S n 1) (Scalar.ofBits (F := Ideal) .f32 0x3F800000#32))

theorem scaleU_apply {n c : ℕ} (x : FVec Ideal (S n c) .f32) (h : (S n c).Reduces [1] ⟨1, ![n]⟩) (h' : (⟨1, ![n]⟩ : Shape).ShapeCasts (S n 1)) (i : Fin n) :
    scaleU x h h' (ix2 i 0) = scaleOf (rowMax x i) := by
  unfold scaleU
  exact congrArg scaleOf ((upright _ h' i).trans (multiReduction_rowMax x h (.inl rfl) rfl i))

/-- The scales of the rows of a matrix. -/
def rowScales {n c : ℕ} (a : (S n c).Idx → EReal) : (S n 1).Idx → EReal := fun y => scaleOf (rowMax (fun z => mag (a z)) (y 0))

theorem scaleU_absf {n c : ℕ} (a : FVec Ideal (S n c) .f32) (h : (S n c).Reduces [1] ⟨1, ![n]⟩) (h' : (⟨1, ![n]⟩ : Shape).ShapeCasts (S n 1)) :
    scaleU (absf a) h h' = rowScales a := by
  funext y
  obtain ⟨i, j, rfl⟩ : ∃ i j, y = ix2 i j := ⟨_, _, eq_ix2 y⟩
  obtain rfl : j = 0 := Subsingleton.elim _ _
  exact scaleU_apply _ h h' i

theorem scaleV_absf {n c : ℕ} (a : FVec Ideal (S n c) .f32) (h : (S n c).Reduces [1] ⟨1, ![n]⟩) (h' : (⟨1, ![n]⟩ : Shape).ShapeCasts (S n 1)) :
    scaleV (absf a) h h' = rowScales a := by
  funext y
  obtain ⟨i, j, rfl⟩ : ∃ i j, y = ix2 i j := ⟨_, _, eq_ix2 y⟩
  obtain rfl : j = 0 := Subsingleton.elim _ _
  exact scaleV_apply _ h h' i

end Cert.Soft

end
-- ==== Proof.Weight.lean ====
/-
  The weights the kernels put together in a scratch buffer, 64 rows at a time, and blocks of rows of an array.
-/
module

public import proofs.«01_k».proof.Proof.Soft
public import Idealize.ShloMosaic.Lib.Pipeline.ValueKit.Acc

@[expose] public section

noncomputable section

namespace Cert.Soft

open Idealize.ShloMosaic

/-- The softly rounded weight at every entry: codes `f`, one row of scales `s` per 64 rows, rounding variables `v`. -/
def weight {n c R : ℕ} (hn : n = 64 * R) (f : (S n c).Idx → BitVec 8) (s : (S R c).Idx → EReal) (v : (S n c).Idx → EReal) : (S n c).Idx → EReal :=
  fun y => wq (f y) (v y) * s (ix2 ⟨(y 0).val / 64, by have := (show (y 0).val < n from (y 0).isLt); omega⟩ (y 1))

theorem inb_rows {n k c : ℕ} (o : ℕ) (h : o + k ≤ n) : ∀ a, (![o, 0] : Fin 2 → ℕ) a + (S k c).size a ≤ (S n c).size a
  | ⟨0, _⟩ => h
  | ⟨1, _⟩ => le_of_eq (Nat.zero_add _)

theorem inb_cols {n k c : ℕ} (o : ℕ) (h : o + k ≤ c) : ∀ a, (![0, o] : Fin 2 → ℕ) a + (S n k).size a ≤ (S n c).size a
  | ⟨0, _⟩ => le_of_eq (Nat.zero_add _)
  | ⟨1, _⟩ => h

/-- Rows `o` to `o + k - 1` as a rectangle. -/
abbrev rows {n c : ℕ} (o k : ℕ) (h : o + k ≤ n) : Rect (S n c) := Rect.unit (s := S n c) ![o, 0] (S k c).size (inb_rows o h)
/-- Columns `o` to `o + k - 1` as a rectangle. -/
abbrev cols {n c : ℕ} (o k : ℕ) (h : o + k ≤ c) : Rect (S n c) := Rect.unit (s := S n c) ![0, o] (S n k).size (inb_cols o h)

/-- Reading rows `o …` at `(i, j)`. -/
theorem ld_rows {α : EltTy → Type} {e : EltTy} {n c o k : ℕ} (h : o + k ≤ n) (X : (S n c).Idx → α e) (i : Fin k) (j : Fin c) :
    View.ld X (rows o k h) (ix2 i j) = X (ix2 ⟨o + i.val, by omega⟩ j) := by
  show X _ = X _
  congr 1
  funext a
  match a with
  | ⟨0, _⟩ => exact Fin.ext (by show o + 1 * i.val = o + i.val; omega)
  | ⟨1, _⟩ => exact Fin.ext (by show 0 + 1 * j.val = j.val; omega)

/-- Reading columns `o …` at `(i, j)`. -/
theorem ld_cols {α : EltTy → Type} {e : EltTy} {n c o k : ℕ} (h : o + k ≤ c) (X : (S n c).Idx → α e) (i : Fin n) (j : Fin k) :
    View.ld X (cols o k h) (ix2 i j) = X (ix2 i ⟨o + j.val, by omega⟩) := by
  show X _ = X _
  congr 1
  funext a
  match a with
  | ⟨0, _⟩ => exact Fin.ext (by show 0 + 1 * i.val = i.val; omega)
  | ⟨1, _⟩ => exact Fin.ext (by show o + 1 * j.val = o + j.val; omega)

/-- Where the rectangle of rows puts `(i, j)`. -/
theorem emb_rows {n c o k : ℕ} (h : o + k ≤ n) (i : Fin k) (j : Fin c) :
    (rows (n := n) (c := c) o k h).emb (ix2 i j) = ix2 ⟨o + i.val, by omega⟩ j := by
  funext a
  match a with
  | ⟨0, _⟩ => exact Fin.ext (by show o + 1 * i.val = o + i.val; omega)
  | ⟨1, _⟩ => exact Fin.ext (by show 0 + 1 * j.val = j.val; omega)

/-- Where the rectangle of columns puts `(i, j)`. -/
theorem emb_cols {n c o k : ℕ} (h : o + k ≤ c) (i : Fin n) (j : Fin k) :
    (cols (n := n) (c := c) o k h).emb (ix2 i j) = ix2 i ⟨o + j.val, by omega⟩ := by
  funext a
  match a with
  | ⟨0, _⟩ => exact Fin.ext (by show 0 + 1 * i.val = i.val; omega)
  | ⟨1, _⟩ => exact Fin.ext (by show o + 1 * j.val = o + j.val; omega)

/-- A row broadcast over 64 rows, read at an entry. -/
theorem bcast_row {n c : ℕ} (s : (S 1 c).Idx → EReal) (hb : Shape.Broadcasts (S 1 c) (S n c)) (i : Fin n) (j : Fin c) :
    broadcastTo (S n c) s hb (ix2 i j) = s (ix2 0 j) := by
  refine broadcastTo_apply s hb _ _ fun a => ?_
  match a with
  | ⟨0, _⟩ => rfl
  | ⟨1, _⟩ =>
    show j.val = if c = 1 then 0 else j.val
    split
    · omega
    · rfl

/-- A column broadcast over `c` columns, read at an entry. -/
theorem bcast_col {n c : ℕ} (s : (S n 1).Idx → EReal) (hb : Shape.Broadcasts (S n 1) (S n c)) (i : Fin n) (j : Fin c) :
    broadcastTo (S n c) s hb (ix2 i j) = s (ix2 i 0) := by
  refine broadcastTo_apply s hb _ _ fun a => ?_
  match a with
  | ⟨0, _⟩ =>
    show i.val = if n = 1 then 0 else i.val
    split
    · omega
    · rfl
  | ⟨1, _⟩ => rfl

/-- Sixty-four rows of weights: the rounded codes times one row of scales. -/
def weightV {c : ℕ} (f : IVec (S 64 c) 8) (v : FVec Ideal (S 64 c) .f32) (s : FVec Ideal (S 1 c) .f32)
    (hb : Shape.Broadcasts (S 1 c) (S 64 c)) : FVec Ideal (S 64 c) .bf16 :=
  shapeCast (S 64 c) (mulf (φ := .bf16) (fun i => wq (f i) (v i)) (broadcastTo (S 64 c) s hb)) rfl

/-- Rows `64 r` to `64 r + 63` of the scratch, as the kernels store them. -/
def wpiece (n c r : ℕ) (h : 64 * r + 64 ≤ n) (f : (S n c).Idx → BitVec 8) (v : (S n c).Idx → EReal) (s : (S 1 c).Idx → EReal)
    (hb : Shape.Broadcasts (S 1 c) (S 64 c)) : View.Piece (Elt Ideal) (S n c) .bf16 :=
  ⟨rows (64 * r) 64 h, weightV (View.ld (Val := Elt Ideal) (e' := .i8) f (rows (64 * r) 64 h)) (View.ld (Val := Elt Ideal) (e' := .f32) v (rows (64 * r) 64 h)) s hb⟩

/-- What that store holds is `weight` on its rows. -/
theorem wpiece_apply {n c R r : ℕ} (hn : n = 64 * R) (h : 64 * r + 64 ≤ n) (f : (S n c).Idx → BitVec 8) (v : (S n c).Idx → EReal)
    (s : (S 1 c).Idx → EReal) (hb : Shape.Broadcasts (S 1 c) (S 64 c)) (sc : (S R c).Idx → EReal)
    (hs : ∀ j, s (ix2 0 j) = sc (ix2 ⟨r, by omega⟩ j)) (x : (wpiece n c r h f v s hb).1.shape.Idx) :
    (wpiece n c r h f v s hb).2 x = weight hn f sc v ((wpiece n c r h f v s hb).1.emb x) := by
  obtain ⟨i, j, rfl⟩ : ∃ (i : Fin 64) (j : Fin c), x = ix2 i j := ⟨_, _, eq_ix2 (n0 := 64) (n1 := c) x⟩
  show weightV _ _ _ _ _ = _
  unfold weightV
  rw [shapeCast_self]
  show wq (f ((rows (64 * r) 64 h).emb _)) (v ((rows (64 * r) 64 h).emb _)) * broadcastTo _ s hb _ = weight hn f sc v ((rows (64 * r) 64 h).emb _)
  rw [emb_rows, bcast_row, hs]
  unfold weight
  congr 2
  congr 1
  exact Fin.ext (by show r = (64 * r + i.val) / 64; omega)

/-- Rows `c t` to `c t + c - 1` of a matrix with `c B` rows. -/
def rowBlk {α : Type} {n N : ℕ} (c B : ℕ) (hN : N = c * B) (t : Fin B) (X : (S N n).Idx → α) : (S c n).Idx → α :=
  fun y => X (ix2 ⟨c * t.val + (y 0).val, by
    have h1 : (y 0).val < c := (y 0).isLt
    have h2 : c * (t.val + 1) ≤ c * B := Nat.mul_le_mul_left c t.isLt
    have h3 : c * (t.val + 1) = c * t.val + c := Nat.mul_succ ..
    omega⟩ (y 1))

/-- Reading a matrix through an embedding whose coordinates are those of the block is reading the block. -/
theorem rowBlk_of {α : Type} {n N : ℕ} (c B : ℕ) (hN : N = c * B) (t : Fin B) (X : (S N n).Idx → α) (e : (S c n).Idx → (S N n).Idx)
    (h0 : ∀ y, (e y 0).val = c * t.val + (y 0).val) (h1 : ∀ y, (e y 1).val = (y 1).val) :
    (fun y => X (e y)) = rowBlk c B hN t X := by
  funext y
  refine congrArg X ?_
  funext a
  match a with
  | ⟨0, _⟩ => exact Fin.ext (h0 y)
  | ⟨1, _⟩ => exact Fin.ext (h1 y)

/-- A window that always holds the whole of its array. -/
theorem whole_of {α : Type} {n c : ℕ} (X : (S n c).Idx → α) (e : (S n c).Idx → (S n c).Idx)
    (h0 : ∀ y, (e y 0).val = (y 0).val) (h1 : ∀ y, (e y 1).val = (y 1).val) : (fun y => X (e y)) = X := by
  funext y
  refine congrArg X ?_
  funext a
  match a with
  | ⟨0, _⟩ => exact Fin.ext (h0 y)
  | ⟨1, _⟩ => exact Fin.ext (h1 y)

/-- The effective weight as the references write it is `weight`. -/
theorem weight_of_groupRef {n c R : ℕ} (hn : n = 64 * R) (f : (S n c).Idx → BitVec 8) (s : (S R c).Idx → EReal) (v : (S n c).Idx → EReal) (h1 h2 h3 h4) :
    groupRef .bf16 R n c (fun i => wq (f i) (v i)) s h1 h2 h3 h4 = weight hn f s v := by
  funext y
  obtain ⟨i, j, rfl⟩ : ∃ i j, y = ix2 i j := ⟨_, _, eq_ix2 y⟩
  exact groupRef_apply hn _ s h1 h2 h3 h4 i j

/-- A slice of a whole buffer seen at another shape, read back. -/
theorem read_slice_reshape {sig : RefSig} {κ : Kind} {sp : Space} {s s' : Shape} {e : EltTy} {Val : EltTy → Type} (v : View sig κ sp s e) (r : Rect s)
    (h : r.shape.ShapeCasts s') (h' : s'.numel = r.shape.numel) (f : v.ty.Contents Val) :
    View.read Val ((v.slice r).reshape s' h') f = shapeCast s' (View.ld (v.read Val f) r) h := rfl

end Cert.Soft

end
-- ==== Proof.Pieces.lean ====
/-
  A buffer filled `k` rows at a time, first rows first: what it holds after all stores, when each store is a block of rows of one
  function.
-/
module

public import proofs.«01_k».proof.Proof.Weight
public import Idealize.ShloMosaic.Lib.Pipeline.ReadBack

@[expose] public section

noncomputable section

namespace Cert.Soft

open Idealize.ShloMosaic

variable {e : EltTy} {n c k : ℕ}

theorem le_of_succ {b : ℕ} (h : k * (b + 1) ≤ n) : k * b + k ≤ n := h

/-- Stores of `k` rows each, last store first. -/
def rowPieces (P : (r : ℕ) → k * r + k ≤ n → (S k c).Idx → Elt Ideal e) : (b : ℕ) → k * b ≤ n → List (View.Piece (Elt Ideal) (S n c) e)
  | 0, _ => []
  | b + 1, h => ⟨rows (k * b) k (le_of_succ h), P b (le_of_succ h)⟩ :: rowPieces P b (Nat.le_of_add_right_le (le_of_succ h))

/-- An entry lies in one of the first `b` blocks of `k` rows, or below them. -/
theorem row_cases {b : ℕ} (h : k * b + k ≤ n) (y : (S n c).Idx) :
    (∃ x : (S k c).Idx, y = (rows (n := n) (c := c) (k * b) k h).emb x ∧ k * b ≤ (y 0).val ∧ (y 0).val < k * (b + 1))
      ∨ (y ∉ (rows (n := n) (c := c) (k * b) k h).set ∧ ((y 0).val < k * b ∨ k * (b + 1) ≤ (y 0).val)) := by
  obtain ⟨i, j, rfl⟩ : ∃ i j, y = ix2 i j := ⟨_, _, eq_ix2 y⟩
  by_cases hi : k * b ≤ i.val ∧ i.val < k * b + k
  · refine .inl ⟨ix2 ⟨i.val - k * b, by omega⟩ j, ?_, hi⟩
    rw [emb_rows]
    congr 1
    exact Fin.ext (by show i.val = k * b + (i.val - k * b); omega)
  · refine .inr ⟨fun hm => hi ?_, by show i.val < k * b ∨ k * b + k ≤ i.val; omega⟩
    obtain ⟨x, hx⟩ := (rows (n := n) (c := c) (k * b) k h).exists_idx_of_mem hm
    have h0 : k * b + 1 * (x 0).val = i.val := congrArg (fun z : (S n c).Idx => (z 0).val) hx
    have h1 : (x 0).val < k := (x 0).isLt
    omega

/-- What the stores leave on the rows they fill, whatever was stored before. -/
theorem rowPieces_apply (P : (r : ℕ) → k * r + k ≤ n → (S k c).Idx → Elt Ideal e) (G : (S n c).Idx → Elt Ideal e)
    (hP : ∀ r h x, P r h x = G ((rows (n := n) (c := c) (k * r) k h).emb x)) (Z : List (View.Piece (Elt Ideal) (S n c) e)) :
    ∀ (b : ℕ) (h : k * b ≤ n) (y : (S n c).Idx), (y 0).val < k * b → View.canon (rowPieces P b h ++ Z) y = G y
  | 0, _, y, hy => absurd hy (Nat.not_lt_zero _)
  | b + 1, h, y, hy => by
    rcases row_cases (le_of_succ h) y with ⟨x, rfl, _⟩ | ⟨hm, h'⟩
    · exact (View.canon_cons_emb (rows (n := n) (c := c) (k * b) k (le_of_succ h)) _ _ x).trans (hP b (le_of_succ h) x)
    · exact (View.canon_cons_of_not_mem _ _ hm).trans (rowPieces_apply P G hP Z b _ y (by omega))

/-- Stores that fill the buffer leave the function there. -/
theorem rowPieces_append (b : ℕ) (hn : n = k * b) (P : (r : ℕ) → k * r + k ≤ n → (S k c).Idx → Elt Ideal e) (G : (S n c).Idx → Elt Ideal e)
    (hP : ∀ r h x, P r h x = G ((rows (n := n) (c := c) (k * r) k h).emb x)) (Z : List (View.Piece (Elt Ideal) (S n c) e)) :
    View.canon (rowPieces P b hn.ge ++ Z) = G :=
  funext fun y => rowPieces_apply P G hP Z b _ y (lt_of_lt_of_eq (show (y 0).val < n from (y 0).isLt) hn)

theorem rowPieces_eq (b : ℕ) (hn : n = k * b) (P : (r : ℕ) → k * r + k ≤ n → (S k c).Idx → Elt Ideal e) (G : (S n c).Idx → Elt Ideal e)
    (hP : ∀ r h x, P r h x = G ((rows (n := n) (c := c) (k * r) k h).emb x)) : View.canon (rowPieces P b hn.ge) = G := by
  rw [← List.append_nil (rowPieces P b hn.ge)]
  exact rowPieces_append b hn P G hP []

end Cert.Soft

end
-- ==== Proof.Codes.lean ====
/-
  The int8 codes of an activation: the quotient by the scale of its row, rounded to the nearest integer and clipped to ±127. A
  clipped quotient is an integer of the int8 range, so turning it into a code and back changes nothing.
-/
module

public import proofs.«01_k».proof.Proof.Pieces

@[expose] public section

noncomputable section

namespace Cert.Soft

open Idealize.ShloMosaic

/-- The quotient rounded and clipped. -/
def clip (a s : EReal) : EReal :=
  min (K 0x42FE0000#32) (max (K 0xC2FE0000#32) (FloatOps.roundeven (F := Ideal) (φ := .f32) (FloatOps.divf (F := Ideal) (φ := .f32) a s)))
/-- Its code. -/
def code (a s : EReal) : BitVec 8 := FloatOps.fptosi (F := Ideal) (φ := .f32) 8 (clip a s)

theorem K_127 : K 0x42FE0000#32 = ((127 : ℤ) : ℝ) := by
  simp [K, Ideal.ofBits, Ideal.ieee]
  rw [← EReal.coe_mul]
  norm_num

theorem K_neg127 : K 0xC2FE0000#32 = ((-127 : ℤ) : ℝ) := by
  simp [K, Ideal.ofBits, Ideal.ieee]
  rw [← EReal.coe_mul]
  norm_num

/-- The clipped quotient is an integer between -127 and 127. -/
theorem clip_int (a s : EReal) : ∃ z : ℤ, -127 ≤ z ∧ z ≤ 127 ∧ clip a s = ((z : ℝ) : EReal) := by
  unfold clip
  rw [K_127, K_neg127]
  show ∃ z : ℤ, -127 ≤ z ∧ z ≤ 127 ∧ min (((127 : ℤ) : ℝ) : EReal) (max (((-127 : ℤ) : ℝ) : EReal) (Ideal.liftRound Ideal.roundHalfEven _)) = ((z : ℝ) : EReal)
  generalize FloatOps.divf (F := Ideal) (φ := .f32) a s = q
  induction q using EReal.rec with
  | bot => exact ⟨-127, by norm_num, by norm_num, by
      rw [Ideal.liftRound_bot, max_eq_left bot_le]
      exact min_eq_right (EReal.coe_le_coe_iff.2 (by norm_num))⟩
  | top => exact ⟨127, by norm_num, by norm_num, by rw [Ideal.liftRound_top, max_eq_right le_top, min_eq_left le_top]⟩
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

/-- A code read back is the clipped quotient. -/
theorem sitofp_code (φ : FTy) (a s : EReal) : FloatOps.sitofp (F := Ideal) φ (code a s) = clip a s := by
  obtain ⟨z, h1, h2, e⟩ := clip_int a s
  unfold code
  rw [e]
  show (((Ideal.fptosi 8 ((z : ℝ) : EReal)).toInt : ℝ) : EReal) = ((z : ℝ) : EReal)
  have h : Ideal.fptosi 8 ((z : ℝ) : EReal) = BitVec.ofInt 8 z := by
    unfold Ideal.fptosi
    rw [Ideal.toIntClamped_coe]
    congr 1
    have : (if 0 ≤ (z : ℝ) then ⌊(z : ℝ)⌋ else ⌈(z : ℝ)⌉) = z := by
      rw [Int.floor_intCast, Int.ceil_intCast, ite_self]
    rw [this]
    norm_num
    omega
  rw [h, BitVec.toInt_ofInt]
  congr 2
  rw [Int.bmod_def]
  norm_num
  omega

/-- The codes of a matrix, one scale per row. -/
def codes {n c : ℕ} (a : (S n c).Idx → EReal) (s : (S n 1).Idx → EReal) : (S n c).Idx → BitVec 8 := fun y => code (a y) (s (ix2 (y 0) 0))
/-- The clipped quotients of a matrix. -/
def clips {n c : ℕ} (a : (S n c).Idx → EReal) (s : (S n 1).Idx → EReal) : (S n c).Idx → EReal := fun y => clip (a y) (s (ix2 (y 0) 0))

/-- The clipped quotients as the kernels write them. -/
def clipV {n c : ℕ} (a : FVec Ideal (S n c) .f32) (s : FVec Ideal (S n 1) .f32) (hb : Shape.Broadcasts (S n 1) (S n c)) : FVec Ideal (S n c) .f32 :=
  minimumf (broadcast (S n c) (Scalar.ofBits (F := Ideal) .f32 0x42FE0000#32)) (maximumf (broadcast (S n c) (Scalar.ofBits (F := Ideal) .f32 0xC2FE0000#32))
    (roundeven (divf a (broadcastTo (S n c) s hb))))

theorem clipV_eq {n c : ℕ} (a : FVec Ideal (S n c) .f32) (s : FVec Ideal (S n 1) .f32) (hb : Shape.Broadcasts (S n 1) (S n c)) :
    clipV a s hb = clips a s := by
  funext y
  obtain ⟨i, j, rfl⟩ : ∃ i j, y = ix2 i j := ⟨_, _, eq_ix2 y⟩
  exact congrArg (clip (a (ix2 i j))) (bcast_col s hb i j)

theorem fptosi_clipV {n c : ℕ} (a : FVec Ideal (S n c) .f32) (s : FVec Ideal (S n 1) .f32) (hb : Shape.Broadcasts (S n 1) (S n c)) :
    fptosi (F := Ideal) 8 (clipV a s hb) = codes a s := by
  rw [clipV_eq]
  rfl

/-- The codes read back, at any float format. -/
theorem sitofp_codes (φ : FTy) {n c : ℕ} (a : (S n c).Idx → EReal) (s : (S n 1).Idx → EReal) :
    (sitofp (F := Ideal) φ (codes a s) : FVec Ideal (S n c) φ) = clips a s :=
  funext fun y => sitofp_code φ (a y) _

/-- The codes of `k` rows are those rows of the codes. -/
theorem clips_rows {n c k o : ℕ} (h : o + k ≤ n) (a : (S n c).Idx → EReal) (s : (S n 1).Idx → EReal) (x : (S k c).Idx) :
    clips (n := k) (c := c) (View.ld (Val := Elt Ideal) (e' := .f32) a (rows o k h)) (View.ld (Val := Elt Ideal) (e' := .f32) s (rows o k h)) x
      = clips a s ((rows (n := n) (c := c) o k h).emb x) := by
  obtain ⟨i, j, rfl⟩ : ∃ i j, x = ix2 i j := ⟨_, _, eq_ix2 x⟩
  rw [emb_rows]
  exact congrArg₂ clip (ld_rows (α := Elt Ideal) (e := .f32) h a i j) (ld_rows (α := Elt Ideal) (e := .f32) h s i 0)

theorem codes_rows {n c k o : ℕ} (h : o + k ≤ n) (a : (S n c).Idx → EReal) (s : (S n 1).Idx → EReal) (x : (S k c).Idx) :
    codes (n := k) (c := c) (View.ld (Val := Elt Ideal) (e' := .f32) a (rows o k h)) (View.ld (Val := Elt Ideal) (e' := .f32) s (rows o k h)) x
      = codes a s ((rows (n := n) (c := c) o k h).emb x) :=
  congrArg (FloatOps.fptosi (F := Ideal) (φ := .f32) 8) (clips_rows h a s x)

end Cert.Soft

end
-- ==== Proof.Quant.Block.lean ====
/-
  The codes of the input and the scales of its rows, as `quant_x` and its reference compute them.
-/
module

public import proofs.«01_k».proof.Proof.RowMax
public import proofs.«01_k».proof.Proof.Codes
public import proofs.«01_k».proof.Proof.Gen.QuantIdeal.Value
public import proofs.«01_k».proof.Proof.Gen.QuantRefIdeal.Value

@[expose] public section

noncomputable section

namespace Cert.QuantBlock

open Idealize.ShloMosaic Cert.Soft

/-- The clipped quotients of a matrix by the scales of its rows, their codes, and their transpose. -/
def quo {n c : ℕ} (x : (S n c).Idx → EReal) : (S n c).Idx → EReal := clips x (rowScales x)
def cod {n c : ℕ} (x : (S n c).Idx → EReal) : (S n c).Idx → BitVec 8 := codes x (rowScales x)
def quoT {n c : ℕ} (x : (S n c).Idx → EReal) : (S c n).Idx → EReal := fun y => quo x (ix2 (y 1) (y 0))

theorem transpose_quo {n c : ℕ} (x : (S n c).Idx → EReal) (h : Shape.Transposes (S n c) [1, 0] (S c n)) :
    transpose (S c n) [1, 0] (quo x) h = quoT x := by
  funext y
  obtain ⟨i, j, rfl⟩ : ∃ i j, y = ix2 i j := ⟨_, _, eq_ix2 y⟩
  unfold quoT
  refine transpose_apply _ _ _ (ix2 i j) (ix2 j i) ?_
  intro a
  match a with
  | ⟨0, _⟩ => rfl
  | ⟨1, _⟩ => rfl

/-- A matrix read whole. -/
theorem ld_whole {n c : ℕ} {e : EltTy} (x : (S n c).Idx → Elt Ideal e) (h : ∀ a, (![0, 0] : Fin 2 → ℕ) a + (S n c).size a ≤ (S n c).size a) :
    View.ld (Val := Elt Ideal) (e' := e) x (Rect.unit (s := S n c) ![0, 0] (S n c).size h) = x :=
  whole_of x _ (fun y => by show 0 + 1 * (y 0).val = (y 0).val; omega) (fun y => by show 0 + 1 * (y 1).val = (y 1).val; omega)

section kernel

open Cert.QuantIdeal Cert.QuantIdeal.Gen

variable (x : Vec Ideal S384x2048 .bf16)

theorem pay1_eq : k0_pay1 x = x := by
  unfold k0_pay1
  exact shapeCast_self (s := S384x2048) x _
theorem pay2_eq : k0_pay2 x = rowScales (n := 384) (c := 2048) x := by
  refine (show _ = scaleU (n := 384) (c := 2048) (absf (F := Ideal) (φ := .f32) (k0_pay1 x)) reduces_S384x2048_S384 shapeCasts_S384_S384x1 from rfl).trans ?_
  rw [scaleU_absf, pay1_eq]
theorem pay3_eq : k0_pay3 x = quo (n := 384) (c := 2048) x := by
  refine (show _ = clipV (n := 384) (c := 2048) (k0_pay1 x) (k0_pay2 x) broadcasts_S384x1_S384x2048 from rfl).trans ?_
  rw [clipV_eq, pay1_eq, pay2_eq]
  rfl
theorem pay4_eq : k0_pay4 x = cod (n := 384) (c := 2048) x := by
  unfold k0_pay4
  rw [pay3_eq]
  rfl
theorem pay5_eq : k0_pay5 x = quo (n := 384) (c := 2048) x := by
  unfold k0_pay5
  exact pay3_eq x
theorem pay6_eq : k0_pay6 x = quoT (n := 384) (c := 2048) x := by
  unfold k0_pay6
  rw [pay5_eq]
  exact transpose_quo (n := 384) (c := 2048) x _

theorem out1_eq : out0_1 x = cod (n := 384) (c := 2048) x := by
  funext y
  refine View.canon_apply_of_pieces (Val := Elt Ideal) (S := S384x2048) (e := .i8) _ _ ?_ y (cover0_1 _ y)
  simp only [List.forall_mem_cons]
  refine ⟨fun z => ?_, nofun⟩
  refine (congrFun ((congrArg (k0_pay4 (F := Ideal)) (ld_whole (n := 384) (c := 2048) (e := .bf16) x _)).trans (pay4_eq x)) z).trans ?_
  exact (congrFun (whole_of (cod (n := 384) (c := 2048) x) _ (fun y => by show 0 + 1 * (y 0).val = (y 0).val; omega)
    (fun y => by show 0 + 1 * (y 1).val = (y 1).val; omega)) z).symm
theorem out2_eq : out0_2 x = quo (n := 384) (c := 2048) x := by
  funext y
  refine View.canon_apply_of_pieces (Val := Elt Ideal) (S := S384x2048) (e := .bf16) _ _ ?_ y (cover0_2 _ y)
  simp only [List.forall_mem_cons]
  refine ⟨fun z => ?_, nofun⟩
  refine (congrFun ((congrArg (k0_pay5 (F := Ideal)) (ld_whole (n := 384) (c := 2048) (e := .bf16) x _)).trans (pay5_eq x)) z).trans ?_
  exact (congrFun (whole_of (quo (n := 384) (c := 2048) x) _ (fun y => by show 0 + 1 * (y 0).val = (y 0).val; omega)
    (fun y => by show 0 + 1 * (y 1).val = (y 1).val; omega)) z).symm
theorem out3_eq : out0_3 x = quoT (n := 384) (c := 2048) x := by
  funext y
  refine View.canon_apply_of_pieces (Val := Elt Ideal) (S := S2048x384) (e := .bf16) _ _ ?_ y (cover0_3 _ y)
  simp only [List.forall_mem_cons]
  refine ⟨fun z => ?_, nofun⟩
  refine (congrFun ((congrArg (k0_pay6 (F := Ideal)) (ld_whole (n := 384) (c := 2048) (e := .bf16) x _)).trans (pay6_eq x)) z).trans ?_
  exact (congrFun (whole_of (quoT (n := 384) (c := 2048) x) _ (fun y => by show 0 + 1 * (y 0).val = (y 0).val; omega)
    (fun y => by show 0 + 1 * (y 1).val = (y 1).val; omega)) z).symm
theorem out4_eq : out0_4 x = rowScales (n := 384) (c := 2048) x := by
  funext y
  refine View.canon_apply_of_pieces (Val := Elt Ideal) (S := S384x1) (e := .f32) _ _ ?_ y (cover0_4 _ y)
  simp only [List.forall_mem_cons]
  refine ⟨fun z => ?_, nofun⟩
  refine (congrFun ((congrArg (k0_pay2 (F := Ideal)) (ld_whole (n := 384) (c := 2048) (e := .bf16) x _)).trans (pay2_eq x)) z).trans ?_
  exact (congrFun (whole_of (rowScales (n := 384) (c := 2048) x) _ (fun y => by show 0 + 1 * (y 0).val = (y 0).val; omega)
    (fun y => by show 0 + 1 * (y 1).val = (y 1).val; omega)) z).symm

end kernel

section reference

open Cert.QuantRefIdeal Cert.QuantRefIdeal.Gen

variable (x : Vec Ideal S1920x2048 .bf16)

theorem rpay1_eq : k0_pay1 x = x := by
  unfold k0_pay1
  exact shapeCast_self (s := S1920x2048) x _
theorem rpay6_eq : k0_pay6 x = rowScales (n := 1920) (c := 2048) x := by
  refine (show _ = scaleV (n := 1920) (c := 2048) (absf (F := Ideal) (φ := .f32) (k0_pay1 x)) reduces_S1920x2048_S1920 shapeCasts_S1920_S1920x1 from rfl).trans ?_
  rw [scaleV_absf, rpay1_eq]
theorem rpay3_eq : k0_pay3 x = cod (n := 1920) (c := 2048) x := by
  refine (show _ = fptosi (F := Ideal) 8 (clipV (n := 1920) (c := 2048) (k0_pay1 x) (k0_pay6 x) broadcasts_S1920x1_S1920x2048) from rfl).trans ?_
  rw [fptosi_clipV, rpay1_eq, rpay6_eq]
  rfl
theorem rpay4_eq : k0_pay4 x = quo (n := 1920) (c := 2048) x := by
  unfold k0_pay4
  rw [rpay3_eq]
  exact sitofp_codes .bf16 (n := 1920) (c := 2048) x _
theorem rpay5_eq : k0_pay5 x = quoT (n := 1920) (c := 2048) x := by
  unfold k0_pay5
  rw [rpay4_eq]
  exact transpose_quo (n := 1920) (c := 2048) x _

theorem rout1_eq : out0_1 x = cod (n := 1920) (c := 2048) x := by
  funext y
  refine View.canon_apply_of_pieces (Val := Elt Ideal) (S := S1920x2048) (e := .i8) _ _ ?_ y (cover0_1 _ y)
  simp only [List.forall_mem_cons]
  refine ⟨fun z => ?_, nofun⟩
  refine (congrFun ((congrArg (k0_pay3 (F := Ideal)) (ld_whole (n := 1920) (c := 2048) (e := .bf16) x _)).trans (rpay3_eq x)) z).trans ?_
  exact (congrFun (whole_of (cod (n := 1920) (c := 2048) x) _ (fun y => by show 0 + 1 * (y 0).val = (y 0).val; omega)
    (fun y => by show 0 + 1 * (y 1).val = (y 1).val; omega)) z).symm
theorem rout2_eq : out0_2 x = quo (n := 1920) (c := 2048) x := by
  funext y
  refine View.canon_apply_of_pieces (Val := Elt Ideal) (S := S1920x2048) (e := .bf16) _ _ ?_ y (cover0_2 _ y)
  simp only [List.forall_mem_cons]
  refine ⟨fun z => ?_, nofun⟩
  refine (congrFun ((congrArg (k0_pay4 (F := Ideal)) (ld_whole (n := 1920) (c := 2048) (e := .bf16) x _)).trans (rpay4_eq x)) z).trans ?_
  exact (congrFun (whole_of (quo (n := 1920) (c := 2048) x) _ (fun y => by show 0 + 1 * (y 0).val = (y 0).val; omega)
    (fun y => by show 0 + 1 * (y 1).val = (y 1).val; omega)) z).symm
theorem rout3_eq : out0_3 x = quoT (n := 1920) (c := 2048) x := by
  funext y
  refine View.canon_apply_of_pieces (Val := Elt Ideal) (S := S2048x1920) (e := .bf16) _ _ ?_ y (cover0_3 _ y)
  simp only [List.forall_mem_cons]
  refine ⟨fun z => ?_, nofun⟩
  refine (congrFun ((congrArg (k0_pay5 (F := Ideal)) (ld_whole (n := 1920) (c := 2048) (e := .bf16) x _)).trans (rpay5_eq x)) z).trans ?_
  exact (congrFun (whole_of (quoT (n := 1920) (c := 2048) x) _ (fun y => by show 0 + 1 * (y 0).val = (y 0).val; omega)
    (fun y => by show 0 + 1 * (y 1).val = (y 1).val; omega)) z).symm
theorem rout4_eq : out0_4 x = rowScales (n := 1920) (c := 2048) x := by
  funext y
  refine View.canon_apply_of_pieces (Val := Elt Ideal) (S := S1920x1) (e := .f32) _ _ ?_ y (cover0_4 _ y)
  simp only [List.forall_mem_cons]
  refine ⟨fun z => ?_, nofun⟩
  refine (congrFun ((congrArg (k0_pay6 (F := Ideal)) (ld_whole (n := 1920) (c := 2048) (e := .bf16) x _)).trans (rpay6_eq x)) z).trans ?_
  exact (congrFun (whole_of (rowScales (n := 1920) (c := 2048) x) _ (fun y => by show 0 + 1 * (y 0).val = (y 0).val; omega)
    (fun y => by show 0 + 1 * (y 1).val = (y 1).val; omega)) z).symm

end reference

end Cert.QuantBlock

end
-- ==== Proof.Quant.Array.lean ====
/-
  The arrays `quant_x` leaves: the codes of the whole input, their transpose and the scales, put together from blocks of 384 rows.
-/
module

public import proofs.«01_k».proof.Proof.Quant.Block

@[expose] public section

noncomputable section

namespace Cert.QuantArray

open Idealize.ShloMosaic Idealize.ShloMosaic.TcCoe Idealize.SL.Sem Cert.Soft Cert.QuantIdeal Cert.QuantIdeal.Gen Cert.QuantBlock
open Idealize.ShloMosaic.Pipeline (Dat)

variable (m : (ℓ : Loc nD τ sig) → Buf (Elt Ideal) ℓ) (ρ : Dev nD → PrngReg)

/-- Block `t` of rows, and of columns. -/
abbrev rblk {α : Type} {n : ℕ} (t : Fin cfg0.N) (X : (S 1920 n).Idx → α) : (S 384 n).Idx → α := rowBlk 384 5 rfl t X
abbrev cblk {α : Type} {n : ℕ} (t : Fin cfg0.N) (X : (S n 1920).Idx → α) : (S n 384).Idx → α := colBlk 384 5 rfl t X

/-- Which block each window holds at grid point `t`. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = t.val ∧ win0_4.index t (1 : Fin 2) = 0 :=
  (by decide +kernel : ∀ t : Fin grid0.N, _)

/-- The input with its tokens in one column of rows. -/
abbrev inp (x : Vec Ideal S3x640x2048 .bf16) : (S 1920 2048).Idx → EReal := shapeCast S1920x2048 x shapeCasts_S3x640x2048_S1920x2048

theorem V_main_v0 (c : Dev nD) : V m c main_v0 = inp (m ((c : Thread nD τ).loc main_arg0)) := rfl

theorem iblk0 (c : Dev nD) (t : Fin cfg0.N) : iblk m c 0 t = rblk t (inp (m ((c : Thread nD τ).loc main_arg0))) := by
  rw [← V_main_v0 m c]
  have h := idx t
  exact rowBlk_of 384 5 rfl t (V m c main_v0) ((cfg0.win 0).blk t).view.emb
    (fun y => by show win0_0.index t (0 : Fin 2) * 384 + 1 * (y 0).val = 384 * t.val + (y 0).val; omega)
    (fun y => by show win0_0.index t (1 : Fin 2) * 2048 + 1 * (y 1).val = (y 1).val; omega)

/-- The scales of a block of rows are those rows of the scales; so are the codes. -/
theorem rowScales_rblk (t : Fin cfg0.N) (X : (S 1920 2048).Idx → EReal) : rowScales (rblk t X) = rblk t (rowScales X) := rfl
theorem quo_rblk (t : Fin cfg0.N) (X : (S 1920 2048).Idx → EReal) : quo (rblk t X) = rblk t (quo X) := rfl
theorem cod_rblk (t : Fin cfg0.N) (X : (S 1920 2048).Idx → EReal) : cod (rblk t X) = rblk t (cod X) := rfl
theorem quoT_rblk (t : Fin cfg0.N) (X : (S 1920 2048).Idx → EReal) : quoT (rblk t X) = cblk t (quoT X) := rfl

/-- What the launch leaves in its first result. -/
theorem final1 (c : Dev nD) : (dats m 0 c).arrAt 1 cfg0.N = (cod (inp (m ((c : Thread nD τ).loc main_arg0)))) := by
  have hemb : ∀ (t : Fin cfg0.N) (y : S384x2048.Idx), (((cfg0.win 1).blk t).view.emb y 0).val = 384 * t.val + (y 0).val
      ∧ (((cfg0.win 1).blk t).view.emb y 1).val = (y 1).val := fun t y => by
    have h := idx t
    constructor
    · show win0_1.index t (0 : Fin 2) * 384 + 1 * (y 0).val = 384 * t.val + (y 0).val; omega
    · show win0_1.index t (1 : Fin 2) * 2048 + 1 * (y 1).val = (y 1).val; omega
  refine (dats m 0 c).arrAt_eq_of_cover 1 _ (fun t _ => ?_) fun i => ?_
  · rw [Value.flushed1, out1_eq, iblk0, cod_rblk]
    exact (rowBlk_of 384 5 rfl t (cod (inp (m ((c : Thread nD τ).loc main_arg0)))) ((cfg0.win 1).blk t).view.emb (fun y => (hemb t y).1) (fun y => (hemb t y).2)).symm
  · have h0 : (i 0).val < 1920 := (i 0).isLt
    have h1 : (i 1).val < 2048 := (i 1).isLt
    let t : Fin cfg0.N := ⟨(i 0).val / 384, show _ < 5 by omega⟩
    refine ⟨t, flush0_1 t, ?_⟩
    have h := ((cfg0.win 1).blk t).view.emb_mem_set (ix2 ⟨(i 0).val % 384, by omega⟩ (i 1))
    have e : ((cfg0.win 1).blk t).view.emb (ix2 ⟨(i 0).val % 384, by omega⟩ (i 1)) = i := by
      funext a
      match a with
      | ⟨0, _⟩ => exact Fin.ext ((hemb t _).1.trans (Nat.div_add_mod _ 384))
      | ⟨1, _⟩ => exact Fin.ext (hemb t _).2
    rwa [e] at h

/-- What the launch leaves in its second result. -/
theorem final2 (c : Dev nD) : (dats m 0 c).arrAt 2 cfg0.N = (quo (inp (m ((c : Thread nD τ).loc main_arg0)))) := by
  have hemb : ∀ (t : Fin cfg0.N) (y : S384x2048.Idx), (((cfg0.win 2).blk t).view.emb y 0).val = 384 * t.val + (y 0).val
      ∧ (((cfg0.win 2).blk t).view.emb y 1).val = (y 1).val := fun t y => by
    have h := idx t
    constructor
    · show win0_2.index t (0 : Fin 2) * 384 + 1 * (y 0).val = 384 * t.val + (y 0).val; omega
    · show win0_2.index t (1 : Fin 2) * 2048 + 1 * (y 1).val = (y 1).val; omega
  refine (dats m 0 c).arrAt_eq_of_cover 2 _ (fun t _ => ?_) fun i => ?_
  · rw [Value.flushed2, out2_eq, iblk0, quo_rblk]
    exact (rowBlk_of 384 5 rfl t (quo (inp (m ((c : Thread nD τ).loc main_arg0)))) ((cfg0.win 2).blk t).view.emb (fun y => (hemb t y).1) (fun y => (hemb t y).2)).symm
  · have h0 : (i 0).val < 1920 := (i 0).isLt
    have h1 : (i 1).val < 2048 := (i 1).isLt
    let t : Fin cfg0.N := ⟨(i 0).val / 384, show _ < 5 by omega⟩
    refine ⟨t, flush0_2 t, ?_⟩
    have h := ((cfg0.win 2).blk t).view.emb_mem_set (ix2 ⟨(i 0).val % 384, by omega⟩ (i 1))
    have e : ((cfg0.win 2).blk t).view.emb (ix2 ⟨(i 0).val % 384, by omega⟩ (i 1)) = i := by
      funext a
      match a with
      | ⟨0, _⟩ => exact Fin.ext ((hemb t _).1.trans (Nat.div_add_mod _ 384))
      | ⟨1, _⟩ => exact Fin.ext (hemb t _).2
    rwa [e] at h

/-- What the launch leaves in its third result. -/
theorem final3 (c : Dev nD) : (dats m 0 c).arrAt 3 cfg0.N = (quoT (inp (m ((c : Thread nD τ).loc main_arg0)))) := by
  have hemb : ∀ (t : Fin cfg0.N) (y : S2048x384.Idx), (((cfg0.win 3).blk t).view.emb y 0).val = (y 0).val
      ∧ (((cfg0.win 3).blk t).view.emb y 1).val = 384 * t.val + (y 1).val := fun t y => by
    have h := idx t
    constructor
    · show win0_3.index t (0 : Fin 2) * 2048 + 1 * (y 0).val = (y 0).val; omega
    · show win0_3.index t (1 : Fin 2) * 384 + 1 * (y 1).val = 384 * t.val + (y 1).val; omega
  refine (dats m 0 c).arrAt_eq_of_cover 3 _ (fun t _ => ?_) fun i => ?_
  · rw [Value.flushed3, out3_eq, iblk0, quoT_rblk]
    exact (colBlk_of 384 5 rfl t (quoT (inp (m ((c : Thread nD τ).loc main_arg0)))) ((cfg0.win 3).blk t).view.emb (fun y => (hemb t y).1) (fun y => (hemb t y).2)).symm
  · have h0 : (i 0).val < 2048 := (i 0).isLt
    have h1 : (i 1).val < 1920 := (i 1).isLt
    let t : Fin cfg0.N := ⟨(i 1).val / 384, show _ < 5 by omega⟩
    refine ⟨t, flush0_3 t, ?_⟩
    have h := ((cfg0.win 3).blk t).view.emb_mem_set (ix2 (i 0) ⟨(i 1).val % 384, by omega⟩)
    have e : ((cfg0.win 3).blk t).view.emb (ix2 (i 0) ⟨(i 1).val % 384, by omega⟩) = i := by
      funext a
      match a with
      | ⟨0, _⟩ => exact Fin.ext (hemb t _).1
      | ⟨1, _⟩ => exact Fin.ext ((hemb t _).2.trans (Nat.div_add_mod _ 384))
    rwa [e] at h

/-- What the launch leaves in its fourth result. -/
theorem final4 (c : Dev nD) : (dats m 0 c).arrAt 4 cfg0.N = (rowScales (inp (m ((c : Thread nD τ).loc main_arg0)))) := by
  have hemb : ∀ (t : Fin cfg0.N) (y : S384x1.Idx), (((cfg0.win 4).blk t).view.emb y 0).val = 384 * t.val + (y 0).val
      ∧ (((cfg0.win 4).blk t).view.emb y 1).val = (y 1).val := fun t y => by
    have h := idx t
    constructor
    · show win0_4.index t (0 : Fin 2) * 384 + 1 * (y 0).val = 384 * t.val + (y 0).val; omega
    · show win0_4.index t (1 : Fin 2) * 1 + 1 * (y 1).val = (y 1).val; omega
  refine (dats m 0 c).arrAt_eq_of_cover 4 _ (fun t _ => ?_) fun i => ?_
  · rw [Value.flushed4, out4_eq, iblk0, rowScales_rblk]
    exact (rowBlk_of 384 5 rfl t (rowScales (inp (m ((c : Thread nD τ).loc main_arg0)))) ((cfg0.win 4).blk t).view.emb (fun y => (hemb t y).1) (fun y => (hemb t y).2)).symm
  · have h0 : (i 0).val < 1920 := (i 0).isLt
    have h1 : (i 1).val < 1 := (i 1).isLt
    let t : Fin cfg0.N := ⟨(i 0).val / 384, show _ < 5 by omega⟩
    refine ⟨t, flush0_4 t, ?_⟩
    have h := ((cfg0.win 4).blk t).view.emb_mem_set (ix2 ⟨(i 0).val % 384, by omega⟩ (i 1))
    have e : ((cfg0.win 4).blk t).view.emb (ix2 ⟨(i 0).val % 384, by omega⟩ (i 1)) = i := by
      funext a
      match a with
      | ⟨0, _⟩ => exact Fin.ext ((hemb t _).1.trans (Nat.div_add_mod _ 384))
      | ⟨1, _⟩ => exact Fin.ext (hemb t _).2
    rwa [e] at h

end Cert.QuantArray

end
-- ==== Proof.Quant.Ref.lean ====
/-
  The arrays that the reference of `quant_x` leaves: it computes all rows in one step.
-/
module

public import proofs.«01_k».proof.Proof.Quant.Array

@[expose] public section

noncomputable section

namespace Cert.QuantRefs

open Idealize.ShloMosaic Idealize.ShloMosaic.TcCoe Idealize.SL.Sem Cert.Soft Cert.QuantRefIdeal Cert.QuantRefIdeal.Gen Cert.QuantBlock
open Idealize.ShloMosaic.Pipeline (Dat)
open Cert.QuantArray (inp)

variable (m : (ℓ : Loc nD τ sig) → Buf (Elt Ideal) ℓ) (ρ : Dev nD → PrngReg)

/-- Every window holds the whole of its array. -/
theorem idx : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem V_main_v0 (c : Dev nD) : V m c main_v0 = inp (m ((c : Thread nD τ).loc main_arg0)) := rfl

theorem iblk0 (c : Dev nD) (t : Fin cfg0.N) : iblk m c 0 t = inp (m ((c : Thread nD τ).loc main_arg0)) := by
  rw [← V_main_v0 m c]
  have h := idx t
  exact whole_of (V m c main_v0) ((cfg0.win 0).blk t).view.emb
    (fun y => by show win0_0.index t (0 : Fin 2) * 1920 + 1 * (y 0).val = (y 0).val; omega)
    (fun y => by show win0_0.index t (1 : Fin 2) * 2048 + 1 * (y 1).val = (y 1).val; omega)

/-- What the reference leaves in its first result. -/
theorem final1 (c : Dev nD) : (dats m 0 c).arrAt 1 cfg0.N = (cod (inp (m ((c : Thread nD τ).loc main_arg0)))) := by
  have hemb : ∀ (t : Fin cfg0.N) (y : S1920x2048.Idx), (((cfg0.win 1).blk t).view.emb y 0).val = (y 0).val
      ∧ (((cfg0.win 1).blk t).view.emb y 1).val = (y 1).val := fun t y => by
    have h := idx t
    constructor
    · show win0_1.index t (0 : Fin 2) * 1920 + 1 * (y 0).val = (y 0).val; omega
    · show win0_1.index t (1 : Fin 2) * 2048 + 1 * (y 1).val = (y 1).val; omega
  refine (dats m 0 c).arrAt_eq_of_cover 1 _ (fun t _ => ?_) fun i => ?_
  · rw [Value.flushed1, rout1_eq, iblk0]
    exact (whole_of (cod (inp (m ((c : Thread nD τ).loc main_arg0)))) ((cfg0.win 1).blk t).view.emb (fun y => (hemb t y).1) (fun y => (hemb t y).2)).symm
  · let t : Fin cfg0.N := ⟨0, by decide⟩
    refine ⟨t, flush0_1 t, ?_⟩
    have h := ((cfg0.win 1).blk t).view.emb_mem_set i
    have e : ((cfg0.win 1).blk t).view.emb i = i := by
      funext a
      match a with
      | ⟨0, _⟩ => exact Fin.ext (hemb t i).1
      | ⟨1, _⟩ => exact Fin.ext (hemb t i).2
    rwa [e] at h

/-- What the reference leaves in its second result. -/
theorem final2 (c : Dev nD) : (dats m 0 c).arrAt 2 cfg0.N = (quo (inp (m ((c : Thread nD τ).loc main_arg0)))) := by
  have hemb : ∀ (t : Fin cfg0.N) (y : S1920x2048.Idx), (((cfg0.win 2).blk t).view.emb y 0).val = (y 0).val
      ∧ (((cfg0.win 2).blk t).view.emb y 1).val = (y 1).val := fun t y => by
    have h := idx t
    constructor
    · show win0_2.index t (0 : Fin 2) * 1920 + 1 * (y 0).val = (y 0).val; omega
    · show win0_2.index t (1 : Fin 2) * 2048 + 1 * (y 1).val = (y 1).val; omega
  refine (dats m 0 c).arrAt_eq_of_cover 2 _ (fun t _ => ?_) fun i => ?_
  · rw [Value.flushed2, rout2_eq, iblk0]
    exact (whole_of (quo (inp (m ((c : Thread nD τ).loc main_arg0)))) ((cfg0.win 2).blk t).view.emb (fun y => (hemb t y).1) (fun y => (hemb t y).2)).symm
  · let t : Fin cfg0.N := ⟨0, by decide⟩
    refine ⟨t, flush0_2 t, ?_⟩
    have h := ((cfg0.win 2).blk t).view.emb_mem_set i
    have e : ((cfg0.win 2).blk t).view.emb i = i := by
      funext a
      match a with
      | ⟨0, _⟩ => exact Fin.ext (hemb t i).1
      | ⟨1, _⟩ => exact Fin.ext (hemb t i).2
    rwa [e] at h

/-- What the reference leaves in its third result. -/
theorem final3 (c : Dev nD) : (dats m 0 c).arrAt 3 cfg0.N = (quoT (inp (m ((c : Thread nD τ).loc main_arg0)))) := by
  have hemb : ∀ (t : Fin cfg0.N) (y : S2048x1920.Idx), (((cfg0.win 3).blk t).view.emb y 0).val = (y 0).val
      ∧ (((cfg0.win 3).blk t).view.emb y 1).val = (y 1).val := fun t y => by
    have h := idx t
    constructor
    · show win0_3.index t (0 : Fin 2) * 2048 + 1 * (y 0).val = (y 0).val; omega
    · show win0_3.index t (1 : Fin 2) * 1920 + 1 * (y 1).val = (y 1).val; omega
  refine (dats m 0 c).arrAt_eq_of_cover 3 _ (fun t _ => ?_) fun i => ?_
  · rw [Value.flushed3, rout3_eq, iblk0]
    exact (whole_of (quoT (inp (m ((c : Thread nD τ).loc main_arg0)))) ((cfg0.win 3).blk t).view.emb (fun y => (hemb t y).1) (fun y => (hemb t y).2)).symm
  · let t : Fin cfg0.N := ⟨0, by decide⟩
    refine ⟨t, flush0_3 t, ?_⟩
    have h := ((cfg0.win 3).blk t).view.emb_mem_set i
    have e : ((cfg0.win 3).blk t).view.emb i = i := by
      funext a
      match a with
      | ⟨0, _⟩ => exact Fin.ext (hemb t i).1
      | ⟨1, _⟩ => exact Fin.ext (hemb t i).2
    rwa [e] at h

/-- What the reference leaves in its fourth result. -/
theorem final4 (c : Dev nD) : (dats m 0 c).arrAt 4 cfg0.N = (rowScales (inp (m ((c : Thread nD τ).loc main_arg0)))) := by
  have hemb : ∀ (t : Fin cfg0.N) (y : S1920x1.Idx), (((cfg0.win 4).blk t).view.emb y 0).val = (y 0).val
      ∧ (((cfg0.win 4).blk t).view.emb y 1).val = (y 1).val := fun t y => by
    have h := idx t
    constructor
    · show win0_4.index t (0 : Fin 2) * 1920 + 1 * (y 0).val = (y 0).val; omega
    · show win0_4.index t (1 : Fin 2) * 1 + 1 * (y 1).val = (y 1).val; omega
  refine (dats m 0 c).arrAt_eq_of_cover 4 _ (fun t _ => ?_) fun i => ?_
  · rw [Value.flushed4, rout4_eq, iblk0]
    exact (whole_of (rowScales (inp (m ((c : Thread nD τ).loc main_arg0)))) ((cfg0.win 4).blk t).view.emb (fun y => (hemb t y).1) (fun y => (hemb t y).2)).symm
  · let t : Fin cfg0.N := ⟨0, by decide⟩
    refine ⟨t, flush0_4 t, ?_⟩
    have h := ((cfg0.win 4).blk t).view.emb_mem_set i
    have e : ((cfg0.win 4).blk t).view.emb i = i := by
      funext a
      match a with
      | ⟨0, _⟩ => exact Fin.ext (hemb t i).1
      | ⟨1, _⟩ => exact Fin.ext (hemb t i).2
    rwa [e] at h

end Cert.QuantRefs

end
-- ==== Proof.Quant.Algebraic.lean ====
/-
  `quant_x` and its reference end with equal results.
-/
module

public import proofs.«01_k».proof.Proof.Quant.Array
public import proofs.«01_k».proof.Proof.Quant.Ref
public import proofs.«01_k».proof.Defs

@[expose] public section

noncomputable section

namespace Cert.QuantProof

open Idealize.ShloMosaic Idealize.SL.Sem

theorem algebraic : Cert.algebraic_QuantIdeal_QuantRefIdeal (hQuantIdeal := Cert.QuantIdeal.Gen.facts)
    (hQuantRefIdeal := Cert.QuantRefIdeal.Gen.facts) := by
  intro m g m' g' _ hargs
  refine ⟨_, _, _, _, Cert.QuantIdeal.Value.run_blocks (F := Ideal) m g, ?_⟩
  refine (θ_run (Cert.QuantRefIdeal.defs (F := Ideal)) _ _).mono (fun r h c => ?_) (Cert.QuantRefIdeal.Value.run_blocks (F := Ideal) m' g')
  obtain ⟨r0, r1, r2, r3, rest⟩ := h c
  have a0 := hargs c
  refine ⟨r0.trans ?_, r1.trans ?_, r2.trans ?_, r3.trans ?_, rest⟩
  · rw [Cert.QuantRefs.final1, a0]
    exact (Cert.QuantArray.final1 m c).symm
  · rw [Cert.QuantRefs.final2, a0]
    exact (Cert.QuantArray.final2 m c).symm
  · rw [Cert.QuantRefs.final3, a0]
    exact (Cert.QuantArray.final3 m c).symm
  · rw [Cert.QuantRefs.final4, a0]
    exact (Cert.QuantArray.final4 m c).symm

end Cert.QuantProof

end
-- ==== Proof.GateUp.Block.lean ====
/-
  What one grid point of `gate_up` computes. It first puts 256 columns of the two weights together in scratch buffers; then, 384 rows
  at a time, both products, the gate's activation, the two factors the backward pass needs, and the running maximum of each lane. The
  last grid point turns the maxima into the scale of each row.
-/
module

public import proofs.«01_k».proof.Proof.Pieces
public import proofs.«01_k».proof.Proof.RowMax
public import proofs.«01_k».proof.Proof.Gen.GateUpIdeal.Value

@[expose] public section

noncomputable section

namespace Cert.GateUpBlock

open Idealize.ShloMosaic Idealize.ShloMosaic.TcCoe Cert.Soft Cert.GateUpIdeal Cert.GateUpIdeal.Gen

/-- Row `i` of the codes against column `j` of a weight, times the scale of row `i`. -/
def lin {n : ℕ} (x : (S 1920 2048).Idx → EReal) (sx : (S 1920 1).Idx → EReal) (w : (S 2048 n).Idx → EReal) : (S 1920 n).Idx → EReal :=
  fun y => (∑ k : Fin 2048, x (ix2 (y 0) k) * w (ix2 k (y 1))) * sx (ix2 (y 0) 0)

/-- The gate's activation, and with it the up projection. -/
def silu (g : EReal) : EReal := g * sig g
def act (g u : EReal) : EReal := silu g * u
/-- The derivative of the product by the gate. -/
def slope (g u : EReal) : EReal := u * sig g * (K 0x3F800000#32 + g * (K 0x3F800000#32 - sig g))
/-- The larger of the two halves of a row of 256 and what the lane held. -/
def laneMax (a : (S 1920 256).Idx → EReal) (old : (S 1920 128).Idx → EReal) : (S 1920 128).Idx → EReal :=
  fun y => max (old y) (max (mag (a (ix2 (y 0) ⟨0 + (y 1).val, by have : (y 1).val < 128 := (y 1).isLt; omega⟩)))
    (mag (a (ix2 (y 0) ⟨128 + (y 1).val, by have : (y 1).val < 128 := (y 1).isLt; omega⟩))))

/-- What the body stores into a weight's scratch buffer. -/
def wpieces (f : Vec Ideal S2048x256 .i8) (s : Vec Ideal S32x256 .f32) (v : Vec Ideal S2048x256 .f32) : List (View.Piece (Elt Ideal) S2048x256 .bf16) :=
  rowPieces (n := 2048) (c := 256) (k := 64) (fun r h => weightV (View.ld (Val := Elt Ideal) (e' := .i8) f (rows (64 * r) 64 h)) (View.ld (Val := Elt Ideal) (e' := .f32) v (rows (64 * r) 64 h))
    (View.ld s (rows (n := 32) (c := 256) r 1 (by omega))) broadcasts_S1x256_S64x256) 32 (by decide)

/-- The scratch buffer read back whole is the weight. -/
theorem readCov_wpieces {sig : RefSig} {κ : Kind} {sp : Space} (vw : View sig κ sp S2048x256 .bf16) (f : Vec Ideal S2048x256 .i8)
    (s : Vec Ideal S32x256 .f32) (v : Vec Ideal S2048x256 .f32) :
    vw.readCov (wpieces f s v) (rows (n := 2048) (c := 256) 0 2048 (by decide)).toLoadRect = weight (n := 2048) (R := 32) rfl f s v := by
  rw [View.readCov_eq_canon', show View.canon (wpieces f s v) = weight (n := 2048) (R := 32) rfl f s v from
    rowPieces_eq (e := .bf16) (n := 2048) (c := 256) (k := 64) 32 rfl _ _ fun r h x =>
      wpiece_apply (R := 32) rfl h f v _ _ s (fun j => ld_rows (α := Elt Ideal) (e := .f32) _ s 0 j) x]
  exact whole_of (weight (n := 2048) (R := 32) rfl f s v) _ (fun y => by show 0 + 1 * (y 0).val = (y 0).val; omega)
    (fun y => by show 0 + 1 * (y 1).val = (y 1).val; omega)

/-- 384 rows of a product with a weight. -/
def linV (x : Vec Ideal S1920x2048 .bf16) (sx : Vec Ideal S1920x1 .f32) (w : Vec Ideal S2048x256 .bf16) (r : ℕ) (h : 384 * r + 384 ≤ 1920) : FVec Ideal S384x256 .f32 :=
  mulf (φ := .f32) (matmul (φ₁ := .bf16) (φ₂ := .bf16) dot_S384x2048_S2048x256_S384x256_1_0_0_1_n_n none (View.ld x (rows (n := 1920) (c := 2048) (384 * r) 384 h)) w
      (constant S384x256 .f32 0x00000000#32))
    (broadcastTo S384x256 (View.ld sx (rows (n := 1920) (c := 1) (384 * r) 384 h)) broadcasts_S384x1_S384x256)

theorem dot_apply (a : FVec Ideal S384x2048 .bf16) (b : FVec Ideal S2048x256 .bf16) (i : Fin 384) (j : Fin 256) :
    matmul dot_S384x2048_S2048x256_S384x256_1_0_0_1_n_n none a b (constant S384x256 .f32 0x00000000#32) (ix2 i j)
      = ∑ k : Fin 2048, a (ix2 i k) * b (ix2 k j) := by
  pointwise

theorem linV_apply (x : Vec Ideal S1920x2048 .bf16) (sx : Vec Ideal S1920x1 .f32) (w : Vec Ideal S2048x256 .bf16) (r : ℕ) (h : 384 * r + 384 ≤ 1920)
    (y : S384x256.Idx) : linV x sx w r h y = lin (n := 256) x sx w ((rows (n := 1920) (c := 256) (384 * r) 384 h).emb y) := by
  obtain ⟨i, j, rfl⟩ : ∃ i j, y = ix2 i j := ⟨_, _, eq_ix2 y⟩
  rw [emb_rows]
  refine (congrArg₂ (· * ·) (dot_apply _ _ i j) ((bcast_col _ _ i j).trans (ld_rows (α := Elt Ideal) (e := .f32) _ sx i 0))).trans ?_
  refine congrArg₂ (· * ·) (Finset.sum_congr rfl fun k _ => ?_) rfl
  exact congrArg (· * w (ix2 k j)) (ld_rows (α := Elt Ideal) (e := .bf16) _ x i k)

/-- 384 rows of the activation, of the gate's activation alone and of the slope, from both products. -/
def actV (g u : FVec Ideal S384x256 .f32) : FVec Ideal S384x256 .f32 := mulf (φ := .f32) (mulf (φ := .f32) g (logistic g)) u
def siluV (g : FVec Ideal S384x256 .f32) : FVec Ideal S384x256 .f32 := mulf (φ := .f32) g (logistic g)
def slopeV (g u : FVec Ideal S384x256 .f32) : FVec Ideal S384x256 .f32 :=
  mulf (φ := .f32) (mulf (φ := .f32) u (logistic g)) (addf (φ := .f32) (broadcast S384x256 (Scalar.ofBits .f32 0x3F800000#32))
    (mulf (φ := .f32) g (subf (φ := .f32) (broadcast S384x256 (Scalar.ofBits .f32 0x3F800000#32)) (logistic g))))

/-- 384 rows of the running maxima, from the activation there and what the lanes held. -/
def maxV (a : FVec Ideal S384x256 .f32) (old : Vec Ideal S384x128 .f32) : FVec Ideal S384x128 .f32 :=
  shapeCast S384x128 (maximumf (φ := .f32) old (maximumf (φ := .f32) (extractStridedSlice S384x128 ![0, 0] (absf (φ := .f32) a) slices_S384x256_o0_0_S384x128)
    (extractStridedSlice S384x128 ![0, 128] (absf (φ := .f32) a) slices_S384x256_o0_128_S384x128))) shapeCasts_S384x128_S384x128

theorem maxV_apply (a : FVec Ideal S384x256 .f32) (old : Vec Ideal S384x128 .f32) (i : Fin 384) (j : Fin 128) :
    maxV a old (ix2 i j) = max (old (ix2 i j)) (max (mag (a (ix2 i ⟨0 + j.val, by omega⟩)))
      (mag (a (ix2 i ⟨128 + j.val, by omega⟩)))) := by
  unfold maxV
  rw [shapeCast_self]
  refine congrArg₂ max rfl (congrArg₂ max ?_ ?_)
  · refine (extractStridedSlice_apply _ _ _ _ (ix2 i ⟨0 + j.val, by omega⟩) fun a => ?_).trans rfl
    match a with
    | ⟨0, _⟩ => exact (Nat.zero_add _).symm
    | ⟨1, _⟩ => rfl
  · refine (extractStridedSlice_apply _ _ _ _ (ix2 i ⟨128 + j.val, by omega⟩) fun a => ?_).trans rfl
    match a with
    | ⟨0, _⟩ => exact (Nat.zero_add _).symm
    | ⟨1, _⟩ => rfl

variable (x0 : Vec Ideal S1920x2048 .bf16) (x1 : Vec Ideal S1920x1 .f32) (wg wu : Vec Ideal S2048x256 .bf16)

/-- The three blocks a grid point writes, and the maxima it leaves, as the body stores them: five times 384 rows. -/
def actP : List (View.Piece (Elt Ideal) S1920x256 .f32) :=
  rowPieces (e := .f32) (n := 1920) (c := 256) (k := 384) (fun r h => actV (linV x0 x1 wg r h) (linV x0 x1 wu r h)) 5 (by decide)
def siluP : List (View.Piece (Elt Ideal) S1920x256 .f32) :=
  rowPieces (e := .f32) (n := 1920) (c := 256) (k := 384) (fun r h => siluV (linV x0 x1 wg r h)) 5 (by decide)
def slopeP : List (View.Piece (Elt Ideal) S1920x256 .f32) :=
  rowPieces (e := .f32) (n := 1920) (c := 256) (k := 384) (fun r h => slopeV (linV x0 x1 wg r h) (linV x0 x1 wu r h)) 5 (by decide)
def maxP (old : Vec Ideal S1920x128 .f32) : List (View.Piece (Elt Ideal) S1920x128 .f32) :=
  rowPieces (e := .f32) (n := 1920) (c := 128) (k := 384) (fun r h => maxV (actV (linV x0 x1 wg r h) (linV x0 x1 wu r h)) (View.ld old (rows (n := 1920) (c := 128) (384 * r) 384 h))) 5 (by decide)
/-- At the first grid point the maxima start from a store of zeros. -/
abbrev zeros : Vec Ideal S1920x128 .f32 := k0_pay4 (F := Ideal)
def maxP0 : List (View.Piece (Elt Ideal) S1920x128 .f32) := maxP x0 x1 wg wu zeros ++ [⟨rows (n := 1920) (c := 128) 0 1920 (by decide), zeros⟩]

theorem actP_eq : View.canon (actP x0 x1 wg wu) = fun y => act (lin (n := 256) x0 x1 wg y) (lin (n := 256) x0 x1 wu y) :=
  rowPieces_eq (e := .f32) (n := 1920) (c := 256) (k := 384) 5 rfl _ _ fun r h x => congrArg₂ act (linV_apply x0 x1 wg r h x) (linV_apply x0 x1 wu r h x)
theorem siluP_eq : View.canon (siluP x0 x1 wg) = fun y => silu (lin (n := 256) x0 x1 wg y) :=
  rowPieces_eq (e := .f32) (n := 1920) (c := 256) (k := 384) 5 rfl _ _ fun r h x => congrArg silu (linV_apply x0 x1 wg r h x)
theorem slopeP_eq : View.canon (slopeP x0 x1 wg wu) = fun y => slope (lin (n := 256) x0 x1 wg y) (lin (n := 256) x0 x1 wu y) :=
  rowPieces_eq (e := .f32) (n := 1920) (c := 256) (k := 384) 5 rfl _ _ fun r h x => congrArg₂ slope (linV_apply x0 x1 wg r h x) (linV_apply x0 x1 wu r h x)

/-- 384 rows of the maxima are `laneMax` there. -/
theorem maxV_rows (old : Vec Ideal S1920x128 .f32) (r : ℕ) (h : 384 * r + 384 ≤ 1920) (y : S384x128.Idx) :
    maxV (actV (linV x0 x1 wg r h) (linV x0 x1 wu r h)) (View.ld old (rows (n := 1920) (c := 128) (384 * r) 384 h)) y
      = laneMax (fun y => act (lin (n := 256) x0 x1 wg y) (lin (n := 256) x0 x1 wu y)) old ((rows (n := 1920) (c := 128) (384 * r) 384 h).emb y) := by
  obtain ⟨i, j, rfl⟩ : ∃ i j, y = ix2 i j := ⟨_, _, eq_ix2 y⟩
  have e : ∀ k : Fin 256, actV (linV x0 x1 wg r h) (linV x0 x1 wu r h) (ix2 i k)
      = act (lin (n := 256) x0 x1 wg (ix2 ⟨384 * r + i.val, by omega⟩ k)) (lin (n := 256) x0 x1 wu (ix2 ⟨384 * r + i.val, by omega⟩ k)) := fun k => by
    rw [← emb_rows (n := 1920) (c := 256) h i k, ← linV_apply, ← linV_apply]
    rfl
  rw [maxV_apply, e, e, emb_rows, ld_rows (α := Elt Ideal) (e := .f32) h old i j]
  rfl

theorem maxP_eq (old : Vec Ideal S1920x128 .f32) :
    View.canon (maxP x0 x1 wg wu old) = laneMax (fun y => act (lin (n := 256) x0 x1 wg y) (lin (n := 256) x0 x1 wu y)) old :=
  rowPieces_eq (e := .f32) (n := 1920) (c := 128) (k := 384) 5 rfl _ _ (maxV_rows x0 x1 wg wu old)
theorem maxP0_eq :
    View.canon (maxP0 x0 x1 wg wu) = laneMax (fun y => act (lin (n := 256) x0 x1 wg y) (lin (n := 256) x0 x1 wu y)) zeros :=
  rowPieces_append (e := .f32) (n := 1920) (c := 128) (k := 384) 5 rfl _ _ (maxV_rows x0 x1 wg wu zeros) _

variable (c : Dev nD) (i : grid0.Coords)
  (arg1 : Memref sig .tc .vmem S1920x2048 .bf16) (harg1 : arg1.IsWhole) (arg2 : Memref sig .tc .vmem S1920x1 .f32) (harg2 : arg2.IsWhole) (arg3 : Memref sig .tc .vmem S2048x256 .i8) (harg3 : arg3.IsWhole) (arg4 : Memref sig .tc .vmem S32x256 .f32) (harg4 : arg4.IsWhole) (arg5 : Memref sig .tc .vmem S2048x256 .f32) (harg5 : arg5.IsWhole) (arg6 : Memref sig .tc .vmem S2048x256 .i8) (harg6 : arg6.IsWhole) (arg7 : Memref sig .tc .vmem S32x256 .f32) (harg7 : arg7.IsWhole) (arg8 : Memref sig .tc .vmem S2048x256 .f32) (harg8 : arg8.IsWhole) (arg9 : Memref sig .tc .vmem S1920x256 .f32) (harg9 : arg9.IsWhole) (arg10 : Memref sig .tc .vmem S1920x256 .f32) (harg10 : arg10.IsWhole) (arg11 : Memref sig .tc .vmem S1920x256 .f32) (harg11 : arg11.IsWhole) (arg12 : Memref sig .tc .vmem S1920x1 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S1920x128 .f32) (harg15 : arg15.IsWhole)
  (x2 : Vec Ideal S2048x256 .i8) (x3 : Vec Ideal S32x256 .f32) (x4 : Vec Ideal S2048x256 .f32)
  (x5 : Vec Ideal S2048x256 .i8) (x6 : Vec Ideal S32x256 .f32) (x7 : Vec Ideal S2048x256 .f32) (xs2 : Vec Ideal S1920x128 .f32)

/-- The two products of a grid point. -/
abbrev gate : (S 1920 256).Idx → EReal := lin (n := 256) x0 x1 (weight (n := 2048) (R := 32) rfl x2 x3 x4)
abbrev up : (S 1920 256).Idx → EReal := lin (n := 256) x0 x1 (weight (n := 2048) (R := 32) rfl x5 x6 x7)

/-! The first grid point. -/

theorem out0_A_8_stores (hc0 : cond0_0 i) (hc1 : ¬cond0_1 i) (hg : arg13.view.readCov (wpieces x2 x3 x4) (rows (n := 2048) (c := 256) 0 2048 (by decide)).toLoadRect = wg) (hu : arg14.view.readCov (wpieces x5 x6 x7) (rows (n := 2048) (c := 256) 0 2048 (by decide)).toLoadRect = wu) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = View.canon (actP x0 x1 wg wu) := by
  subst hg hu
  frame_out
  rfl

theorem out0_A_8_eq (hc0 : cond0_0 i) (hc1 : ¬cond0_1 i) : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = (fun y => act (gate x0 x1 x2 x3 x4 y) (up x0 x1 x5 x6 x7 y)) := by
  rw [out0_A_8_stores (hg := readCov_wpieces arg13.view x2 x3 x4) (hu := readCov_wpieces arg14.view x5 x6 x7), actP_eq]

theorem out0_A_9_stores (hc0 : cond0_0 i) (hc1 : ¬cond0_1 i) (hg : arg13.view.readCov (wpieces x2 x3 x4) (rows (n := 2048) (c := 256) 0 2048 (by decide)).toLoadRect = wg) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = View.canon (siluP x0 x1 wg) := by
  subst hg
  frame_out
  rfl

theorem out0_A_9_eq (hc0 : cond0_0 i) (hc1 : ¬cond0_1 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = fun y => silu (gate x0 x1 x2 x3 x4 y) := by
  rw [out0_A_9_stores (hg := readCov_wpieces arg13.view x2 x3 x4), siluP_eq]

theorem out0_A_10_stores (hc0 : cond0_0 i) (hc1 : ¬cond0_1 i) (hg : arg13.view.readCov (wpieces x2 x3 x4) (rows (n := 2048) (c := 256) 0 2048 (by decide)).toLoadRect = wg) (hu : arg14.view.readCov (wpieces x5 x6 x7) (rows (n := 2048) (c := 256) 0 2048 (by decide)).toLoadRect = wu) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = View.canon (slopeP x0 x1 wg wu) := by
  subst hg hu
  frame_out
  rfl

theorem out0_A_10_eq (hc0 : cond0_0 i) (hc1 : ¬cond0_1 i) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = fun y => slope (gate x0 x1 x2 x3 x4 y) (up x0 x1 x5 x6 x7 y) := by
  rw [out0_A_10_stores (hg := readCov_wpieces arg13.view x2 x3 x4) (hu := readCov_wpieces arg14.view x5 x6 x7), slopeP_eq]

theorem sout0_A_2_stores (hc0 : cond0_0 i) (hc1 : ¬cond0_1 i) (hg : arg13.view.readCov (wpieces x2 x3 x4) (rows (n := 2048) (c := 256) 0 2048 (by decide)).toLoadRect = wg) (hu : arg14.view.readCov (wpieces x5 x6 x7) (rows (n := 2048) (c := 256) 0 2048 (by decide)).toLoadRect = wu) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = View.canon (maxP0 x0 x1 wg wu) := by
  subst hg hu
  frame_out [↓View.readCov_skip, View.readCov_fill]
  rfl

theorem sout0_A_2_eq (hc0 : cond0_0 i) (hc1 : ¬cond0_1 i) : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = laneMax (fun y => act (gate x0 x1 x2 x3 x4 y) (up x0 x1 x5 x6 x7 y)) zeros := by
  rw [sout0_A_2_stores (hg := readCov_wpieces arg13.view x2 x3 x4) (hu := readCov_wpieces arg14.view x5 x6 x7), maxP0_eq]

/-! A grid point between the first and the last. -/

theorem out0_B_8_stores (hc0 : ¬cond0_0 i) (hc1 : ¬cond0_1 i) (hg : arg13.view.readCov (wpieces x2 x3 x4) (rows (n := 2048) (c := 256) 0 2048 (by decide)).toLoadRect = wg) (hu : arg14.view.readCov (wpieces x5 x6 x7) (rows (n := 2048) (c := 256) 0 2048 (by decide)).toLoadRect = wu) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = View.canon (actP x0 x1 wg wu) := by
  subst hg hu
  frame_out
  rfl

theorem out0_B_8_eq (hc0 : ¬cond0_0 i) (hc1 : ¬cond0_1 i) : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = (fun y => act (gate x0 x1 x2 x3 x4 y) (up x0 x1 x5 x6 x7 y)) := by
  rw [out0_B_8_stores (hg := readCov_wpieces arg13.view x2 x3 x4) (hu := readCov_wpieces arg14.view x5 x6 x7), actP_eq]

theorem out0_B_9_stores (hc0 : ¬cond0_0 i) (hc1 : ¬cond0_1 i) (hg : arg13.view.readCov (wpieces x2 x3 x4) (rows (n := 2048) (c := 256) 0 2048 (by decide)).toLoadRect = wg) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = View.canon (siluP x0 x1 wg) := by
  subst hg
  frame_out
  rfl

theorem out0_B_9_eq (hc0 : ¬cond0_0 i) (hc1 : ¬cond0_1 i) : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = fun y => silu (gate x0 x1 x2 x3 x4 y) := by
  rw [out0_B_9_stores (hg := readCov_wpieces arg13.view x2 x3 x4), siluP_eq]

theorem out0_B_10_stores (hc0 : ¬cond0_0 i) (hc1 : ¬cond0_1 i) (hg : arg13.view.readCov (wpieces x2 x3 x4) (rows (n := 2048) (c := 256) 0 2048 (by decide)).toLoadRect = wg) (hu : arg14.view.readCov (wpieces x5 x6 x7) (rows (n := 2048) (c := 256) 0 2048 (by decide)).toLoadRect = wu) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = View.canon (slopeP x0 x1 wg wu) := by
  subst hg hu
  frame_out
  rfl

theorem out0_B_10_eq (hc0 : ¬cond0_0 i) (hc1 : ¬cond0_1 i) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = fun y => slope (gate x0 x1 x2 x3 x4 y) (up x0 x1 x5 x6 x7 y) := by
  rw [out0_B_10_stores (hg := readCov_wpieces arg13.view x2 x3 x4) (hu := readCov_wpieces arg14.view x5 x6 x7), slopeP_eq]

theorem sout0_B_2_stores (hc0 : ¬cond0_0 i) (hc1 : ¬cond0_1 i) (hg : arg13.view.readCov (wpieces x2 x3 x4) (rows (n := 2048) (c := 256) 0 2048 (by decide)).toLoadRect = wg) (hu : arg14.view.readCov (wpieces x5 x6 x7) (rows (n := 2048) (c := 256) 0 2048 (by decide)).toLoadRect = wu) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = View.canon (maxP x0 x1 wg wu xs2) := by
  subst hg hu
  frame_out
  rfl

theorem sout0_B_2_eq (hc0 : ¬cond0_0 i) (hc1 : ¬cond0_1 i) : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = laneMax (fun y => act (gate x0 x1 x2 x3 x4 y) (up x0 x1 x5 x6 x7 y)) xs2 := by
  rw [sout0_B_2_stores (hg := readCov_wpieces arg13.view x2 x3 x4) (hu := readCov_wpieces arg14.view x5 x6 x7), maxP_eq]

/-! The last grid point. -/

theorem out0_C_8_stores (hc0 : ¬cond0_0 i) (hc1 : cond0_1 i) (hg : arg13.view.readCov (wpieces x2 x3 x4) (rows (n := 2048) (c := 256) 0 2048 (by decide)).toLoadRect = wg) (hu : arg14.view.readCov (wpieces x5 x6 x7) (rows (n := 2048) (c := 256) 0 2048 (by decide)).toLoadRect = wu) :
    out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = View.canon (actP x0 x1 wg wu) := by
  subst hg hu
  frame_out
  rfl

theorem out0_C_8_eq (hc0 : ¬cond0_0 i) (hc1 : cond0_1 i) : out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = (fun y => act (gate x0 x1 x2 x3 x4 y) (up x0 x1 x5 x6 x7 y)) := by
  rw [out0_C_8_stores (hg := readCov_wpieces arg13.view x2 x3 x4) (hu := readCov_wpieces arg14.view x5 x6 x7), actP_eq]

theorem out0_C_9_stores (hc0 : ¬cond0_0 i) (hc1 : cond0_1 i) (hg : arg13.view.readCov (wpieces x2 x3 x4) (rows (n := 2048) (c := 256) 0 2048 (by decide)).toLoadRect = wg) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = View.canon (siluP x0 x1 wg) := by
  subst hg
  frame_out
  rfl

theorem out0_C_9_eq (hc0 : ¬cond0_0 i) (hc1 : cond0_1 i) : out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = fun y => silu (gate x0 x1 x2 x3 x4 y) := by
  rw [out0_C_9_stores (hg := readCov_wpieces arg13.view x2 x3 x4), siluP_eq]

theorem out0_C_10_stores (hc0 : ¬cond0_0 i) (hc1 : cond0_1 i) (hg : arg13.view.readCov (wpieces x2 x3 x4) (rows (n := 2048) (c := 256) 0 2048 (by decide)).toLoadRect = wg) (hu : arg14.view.readCov (wpieces x5 x6 x7) (rows (n := 2048) (c := 256) 0 2048 (by decide)).toLoadRect = wu) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = View.canon (slopeP x0 x1 wg wu) := by
  subst hg hu
  frame_out
  rfl

theorem out0_C_10_eq (hc0 : ¬cond0_0 i) (hc1 : cond0_1 i) : out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = fun y => slope (gate x0 x1 x2 x3 x4 y) (up x0 x1 x5 x6 x7 y) := by
  rw [out0_C_10_stores (hg := readCov_wpieces arg13.view x2 x3 x4) (hu := readCov_wpieces arg14.view x5 x6 x7), slopeP_eq]

theorem sout0_C_2_stores (hc0 : ¬cond0_0 i) (hc1 : cond0_1 i) (hg : arg13.view.readCov (wpieces x2 x3 x4) (rows (n := 2048) (c := 256) 0 2048 (by decide)).toLoadRect = wg) (hu : arg14.view.readCov (wpieces x5 x6 x7) (rows (n := 2048) (c := 256) 0 2048 (by decide)).toLoadRect = wu) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = View.canon (maxP x0 x1 wg wu xs2) := by
  subst hg hu
  frame_out
  rfl

theorem sout0_C_2_eq (hc0 : ¬cond0_0 i) (hc1 : cond0_1 i) : sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = laneMax (fun y => act (gate x0 x1 x2 x3 x4 y) (up x0 x1 x5 x6 x7 y)) xs2 := by
  rw [sout0_C_2_stores (hg := readCov_wpieces arg13.view x2 x3 x4) (hu := readCov_wpieces arg14.view x5 x6 x7), maxP_eq]

theorem out0_C_11_stores (hc0 : ¬cond0_0 i) (hc1 : cond0_1 i) (hg : arg13.view.readCov (wpieces x2 x3 x4) (rows (n := 2048) (c := 256) 0 2048 (by decide)).toLoadRect = wg) (hu : arg14.view.readCov (wpieces x5 x6 x7) (rows (n := 2048) (c := 256) 0 2048 (by decide)).toLoadRect = wu) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = k0_pay3 (F := Ideal) (arg15.view.readCov (maxP x0 x1 wg wu xs2) (rows (n := 1920) (c := 128) 0 1920 (by decide)).toLoadRect) := by
  subst hg hu
  frame_out
  rfl

theorem out0_C_11_eq (hc0 : ¬cond0_0 i) (hc1 : cond0_1 i) : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs2 = k0_pay3 (F := Ideal) (laneMax (fun y => act (gate x0 x1 x2 x3 x4 y) (up x0 x1 x5 x6 x7 y)) xs2) := by
  rw [out0_C_11_stores (hg := readCov_wpieces arg13.view x2 x3 x4) (hu := readCov_wpieces arg14.view x5 x6 x7), View.readCov_eq_canon', maxP_eq]
  exact congrArg (k0_pay3 (F := Ideal)) (whole_of (laneMax (fun y => act (gate x0 x1 x2 x3 x4 y) (up x0 x1 x5 x6 x7 y)) xs2) _ (fun y => by show 0 + 1 * (y 0).val = (y 0).val; omega)
    (fun y => by show 0 + 1 * (y 1).val = (y 1).val; omega))

/-- The scales of the rows, from the maxima of the lanes. -/
theorem pay3_apply (x : Vec Ideal S1920x128 .f32) (i : Fin 1920) : k0_pay3 (F := Ideal) x (ix2 i 0) = scaleOf (rowMax (n := 1920) (c := 128) x i) := by
  unfold k0_pay3
  refine (congrArg scaleOf ?_ : scaleOf (shapeCast S1920x1 (multiReduction .maximumf [1] S1920 (F := Ideal) (φ := .f32) x 0xFF800000#32 reduces_S1920x128_S1920 (.inl rfl) rfl) shapeCasts_S1920_S1920x1 (ix2 i 0)) = _)
  exact (upright _ _ i).trans (multiReduction_rowMax x _ _ _ i)

end Cert.GateUpBlock

end
-- ==== Proof.GateUp.Array.lean ====
/-
  The arrays `gate_up` leaves, put together from their blocks of 256 columns, and the scale of each row from the maxima of all blocks.
-/
module

public import proofs.«01_k».proof.Proof.GateUp.Block

@[expose] public section

noncomputable section

namespace Cert.GateUpArray

open Idealize.ShloMosaic Idealize.ShloMosaic.TcCoe Idealize.SL.Sem Cert.Soft Cert.GateUpIdeal Cert.GateUpIdeal.Gen Cert.GateUpBlock
open Idealize.ShloMosaic.Pipeline (Dat)

/-- The activation, the gate's activation and the slope over whole matrices. -/
def gateW {n : ℕ} (x0 : (S 1920 2048).Idx → EReal) (x1 : (S 1920 1).Idx → EReal) (f : (S 2048 n).Idx → BitVec 8) (s : (S 32 n).Idx → EReal)
    (v : (S 2048 n).Idx → EReal) : (S 1920 n).Idx → EReal := lin x0 x1 (weight (R := 32) rfl f s v)

variable (m : (ℓ : Loc nD τ sig) → Buf (Elt Ideal) ℓ) (ρ : Dev nD → PrngReg)

/-- Block `t` of columns of an array with 16384 columns. -/
abbrev cblk {α : Type} {n : ℕ} (t : Fin cfg0.N) (X : (S n 16384).Idx → α) : (S n 256).Idx → α := colBlk 256 64 rfl t X

/-- Which block each window holds at grid point `t`. -/
theorem idx : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val
    ∧ win0_9.index t (0 : Fin 2) = 0 ∧ win0_9.index t (1 : Fin 2) = t.val
    ∧ win0_10.index t (0 : Fin 2) = 0 ∧ win0_10.index t (1 : Fin 2) = t.val
    ∧ win0_11.index t (0 : Fin 2) = 0 ∧ win0_11.index t (1 : Fin 2) = 0 :=
  (by decide +kernel : ∀ t : Fin grid0.N, _)

theorem iblk0 (c : Dev nD) (t : Fin cfg0.N) : iblk m c 0 t = m ((c : Thread nD τ).loc main_arg0) := by
  rw [← V_main_arg0 m c]
  have h := idx t
  exact whole_of (V m c main_arg0) ((cfg0.win 0).blk t).view.emb
    (fun y => by show win0_0.index t (0 : Fin 2) * 1920 + 1 * (y 0).val = (y 0).val; omega)
    (fun y => by show win0_0.index t (1 : Fin 2) * 2048 + 1 * (y 1).val = (y 1).val; omega)

theorem iblk1 (c : Dev nD) (t : Fin cfg0.N) : iblk m c 1 t = m ((c : Thread nD τ).loc main_arg1) := by
  rw [← V_main_arg1 m c]
  have h := idx t
  exact whole_of (V m c main_arg1) ((cfg0.win 1).blk t).view.emb
    (fun y => by show win0_1.index t (0 : Fin 2) * 1920 + 1 * (y 0).val = (y 0).val; omega)
    (fun y => by show win0_1.index t (1 : Fin 2) * 1 + 1 * (y 1).val = (y 1).val; omega)

theorem iblk2 (c : Dev nD) (t : Fin cfg0.N) : iblk m c 2 t = cblk t (m ((c : Thread nD τ).loc main_arg2)) := by
  rw [← V_main_arg2 m c]
  have h := idx t
  exact colBlk_of 256 64 rfl t (V m c main_arg2) ((cfg0.win 2).blk t).view.emb
    (fun y => by show win0_2.index t (0 : Fin 2) * 2048 + 1 * (y 0).val = (y 0).val; omega)
    (fun y => by show win0_2.index t (1 : Fin 2) * 256 + 1 * (y 1).val = 256 * t.val + (y 1).val; omega)

theorem iblk3 (c : Dev nD) (t : Fin cfg0.N) : iblk m c 3 t = cblk t (m ((c : Thread nD τ).loc main_arg3)) := by
  rw [← V_main_arg3 m c]
  have h := idx t
  exact colBlk_of 256 64 rfl t (V m c main_arg3) ((cfg0.win 3).blk t).view.emb
    (fun y => by show win0_3.index t (0 : Fin 2) * 32 + 1 * (y 0).val = (y 0).val; omega)
    (fun y => by show win0_3.index t (1 : Fin 2) * 256 + 1 * (y 1).val = 256 * t.val + (y 1).val; omega)

theorem iblk4 (c : Dev nD) (t : Fin cfg0.N) : iblk m c 4 t = cblk t (m ((c : Thread nD τ).loc main_arg4)) := by
  rw [← V_main_arg4 m c]
  have h := idx t
  exact colBlk_of 256 64 rfl t (V m c main_arg4) ((cfg0.win 4).blk t).view.emb
    (fun y => by show win0_4.index t (0 : Fin 2) * 2048 + 1 * (y 0).val = (y 0).val; omega)
    (fun y => by show win0_4.index t (1 : Fin 2) * 256 + 1 * (y 1).val = 256 * t.val + (y 1).val; omega)

theorem iblk5 (c : Dev nD) (t : Fin cfg0.N) : iblk m c 5 t = cblk t (m ((c : Thread nD τ).loc main_arg5)) := by
  rw [← V_main_arg5 m c]
  have h := idx t
  exact colBlk_of 256 64 rfl t (V m c main_arg5) ((cfg0.win 5).blk t).view.emb
    (fun y => by show win0_5.index t (0 : Fin 2) * 2048 + 1 * (y 0).val = (y 0).val; omega)
    (fun y => by show win0_5.index t (1 : Fin 2) * 256 + 1 * (y 1).val = 256 * t.val + (y 1).val; omega)

theorem iblk6 (c : Dev nD) (t : Fin cfg0.N) : iblk m c 6 t = cblk t (m ((c : Thread nD τ).loc main_arg6)) := by
  rw [← V_main_arg6 m c]
  have h := idx t
  exact colBlk_of 256 64 rfl t (V m c main_arg6) ((cfg0.win 6).blk t).view.emb
    (fun y => by show win0_6.index t (0 : Fin 2) * 32 + 1 * (y 0).val = (y 0).val; omega)
    (fun y => by show win0_6.index t (1 : Fin 2) * 256 + 1 * (y 1).val = 256 * t.val + (y 1).val; omega)

theorem iblk7 (c : Dev nD) (t : Fin cfg0.N) : iblk m c 7 t = cblk t (m ((c : Thread nD τ).loc main_arg7)) := by
  rw [← V_main_arg7 m c]
  have h := idx t
  exact colBlk_of 256 64 rfl t (V m c main_arg7) ((cfg0.win 7).blk t).view.emb
    (fun y => by show win0_7.index t (0 : Fin 2) * 2048 + 1 * (y 0).val = (y 0).val; omega)
    (fun y => by show win0_7.index t (1 : Fin 2) * 256 + 1 * (y 1).val = 256 * t.val + (y 1).val; omega)

/-- The two products over whole matrices. -/
abbrev gateA (c : Dev nD) : (S 1920 16384).Idx → EReal := gateW (m ((c : Thread nD τ).loc main_arg0)) (m ((c : Thread nD τ).loc main_arg1)) (m ((c : Thread nD τ).loc main_arg2)) (m ((c : Thread nD τ).loc main_arg3)) (m ((c : Thread nD τ).loc main_arg4))
abbrev upA (c : Dev nD) : (S 1920 16384).Idx → EReal := gateW (m ((c : Thread nD τ).loc main_arg0)) (m ((c : Thread nD τ).loc main_arg1)) (m ((c : Thread nD τ).loc main_arg5)) (m ((c : Thread nD τ).loc main_arg6)) (m ((c : Thread nD τ).loc main_arg7))
/-- The activation over whole matrices. -/
abbrev actA (c : Dev nD) : (S 1920 16384).Idx → EReal := fun y => act (gateA m c y) (upA m c y)

/-- The products of a grid point are blocks of the whole products. -/
theorem gate_blk (c : Dev nD) (t : Fin cfg0.N) : gate (iblk m c 0 t) (iblk m c 1 t) (iblk m c 2 t) (iblk m c 3 t) (iblk m c 4 t) = cblk t (gateA m c) := by
  rw [iblk0, iblk1, iblk2, iblk3, iblk4]
  rfl
theorem up_blk (c : Dev nD) (t : Fin cfg0.N) : up (iblk m c 0 t) (iblk m c 1 t) (iblk m c 5 t) (iblk m c 6 t) (iblk m c 7 t) = cblk t (upA m c) := by
  rw [iblk0, iblk1, iblk5, iblk6, iblk7]
  rfl

/-- What a grid point writes back to the first result. -/
theorem flushed8 (c : Dev nD) (t : Fin cfg0.N) : (dats m 0 c).flushed 8 t = (cfg0.win 8).cut (grid0.coords t) (cblk t (fun y => act (gateA m c y) (upA m c y))) := by
  by_cases h0 : t.val % 64 = 0
  · rw [Value.flushed8_A m c t h0 (by omega), out0_A_8_eq, gate_blk, up_blk]
    rfl
  · by_cases h1 : t.val % 64 = 63
    · rw [Value.flushed8_C m c t h0 h1, out0_C_8_eq, gate_blk, up_blk]
      rfl
    · rw [Value.flushed8_B m c t h0 h1, out0_B_8_eq, gate_blk, up_blk]
      rfl

/-- What the launch leaves in its first result. -/
theorem final8 (c : Dev nD) : (dats m 0 c).arrAt 8 cfg0.N = (fun y => act (gateA m c y) (upA m c y)) := by
  have hemb : ∀ (t : Fin cfg0.N) (y : S1920x256.Idx), (((cfg0.win 8).blk t).view.emb y 0).val = (y 0).val
      ∧ (((cfg0.win 8).blk t).view.emb y 1).val = 256 * t.val + (y 1).val := fun t y => by
    have h := idx t
    constructor
    · show win0_8.index t (0 : Fin 2) * 1920 + 1 * (y 0).val = (y 0).val; omega
    · show win0_8.index t (1 : Fin 2) * 256 + 1 * (y 1).val = 256 * t.val + (y 1).val; omega
  refine (dats m 0 c).arrAt_eq_of_cover 8 _ (fun t _ => ?_) fun i => ?_
  · rw [flushed8]
    exact (colBlk_of 256 64 rfl t (fun y => act (gateA m c y) (upA m c y)) ((cfg0.win 8).blk t).view.emb (fun y => (hemb t y).1) (fun y => (hemb t y).2)).symm
  · have h0 : (i 0).val < 1920 := (i 0).isLt
    have h1 : (i 1).val < 16384 := (i 1).isLt
    let t : Fin cfg0.N := ⟨(i 1).val / 256, show _ < 64 by omega⟩
    refine ⟨t, flush0_8 t, ?_⟩
    have h := ((cfg0.win 8).blk t).view.emb_mem_set (ix2 (i 0) ⟨(i 1).val % 256, by omega⟩)
    have e : ((cfg0.win 8).blk t).view.emb (ix2 (i 0) ⟨(i 1).val % 256, by omega⟩) = i := by
      funext a
      match a with
      | ⟨0, _⟩ => exact Fin.ext (hemb t _).1
      | ⟨1, _⟩ => exact Fin.ext ((hemb t _).2.trans (Nat.div_add_mod _ 256))
    rwa [e] at h

/-- What a grid point writes back to the second result. -/
theorem flushed9 (c : Dev nD) (t : Fin cfg0.N) : (dats m 0 c).flushed 9 t = (cfg0.win 9).cut (grid0.coords t) (cblk t (fun y => silu (gateA m c y))) := by
  by_cases h0 : t.val % 64 = 0
  · rw [Value.flushed9_A m c t h0 (by omega), out0_A_9_eq, gate_blk]
    rfl
  · by_cases h1 : t.val % 64 = 63
    · rw [Value.flushed9_C m c t h0 h1, out0_C_9_eq, gate_blk]
      rfl
    · rw [Value.flushed9_B m c t h0 h1, out0_B_9_eq, gate_blk]
      rfl

/-- What the launch leaves in its second result. -/
theorem final9 (c : Dev nD) : (dats m 0 c).arrAt 9 cfg0.N = (fun y => silu (gateA m c y)) := by
  have hemb : ∀ (t : Fin cfg0.N) (y : S1920x256.Idx), (((cfg0.win 9).blk t).view.emb y 0).val = (y 0).val
      ∧ (((cfg0.win 9).blk t).view.emb y 1).val = 256 * t.val + (y 1).val := fun t y => by
    have h := idx t
    constructor
    · show win0_9.index t (0 : Fin 2) * 1920 + 1 * (y 0).val = (y 0).val; omega
    · show win0_9.index t (1 : Fin 2) * 256 + 1 * (y 1).val = 256 * t.val + (y 1).val; omega
  refine (dats m 0 c).arrAt_eq_of_cover 9 _ (fun t _ => ?_) fun i => ?_
  · rw [flushed9]
    exact (colBlk_of 256 64 rfl t (fun y => silu (gateA m c y)) ((cfg0.win 9).blk t).view.emb (fun y => (hemb t y).1) (fun y => (hemb t y).2)).symm
  · have h0 : (i 0).val < 1920 := (i 0).isLt
    have h1 : (i 1).val < 16384 := (i 1).isLt
    let t : Fin cfg0.N := ⟨(i 1).val / 256, show _ < 64 by omega⟩
    refine ⟨t, flush0_9 t, ?_⟩
    have h := ((cfg0.win 9).blk t).view.emb_mem_set (ix2 (i 0) ⟨(i 1).val % 256, by omega⟩)
    have e : ((cfg0.win 9).blk t).view.emb (ix2 (i 0) ⟨(i 1).val % 256, by omega⟩) = i := by
      funext a
      match a with
      | ⟨0, _⟩ => exact Fin.ext (hemb t _).1
      | ⟨1, _⟩ => exact Fin.ext ((hemb t _).2.trans (Nat.div_add_mod _ 256))
    rwa [e] at h

/-- What a grid point writes back to the third result. -/
theorem flushed10 (c : Dev nD) (t : Fin cfg0.N) : (dats m 0 c).flushed 10 t = (cfg0.win 10).cut (grid0.coords t) (cblk t (fun y => slope (gateA m c y) (upA m c y))) := by
  by_cases h0 : t.val % 64 = 0
  · rw [Value.flushed10_A m c t h0 (by omega), out0_A_10_eq, gate_blk, up_blk]
    rfl
  · by_cases h1 : t.val % 64 = 63
    · rw [Value.flushed10_C m c t h0 h1, out0_C_10_eq, gate_blk, up_blk]
      rfl
    · rw [Value.flushed10_B m c t h0 h1, out0_B_10_eq, gate_blk, up_blk]
      rfl

/-- What the launch leaves in its third result. -/
theorem final10 (c : Dev nD) : (dats m 0 c).arrAt 10 cfg0.N = (fun y => slope (gateA m c y) (upA m c y)) := by
  have hemb : ∀ (t : Fin cfg0.N) (y : S1920x256.Idx), (((cfg0.win 10).blk t).view.emb y 0).val = (y 0).val
      ∧ (((cfg0.win 10).blk t).view.emb y 1).val = 256 * t.val + (y 1).val := fun t y => by
    have h := idx t
    constructor
    · show win0_10.index t (0 : Fin 2) * 1920 + 1 * (y 0).val = (y 0).val; omega
    · show win0_10.index t (1 : Fin 2) * 256 + 1 * (y 1).val = 256 * t.val + (y 1).val; omega
  refine (dats m 0 c).arrAt_eq_of_cover 10 _ (fun t _ => ?_) fun i => ?_
  · rw [flushed10]
    exact (colBlk_of 256 64 rfl t (fun y => slope (gateA m c y) (upA m c y)) ((cfg0.win 10).blk t).view.emb (fun y => (hemb t y).1) (fun y => (hemb t y).2)).symm
  · have h0 : (i 0).val < 1920 := (i 0).isLt
    have h1 : (i 1).val < 16384 := (i 1).isLt
    let t : Fin cfg0.N := ⟨(i 1).val / 256, show _ < 64 by omega⟩
    refine ⟨t, flush0_10 t, ?_⟩
    have h := ((cfg0.win 10).blk t).view.emb_mem_set (ix2 (i 0) ⟨(i 1).val % 256, by omega⟩)
    have e : ((cfg0.win 10).blk t).view.emb (ix2 (i 0) ⟨(i 1).val % 256, by omega⟩) = i := by
      funext a
      match a with
      | ⟨0, _⟩ => exact Fin.ext (hemb t _).1
      | ⟨1, _⟩ => exact Fin.ext ((hemb t _).2.trans (Nat.div_add_mod _ 256))
    rwa [e] at h

/-- The maxima of the lanes after grid point `n`. -/
abbrev lanes (c : Dev nD) (n : ℕ) (hn : n < cfg0.N) : (S 1920 128).Idx → EReal := (outsAt0 m c n hn).2.2.2.2

theorem lanes_zero (c : Dev nD) (hn : 0 < cfg0.N) : lanes m c 0 hn = laneMax (cblk ⟨0, hn⟩ (actA m c)) zeros := by
  unfold lanes
  rw [outsAt0_A m c ⟨0, hn⟩ rfl (show ¬ 0 % 64 = 63 by decide)]
  dsimp only
  rw [sout0_A_2_eq, gate_blk, up_blk]
  rfl

theorem lanes_succ (c : Dev nD) (n : ℕ) (hn : n + 1 < cfg0.N) :
    lanes m c (n + 1) hn = laneMax (cblk ⟨n + 1, hn⟩ (actA m c)) (lanes m c n (Nat.lt_of_succ_lt hn)) := by
  have hN : n + 1 < 64 := hn
  unfold lanes
  by_cases h1 : (n + 1) % 64 = 63
  · rw [outsAt0_C m c ⟨n + 1, hn⟩ (by show ¬ (n + 1) % 64 = 0; omega) h1]
    dsimp only
    rw [sout0_C_2_eq, gate_blk, up_blk]
    rfl
  · rw [outsAt0_B m c ⟨n + 1, hn⟩ (by show ¬ (n + 1) % 64 = 0; omega) h1]
    dsimp only
    rw [sout0_B_2_eq, gate_blk, up_blk]
    rfl

theorem zeros_eq (y : (S 1920 128).Idx) : zeros y = (0 : EReal) := by
  unfold zeros k0_pay4
  rw [shapeCast_self]
  show Ideal.ofBits .f32 0x00000000#32 = 0
  simp [Ideal.ofBits, Ideal.ieee]

/-- After grid point `n` a lane holds the largest magnitude of its two columns in each of the first blocks, or zero. -/
theorem lanes_le (c : Dev nD) (i : Fin 1920) (l : Fin 128) (b : EReal) : ∀ (n : ℕ) (hn : n < cfg0.N),
    lanes m c n hn (ix2 i l) ≤ b ↔ 0 ≤ b ∧ ∀ k : Fin 16384, k.val < 256 * (n + 1) → k.val % 128 = l.val → mag (actA m c (ix2 i k)) ≤ b := by
  have step : ∀ (n : ℕ) (hn : n < cfg0.N) (old : (S 1920 128).Idx → EReal), laneMax (cblk ⟨n, hn⟩ (actA m c)) old (ix2 i l) ≤ b
      ↔ old (ix2 i l) ≤ b ∧ ∀ k : Fin 16384, 256 * n ≤ k.val → k.val < 256 * (n + 1) → k.val % 128 = l.val → mag (actA m c (ix2 i k)) ≤ b := fun n hn old => by
    have hN : n < 64 := hn
    unfold laneMax
    rw [max_le_iff, max_le_iff]
    refine and_congr_right fun _ => ⟨fun h k h1 h2 h3 => ?_, fun h => ⟨h ⟨256 * n + (0 + l.val), by omega⟩ ?_ ?_ ?_, h ⟨256 * n + (128 + l.val), by omega⟩ ?_ ?_ ?_⟩⟩
    · have hk : k = ⟨256 * n + (0 + l.val), by omega⟩ ∨ k = ⟨256 * n + (128 + l.val), by omega⟩ := by
        simp only [Fin.ext_iff]
        omega
      rcases hk with hk | hk
      · rw [hk]; exact h.1
      · rw [hk]; exact h.2
    all_goals simp only []; omega
  intro n
  induction n with
  | zero =>
    intro hn
    rw [lanes_zero, step, zeros_eq]
    refine and_congr_right fun _ => ⟨fun h k h1 h2 => h k (by omega) h1 h2, fun h k _ h1 h2 => h k h1 h2⟩
  | succ n ih =>
    intro hn
    rw [lanes_succ, step, ih]
    refine ⟨fun h => ⟨h.1.1, fun k h1 h2 => ?_⟩, fun h => ⟨⟨h.1, fun k h1 h2 => h.2 k (by omega) h2⟩, fun k _ h1 h2 => h.2 k h1 h2⟩⟩
    by_cases hk : k.val < 256 * (n + 1)
    · exact h.1.2 k hk h2
    · exact h.2 k (by omega) h1 h2

/-- So the largest lane after the last grid point is the largest magnitude of the row. -/
theorem lanes_max (c : Dev nD) (i : Fin 1920) (hn : 63 < cfg0.N) :
    rowMax (n := 1920) (c := 128) (lanes m c 63 hn) i = rowMax (n := 1920) (c := 16384) (fun y => mag (actA m c y)) i := by
  refine eq_of_forall_ge_iff fun b => ?_
  rw [rowMax_le, rowMax_le]
  refine ⟨fun h k => ((lanes_le m c i ⟨k.val % 128, Nat.mod_lt _ (by decide)⟩ b 63 hn).1 (h _)).2 k (by omega) rfl, fun h l => (lanes_le m c i l b 63 hn).2 ⟨?_, fun k _ _ => h k⟩⟩
  exact (mag_nonneg _).trans (h ⟨0, by decide⟩)

/-- The scale of each row. -/
def scales (a : (S 1920 16384).Idx → EReal) : (S 1920 1).Idx → EReal := fun y => scaleOf (rowMax (n := 1920) (c := 16384) (fun z => mag (a z)) (y 0))

/-- The last grid point turns the maxima of the lanes into the scales. -/
theorem last11 (c : Dev nD) (t : Fin cfg0.N) (h0 : ¬t.val % 64 = 0) (h1 : t.val % 64 = 63) :
    (outsAt0 m c t.val t.isLt).2.2.2.1 = k0_pay3 (F := Ideal) (lanes m c t.val t.isLt) := by
  unfold lanes
  rw [outsAt0_C m c t h0 h1]
  dsimp only
  rw [out0_C_11_eq, sout0_C_2_eq]

/-- The same, of the fold over the grid. -/
theorem last_fold (c : Dev nD) (n : ℕ) (h : 0 + n < cfg0.N) (hn : n < cfg0.N) (h1 : n % 64 = 63) :
    (Pipeline.accAt (fun n h => Value.stAt0 m c n h Value.junk0) (Value.stAt0 m c) 0 n h).2.2.2.1 = k0_pay3 (F := Ideal) (lanes m c n hn) := by
  rw [← Value.outsAt0_sweep m c n hn]
  exact last11 m c ⟨n, hn⟩ (by show ¬ n % 64 = 0; omega) h1

theorem G11_lanes (c : Dev nD) (hn : 63 < cfg0.N) : Value.G11 m c = k0_pay3 (F := Ideal) (lanes m c 63 hn) := by
  rw [Value.G11_last m c, last_fold m c 63 _ hn rfl]

/-- Scales whose rows have the same largest magnitude are the same. -/
theorem scales_of (l : (S 1920 128).Idx → EReal) (a : (S 1920 16384).Idx → EReal)
    (h : ∀ i, rowMax (n := 1920) (c := 128) l i = rowMax (n := 1920) (c := 16384) (fun y => mag (a y)) i) :
    k0_pay3 (F := Ideal) l = scales a := by
  funext y
  obtain ⟨i, j, rfl⟩ : ∃ i j, y = ix2 i j := ⟨_, _, eq_ix2 y⟩
  obtain rfl : j = 0 := Subsingleton.elim _ _
  rw [pay3_apply, h]
  rfl

/-- What the launch leaves in its fourth result. -/
theorem final11 (c : Dev nD) : (dats m 0 c).arrAt 11 cfg0.N = scales (actA m c) :=
  have hn : 63 < cfg0.N := lt_of_lt_of_eq (by decide) N_0.symm
  (Value.final11 m c).trans ((G11_lanes m c hn).trans (scales_of _ _ fun i => lanes_max m c i hn))

end Cert.GateUpArray

end
-- ==== Proof.GateUp.Ref.lean ====
/-
  What the reference of `gate_up` computes: the same products, activations and scales, over whole matrices at once.
-/
module

public import proofs.«01_k».proof.Proof.GateUp.Array
public import proofs.«01_k».proof.Proof.Gen.GateUpRefIdeal.Value

@[expose] public section

noncomputable section

namespace Cert.GateUpRefs

open Idealize.ShloMosaic Cert.Soft Cert.GateUpRefIdeal Cert.GateUpRefIdeal.Gen Cert.GateUpBlock Cert.GateUpArray

variable (x : Vec Ideal S1920x2048 .bf16) (sx : Vec Ideal S1920x1 .f32) (fg : Vec Ideal S2048x16384 .i8) (sg : Vec Ideal S32x16384 .f32)
  (vg : Vec Ideal S2048x16384 .f32) (fu : Vec Ideal S2048x16384 .i8) (su : Vec Ideal S32x16384 .f32) (vu : Vec Ideal S2048x16384 .f32)

/-- A weight as the reference writes it. -/
def weightR (f : Vec Ideal S2048x16384 .i8) (s : Vec Ideal S32x16384 .f32) (v : Vec Ideal S2048x16384 .f32) : Vec Ideal S2048x16384 .bf16 :=
  groupRef .bf16 32 2048 16384 (fun i => wq (f i) (v i)) (truncf (F := Ideal) .bf16 s bitsLt_bf16_f32)
    shapeCasts_S2048x16384_S32x64x16384 shapeCasts_S32x16384_S32x1x16384 broadcasts_S32x1x16384_S32x64x16384 shapeCasts_S32x64x16384_S2048x16384

theorem weightR_eq (f : Vec Ideal S2048x16384 .i8) (s : Vec Ideal S32x16384 .f32) (v : Vec Ideal S2048x16384 .f32) :
    weightR f s v = weight (n := 2048) (R := 32) rfl f s v := by
  unfold weightR
  exact weight_of_groupRef (n := 2048) (c := 16384) (R := 32) rfl f s v _ _ _ _

/-- A product as the reference writes it. -/
def linR (w : Vec Ideal S2048x16384 .bf16) : FVec Ideal S1920x16384 .f32 :=
  mulf (φ := .f32) (matmul (φ₁ := .bf16) (φ₂ := .bf16) dot_S1920x2048_S2048x16384_S1920x16384_1_0_0_1_n_n none x w (constant S1920x16384 .f32 0x00000000#32))
    (broadcastTo S1920x16384 sx broadcasts_S1920x1_S1920x16384)

/-- An entry of a product with a weight. -/
theorem dot_apply (a : FVec Ideal S1920x2048 .bf16) (b : FVec Ideal S2048x16384 .bf16) (i : Fin 1920) (j : Fin 16384) :
    matmul dot_S1920x2048_S2048x16384_S1920x16384_1_0_0_1_n_n none a b (constant S1920x16384 .f32 0x00000000#32) (ix2 i j)
      = ∑ k : Fin 2048, a (ix2 i k) * b (ix2 k j) := by
  pointwise

theorem linR_eq (w : Vec Ideal S2048x16384 .bf16) : linR x sx w = lin (n := 16384) x sx w := by
  funext y
  obtain ⟨i, j, rfl⟩ : ∃ i j, y = ix2 i j := ⟨_, _, eq_ix2 y⟩
  exact congrArg₂ (· * ·) (dot_apply _ _ i j) (bcast_col _ _ i j)

/-- The two products, as the reference computes them, in one step. -/
theorem gate_eq : k0_pay5 (k0_pay12 x sx fg sg vg fu su vu) x sx = gateW x sx fg sg vg := by
  have e : k0_pay12 x sx fg sg vg fu su vu = weightR fg sg vg := by
    unfold k0_pay12
    rw [View.ld_unit_zero (S := S2048x16384) Value.hz2 _ fg, View.ld_unit_zero (S := S2048x16384) Value.hz4 _ vg, View.ld_unit_zero (S := S32x16384) Value.hz3 _ sg]
    rfl
  rw [e, weightR_eq]
  exact linR_eq x sx _
theorem up_eq : k0_pay6 su (k0_pay13 x sx fg sg vg fu su vu) (k0_pay14 x sx fg sg vg fu su vu) x sx = gateW x sx fu su vu := by
  have e : k0_pay6 su (k0_pay13 x sx fg sg vg fu su vu) (k0_pay14 x sx fg sg vg fu su vu) x sx = linR x sx (weightR fu su vu) := by
    unfold k0_pay13 k0_pay14
    rw [View.ld_unit_zero (S := S2048x16384) Value.hz5 _ fu, View.ld_unit_zero (S := S2048x16384) Value.hz7 _ vu]
    rfl
  rw [e, weightR_eq]
  exact linR_eq x sx _

/-- The reference's first result. -/
theorem G8_eq : Value.G8 x sx fg sg vg fu su vu = fun y => act (gateW x sx fg sg vg y) (gateW x sx fu su vu y) := by
  rw [← gate_eq x sx fg sg vg fu su vu, ← up_eq x sx fg sg vg fu su vu]
  rfl
/-- The reference's second result. -/
theorem G9_eq : Value.G9 x sx fg sg vg fu su vu = fun y => silu (gateW x sx fg sg vg y) := by
  rw [← gate_eq x sx fg sg vg fu su vu]
  rfl
/-- The reference's third result. -/
theorem G10_eq : Value.G10 x sx fg sg vg fu su vu = fun y => slope (gateW x sx fg sg vg y) (gateW x sx fu su vu y) := by
  rw [← gate_eq x sx fg sg vg fu su vu, ← up_eq x sx fg sg vg fu su vu]
  rfl

/-- The scales of the rows of a matrix, as the reference writes them. -/
theorem pay1_open (v : FVec Ideal S1920x16384 .f32) :
    k0_pay1 (F := Ideal) v = scaleV (n := 1920) (c := 16384) v reduces_S1920x16384_S1920 shapeCasts_S1920_S1920x1 := rfl

theorem absf_mag (a : FVec Ideal S1920x16384 .f32) : absf a = fun y => mag (a y) := rfl

theorem pay1_eq (v : FVec Ideal S1920x16384 .f32) (a : (S 1920 16384).Idx → EReal) (h : v = fun y => mag (a y)) :
    k0_pay1 (F := Ideal) v = scales a := by
  funext y
  obtain ⟨i, j, rfl⟩ : ∃ i j, y = ix2 i j := ⟨_, _, eq_ix2 y⟩
  obtain rfl : j = 0 := Subsingleton.elim _ _
  rw [pay1_open, scaleV_apply, h]
  unfold scales
  rfl

/-- The reference's fourth result. -/
theorem G11_eq : Value.G11 x sx fg sg vg fu su vu = scales (fun y => act (gateW x sx fg sg vg y) (gateW x sx fu su vu y)) := by
  unfold Value.G11
  refine pay1_eq _ _ ?_
  unfold k0_pay11
  exact (congrArg (absf (F := Ideal) (φ := .f32)) (G8_eq x sx fg sg vg fu su vu)).trans (absf_mag _)

end Cert.GateUpRefs

end
-- ==== Proof.GateUp.Algebraic.lean ====
/-
  `gate_up` and its reference end with equal results.
-/
module

public import proofs.«01_k».proof.Proof.GateUp.Array
public import proofs.«01_k».proof.Proof.GateUp.Ref
public import proofs.«01_k».proof.Defs

@[expose] public section

noncomputable section

namespace Cert.GateUpProof

open Idealize.ShloMosaic Idealize.SL.Sem

theorem algebraic : Cert.algebraic_GateUpIdeal_GateUpRefIdeal (hGateUpIdeal := Cert.GateUpIdeal.Gen.facts)
    (hGateUpRefIdeal := Cert.GateUpRefIdeal.Gen.facts) := by
  intro m g m' g' _ hargs
  refine ⟨_, _, _, _, Cert.GateUpIdeal.Value.run_blocks (F := Ideal) m g, ?_⟩
  refine (θ_run (Cert.GateUpRefIdeal.defs (F := Ideal)) _ _).mono (fun r h c => ?_) (Cert.GateUpRefIdeal.Value.run (F := Ideal) m' g')
  obtain ⟨r0, r1, r2, r3, rest⟩ := h c
  obtain ⟨a0, a1, a2, a3, a4, a5, a6, a7⟩ := hargs c
  refine ⟨r0.trans ?_, r1.trans ?_, r2.trans ?_, r3.trans ?_, rest⟩
  · rw [a0, a1, a2, a3, a4, a5, a6, a7]
    exact (Cert.GateUpRefs.G8_eq ..).trans (Cert.GateUpArray.final8 m c).symm
  · rw [a0, a1, a2, a3, a4, a5, a6, a7]
    exact (Cert.GateUpRefs.G9_eq ..).trans (Cert.GateUpArray.final9 m c).symm
  · rw [a0, a1, a2, a3, a4, a5, a6, a7]
    exact (Cert.GateUpRefs.G10_eq ..).trans (Cert.GateUpArray.final10 m c).symm
  · rw [a0, a1, a2, a3, a4, a5, a6, a7]
    exact (Cert.GateUpRefs.G11_eq ..).trans (Cert.GateUpArray.final11 m c).symm

end Cert.GateUpProof

end
-- ==== Proof.BackDown.Block.lean ====
/-
  What one grid point of `back_down` computes. It first puts 256 rows of the down projection's weight together in a scratch buffer;
  then, 384 rows at a time, the gradients of the gate and up projections; last, 512 columns at a time, the gradient of the rounding
  variable of the down projection.
-/
module

public import proofs.«01_k».proof.Proof.Weight
public import proofs.«01_k».proof.Proof.Gen.BackDownIdeal.Value

@[expose] public section

noncomputable section

namespace Cert.BackDownBlock

open Idealize.ShloMosaic Idealize.ShloMosaic.TcCoe Cert.Soft Cert.BackDownIdeal Cert.BackDownIdeal.Gen

/-- Row `i` of `dy` against row `j` of the weight, times `p` and the scale of row `i`: the gradient that reaches column `j`. -/
def dact {n : ℕ} (dy : (S 1920 2048).Idx → EReal) (w : (S n 2048).Idx → EReal) (p : (S 1920 n).Idx → EReal) (sx : (S 1920 1).Idx → EReal) :
    (S 1920 n).Idx → EReal :=
  fun y => (∑ k : Fin 2048, dy (ix2 (y 0) k) * w (ix2 (y 1) k)) * p y * sx (ix2 (y 0) 0)

/-- The gradient of the rounding variable: column `i` of the codes against column `j` of `dy`, times the scale of the row's group. -/
def dvd {n R : ℕ} (hn : n = 64 * R) (dy : (S 1920 2048).Idx → EReal) (q : (S 1920 n).Idx → BitVec 8) (f : (S n 2048).Idx → BitVec 8)
    (s : (S R 2048).Idx → EReal) (v : (S n 2048).Idx → EReal) : (S n 2048).Idx → EReal :=
  fun y => dv ((∑ k : Fin 1920, FloatOps.sitofp (F := Ideal) .bf16 (q (ix2 k (y 0))) * dy (ix2 k (y 1)))
    * s (ix2 ⟨(y 0).val / 64, by have := (show (y 0).val < n from (y 0).isLt); omega⟩ (y 1))) (f y) (v y)

/-- The four rows of scales of a grid point, out of their block. -/
def scales (x7 : Vec Ideal S1x4x2048 .f32) : (S 4 2048).Idx → EReal := fun y => x7 (ix3 0 (y 0) (y 1))

/-- Row `r` of the scales, as the body reads it for the weight. -/
def srow (x7 : Vec Ideal S1x4x2048 .f32) (r : Fin 4) : FVec Ideal (S 1 2048) .f32 :=
  shapeCast (S 1 2048) (View.ld x7 (Rect.unit (s := S1x4x2048) ![0, r.val, 0] S1x1x2048.size (by
    intro a
    match a with
    | ⟨0, _⟩ => exact le_refl _
    | ⟨1, _⟩ => exact r.isLt
    | ⟨2, _⟩ => exact le_refl _))) shapeCasts_S1x1x2048_S1x2048

theorem srow_apply (x7 : Vec Ideal S1x4x2048 .f32) (r : Fin 4) (j : Fin 2048) : srow x7 r (ix2 0 j) = scales x7 (ix2 r j) := by
  unfold srow
  refine (shapeCast_apply _ shapeCasts_S1x1x2048_S1x2048 (ix2 0 j) (ix3 0 0 j) ?_).trans ?_
  · rw [Shape.rowMajor_val_three, Shape.rowMajor_val_two]
    rfl
  · show x7 _ = x7 _
    congr 1
    funext a
    match a with
    | ⟨0, _⟩ => rfl
    | ⟨1, _⟩ => rfl
    | ⟨2, _⟩ => exact Fin.ext (by show 0 + 1 * j.val = j.val; omega)

/-- What the body stores into the scratch buffer, last store first. -/
def wpieces (f : Vec Ideal S256x2048 .i8) (x7 : Vec Ideal S1x4x2048 .f32) (v : Vec Ideal S256x2048 .f32) : List (View.Piece (Elt Ideal) S256x2048 .bf16) :=
  [wpiece 256 2048 3 (by decide) f v (srow x7 3) broadcasts_S1x2048_S64x2048, wpiece 256 2048 2 (by decide) f v (srow x7 2) broadcasts_S1x2048_S64x2048,
   wpiece 256 2048 1 (by decide) f v (srow x7 1) broadcasts_S1x2048_S64x2048, wpiece 256 2048 0 (by decide) f v (srow x7 0) broadcasts_S1x2048_S64x2048]

/-- The scratch buffer read back whole is the weight. -/
theorem readCov_wpieces {sig : RefSig} {κ : Kind} {sp : Space} (vw : View sig κ sp S256x2048 .bf16) (f : Vec Ideal S256x2048 .i8)
    (x7 : Vec Ideal S1x4x2048 .f32) (v : Vec Ideal S256x2048 .f32) :
    vw.readCov (wpieces f x7 v) (rows (n := 256) (c := 2048) 0 256 (by decide)).toLoadRect = weight (n := 256) (R := 4) rfl f (scales x7) v := by
  have hc : ∀ y, ∃ p ∈ wpieces f x7 v, y ∈ p.1.set :=
    fun y => View.cover_of_tiledL (wpieces f x7 v) S64x2048.size (by sl_kernel_rfl) y
  rw [View.readCov_eq_canon_ld _ _ _ hc]
  refine (View.ld_unit_zero (by funext a; match a with | ⟨0, _⟩ => rfl | ⟨1, _⟩ => rfl) _ _).trans (funext fun y => ?_)
  refine View.canon_apply_of_pieces (Val := Elt Ideal) (S := S256x2048) (e := .bf16) _ _ ?_ y (hc y)
  unfold wpieces
  simp only [List.forall_mem_cons]
  exact ⟨wpiece_apply (R := 4) rfl _ f v _ _ (scales x7) (srow_apply x7 3), wpiece_apply (R := 4) rfl _ f v _ _ (scales x7) (srow_apply x7 2),
    wpiece_apply (R := 4) rfl _ f v _ _ (scales x7) (srow_apply x7 1), wpiece_apply (R := 4) rfl _ f v _ _ (scales x7) (srow_apply x7 0), nofun⟩

/-- Slab `m` of a gradient: rows `384 m` to `384 m + 383` of the block, as the body computes them from the weight `w`. -/
def slab (m : Fin 5) (dy : Vec Ideal S1920x2048 .bf16) (w : Vec Ideal S256x2048 .bf16) (p : Vec Ideal S1920x256 .f32) (sx : Vec Ideal S1920x1 .f32) :
    FVec Ideal S384x256 .bf16 :=
  truncf (F := Ideal) .bf16 (mulf (φ := .f32) (mulf (φ := .f32)
      (matmul (φ₁ := .bf16) (φ₂ := .bf16) dot_S384x2048_S256x2048_S384x256_1_1_0_0_n_n none (View.ld dy (rows (n := 1920) (c := 2048) (384 * m.val) 384 (by omega))) w
        (constant S384x256 .f32 0x00000000#32))
      (View.ld p (rows (n := 1920) (c := 256) (384 * m.val) 384 (by omega))))
    (broadcastTo S384x256 (View.ld sx (rows (n := 1920) (c := 1) (384 * m.val) 384 (by omega))) broadcasts_S384x1_S384x256)) bitsLt_bf16_f32

/-- An entry of the product of 384 rows with the transposed weight. -/
theorem dot_apply (a : FVec Ideal S384x2048 .bf16) (b : FVec Ideal S256x2048 .bf16) (i : Fin 384) (j : Fin 256) :
    matmul dot_S384x2048_S256x2048_S384x256_1_1_0_0_n_n none a b (constant S384x256 .f32 0x00000000#32) (ix2 i j)
      = ∑ k : Fin 2048, a (ix2 i k) * b (ix2 j k) := by
  pointwise

/-- Slab `m` is the gradient on its rows. -/
theorem slab_apply (m : Fin 5) (dy : Vec Ideal S1920x2048 .bf16) (w : Vec Ideal S256x2048 .bf16) (p : Vec Ideal S1920x256 .f32) (sx : Vec Ideal S1920x1 .f32)
    (y : S384x256.Idx) : slab m dy w p sx y = dact (n := 256) dy w p sx ((rows (n := 1920) (c := 256) (384 * m.val) 384 (by omega)).emb y) := by
  obtain ⟨i, j, rfl⟩ : ∃ i j, y = ix2 i j := ⟨_, _, eq_ix2 y⟩
  rw [emb_rows]
  refine (congrArg₂ (· * ·) (congrArg₂ (· * ·) (dot_apply _ _ i j) (ld_rows (α := Elt Ideal) (e := .f32) _ p i j))
    ((bcast_col _ _ i j).trans (ld_rows (α := Elt Ideal) (e := .f32) _ sx i 0))).trans ?_
  refine congrArg₂ (· * ·) (congrArg₂ (· * ·) (Finset.sum_congr rfl fun k _ => ?_) rfl) rfl
  exact congrArg (· * w (ix2 j k)) (ld_rows (α := Elt Ideal) (e := .bf16) _ dy i k)

/-- Four blocks of 64 rows set below each other have 256 rows. -/
theorem cat4 (f : Fin 4 → (S 64 512).Idx → EReal) :
    Shape.Concatenates ((List.ofFn fun r : Fin 4 => (⟨S 64 512, f r⟩ : (s : Shape) × (s.Idx → EReal))).map (·.1)) (S 256 512) 0 :=
  concatenates_S64x512_S64x512_S64x512_S64x512_S256x512_d0

/-- Columns `512 n` to `512 n + 511` of the last gradient, as the body computes them. -/
def slabD (n : Fin 4) (dy : Vec Ideal S1920x2048 .bf16) (q : Vec Ideal S1920x256 .i8) (f : Vec Ideal S256x2048 .i8) (x7 : Vec Ideal S1x4x2048 .f32)
    (v : Vec Ideal S256x2048 .f32) : FVec Ideal S256x512 .f32 :=
  dvV (group 4 256 512 rfl
      (matmul (φ₁ := .bf16) (φ₂ := .bf16) dot_S256x1920_S1920x512_S256x512_1_0_0_1_n_n none
        (transpose S256x1920 [1, 0] (sitofp (F := Ideal) .bf16 q) transposes_S1920x256_p1_0_S256x1920)
        (View.ld dy (cols (n := 1920) (c := 2048) (512 * n.val) 512 (by omega))) (constant S256x512 .f32 0x00000000#32))
      (fun r => shapeCast S1x512 (View.ld (shapeCast S4x512 (View.ld x7 (Rect.unit (s := S1x4x2048) ![0, 0, 512 * n.val] S1x4x512.size (by
          intro a
          match a with
          | ⟨0, _⟩ => exact le_refl _
          | ⟨1, _⟩ => exact le_refl _
          | ⟨2, _⟩ => show 512 * n.val + 512 ≤ 2048; omega))) (show Shape.ShapeCasts S1x4x512 S4x512 by decide)) (rows (n := 4) (c := 512) r.val 1 (by omega))) shapeCasts_S1x512_S1x512)
      (by decide) (by decide) cat4)
    (View.ld f (cols (n := 256) (c := 2048) (512 * n.val) 512 (by omega)))
    (View.ld v (cols (n := 256) (c := 2048) (512 * n.val) 512 (by omega)))

/-- An entry of the product of the transposed codes with 512 columns. -/
theorem dotD_apply (a : FVec Ideal S256x1920 .bf16) (b : FVec Ideal S1920x512 .bf16) (i : Fin 256) (j : Fin 512) :
    matmul dot_S256x1920_S1920x512_S256x512_1_0_0_1_n_n none a b (constant S256x512 .f32 0x00000000#32) (ix2 i j)
      = ∑ k : Fin 1920, a (ix2 i k) * b (ix2 k j) := by
  pointwise

/-- An entry of the transposed codes. -/
theorem transpose_apply' (q : FVec Ideal S1920x256 .bf16) (i : Fin 256) (k : Fin 1920) :
    transpose S256x1920 [1, 0] q transposes_S1920x256_p1_0_S256x1920 (ix2 i k) = q (ix2 k i) := by
  pointwise

/-- These columns are the gradient there. -/
theorem slabD_apply (n : Fin 4) (dy : Vec Ideal S1920x2048 .bf16) (q : Vec Ideal S1920x256 .i8) (f : Vec Ideal S256x2048 .i8) (x7 : Vec Ideal S1x4x2048 .f32)
    (v : Vec Ideal S256x2048 .f32) (y : S256x512.Idx) :
    slabD n dy q f x7 v y = dvd (n := 256) (R := 4) rfl dy q f (scales x7) v ((cols (n := 256) (c := 2048) (512 * n.val) 512 (by omega)).emb y) := by
  obtain ⟨i, j, rfl⟩ : ∃ i j, y = ix2 i j := ⟨_, _, eq_ix2 y⟩
  rw [emb_cols]
  unfold slabD dvd
  show dv (group 4 256 512 _ _ _ _ _ _ (ix2 i j)) (f ((cols (n := 256) (c := 2048) (512 * n.val) 512 (by omega)).emb (ix2 i j)))
    (v ((cols (n := 256) (c := 2048) (512 * n.val) 512 (by omega)).emb (ix2 i j))) = _
  rw [emb_cols, group_apply, dotD_apply]
  congr 2
  · refine Finset.sum_congr rfl fun k _ => ?_
    rw [transpose_apply']
    exact congrArg _ (ld_cols (α := Elt Ideal) (e := .bf16) _ dy k j)
  · refine (congrFun (shapeCast_self _ _) _).trans ((ld_rows (α := Elt Ideal) (e := .f32) _ _ 0 j).trans ?_)
    refine (shapeCast_apply _ (show Shape.ShapeCasts S1x4x512 S4x512 by decide) _ (ix3 0 ⟨i.val / 64, by omega⟩ j) ?_).trans ?_
    · rw [Shape.rowMajor_val_three, Shape.rowMajor_val_two]
      show (0 * 4 + i.val / 64) * 512 + j.val = (i.val / 64 + 0) * 512 + j.val
      omega
    · show x7 _ = x7 _
      congr 1
      funext a
      match a with
      | ⟨0, _⟩ => rfl
      | ⟨1, _⟩ => exact Fin.ext (by show 0 + 1 * (i.val / 64) = i.val / 64; omega)
      | ⟨2, _⟩ => exact Fin.ext (by show 512 * n.val + 1 * j.val = 512 * n.val + j.val; omega)

variable (c : Dev nD) (i : grid0.Coords)
  (arg1 : Memref sig .tc .vmem S1920x2048 .bf16) (harg1 : arg1.IsWhole) (arg2 : Memref sig .tc .vmem S1920x2048 .bf16) (harg2 : arg2.IsWhole) (arg3 : Memref sig .tc .vmem S1920x1 .f32) (harg3 : arg3.IsWhole) (arg4 : Memref sig .tc .vmem S1920x256 .i8) (harg4 : arg4.IsWhole) (arg5 : Memref sig .tc .vmem S1920x256 .f32) (harg5 : arg5.IsWhole) (arg6 : Memref sig .tc .vmem S1920x256 .f32) (harg6 : arg6.IsWhole) (arg7 : Memref sig .tc .vmem S256x2048 .i8) (harg7 : arg7.IsWhole) (arg8 : Memref sig .tc .vmem S1x4x2048 .f32) (harg8 : arg8.IsWhole) (arg9 : Memref sig .tc .vmem S256x2048 .f32) (harg9 : arg9.IsWhole) (arg10 : Memref sig .tc .vmem S1920x256 .bf16) (harg10 : arg10.IsWhole) (arg11 : Memref sig .tc .vmem S1920x256 .bf16) (harg11 : arg11.IsWhole) (arg12 : Memref sig .tc .vmem S256x2048 .f32) (harg12 : arg12.IsWhole) (arg13 : Memref sig .tc .vmem S256x2048 .bf16) (harg13 : arg13.IsWhole)
  (x0 x1 : Vec Ideal S1920x2048 .bf16) (x2 : Vec Ideal S1920x1 .f32) (x3 : Vec Ideal S1920x256 .i8) (x4 x5 : Vec Ideal S1920x256 .f32)
  (x6 : Vec Ideal S256x2048 .i8) (x7 : Vec Ideal S1x4x2048 .f32) (x8 : Vec Ideal S256x2048 .f32)

/-- The block of the first gradient is its five slabs. -/
theorem out9_slabs (w : Vec Ideal S256x2048 .bf16) (hw : arg13.view.readCov (wpieces x6 x7 x8) (rows (n := 256) (c := 2048) 0 256 (by decide)).toLoadRect = w) :
    out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = View.canon (Val := Elt Ideal) (s := S1920x256) (e := .bf16) [⟨rows (n := 1920) (c := 256) (384 * 4) 384 (by decide), slab 4 x0 w x5 x2⟩, ⟨rows (n := 1920) (c := 256) (384 * 3) 384 (by decide), slab 3 x0 w x5 x2⟩,
      ⟨rows (n := 1920) (c := 256) (384 * 2) 384 (by decide), slab 2 x0 w x5 x2⟩, ⟨rows (n := 1920) (c := 256) (384 * 1) 384 (by decide), slab 1 x0 w x5 x2⟩, ⟨rows (n := 1920) (c := 256) (384 * 0) 384 (by decide), slab 0 x0 w x5 x2⟩] := by
  subst hw
  frame_out
  rfl

/-- The block of the second gradient is its five slabs. -/
theorem out10_slabs (w : Vec Ideal S256x2048 .bf16) (hw : arg13.view.readCov (wpieces x6 x7 x8) (rows (n := 256) (c := 2048) 0 256 (by decide)).toLoadRect = w) :
    (out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) = View.canon (Val := Elt Ideal) (s := S1920x256) (e := .bf16) [⟨rows (n := 1920) (c := 256) (384 * 4) 384 (by decide), slab 4 x0 w x4 x2⟩, ⟨rows (n := 1920) (c := 256) (384 * 3) 384 (by decide), slab 3 x0 w x4 x2⟩,
      ⟨rows (n := 1920) (c := 256) (384 * 2) 384 (by decide), slab 2 x0 w x4 x2⟩, ⟨rows (n := 1920) (c := 256) (384 * 1) 384 (by decide), slab 1 x0 w x4 x2⟩, ⟨rows (n := 1920) (c := 256) (384 * 0) 384 (by decide), slab 0 x0 w x4 x2⟩] := by
  subst hw
  frame_out
  rfl

/-- The block of the last gradient is its four blocks of columns. -/
theorem out11_slabs :
    (out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) = View.canon (Val := Elt Ideal) (s := S256x2048) (e := .f32) [⟨cols (n := 256) (c := 2048) (512 * 3) 512 (by decide), slabD 3 x1 x3 x6 x7 x8⟩, ⟨cols (n := 256) (c := 2048) (512 * 2) 512 (by decide), slabD 2 x1 x3 x6 x7 x8⟩,
      ⟨cols (n := 256) (c := 2048) (512 * 1) 512 (by decide), slabD 1 x1 x3 x6 x7 x8⟩, ⟨cols (n := 256) (c := 2048) (512 * 0) 512 (by decide), slabD 0 x1 x3 x6 x7 x8⟩] := by
  frame_out
  have e : ∀ (r : Rect S1x4x2048) (h' : S4x512.numel = r.shape.numel), View.read (Elt Ideal) ((arg8.view.slice r).reshape S4x512 h') (harg8.unread x7)
      = shapeCast S4x512 (View.ld x7 r) h' := fun r h' => by
    rw [read_slice_reshape _ _ h', Memref.IsWhole.read_unread]
  simp only [e]
  rfl

/-- Five stores of 384 rows cover the block. -/
theorem cover_rows (p : Fin 5 → FVec Ideal S384x256 .bf16) (y : S1920x256.Idx) :
    ∃ pc ∈ ([⟨rows (n := 1920) (c := 256) (384 * 4) 384 (by decide), p 4⟩, ⟨rows (n := 1920) (c := 256) (384 * 3) 384 (by decide), p 3⟩,
      ⟨rows (n := 1920) (c := 256) (384 * 2) 384 (by decide), p 2⟩, ⟨rows (n := 1920) (c := 256) (384 * 1) 384 (by decide), p 1⟩,
      ⟨rows (n := 1920) (c := 256) (384 * 0) 384 (by decide), p 0⟩] : List (View.Piece (Elt Ideal) S1920x256 .bf16)), y ∈ pc.1.set :=
  View.cover_of_tiledL (s := S1920x256) _ S384x256.size (by sl_kernel_rfl) y

/-- Four stores of 512 columns cover the block. -/
theorem cover_cols (p : Fin 4 → FVec Ideal S256x512 .f32) (y : S256x2048.Idx) :
    ∃ pc ∈ ([⟨cols (n := 256) (c := 2048) (512 * 3) 512 (by decide), p 3⟩, ⟨cols (n := 256) (c := 2048) (512 * 2) 512 (by decide), p 2⟩,
      ⟨cols (n := 256) (c := 2048) (512 * 1) 512 (by decide), p 1⟩, ⟨cols (n := 256) (c := 2048) (512 * 0) 512 (by decide), p 0⟩] :
      List (View.Piece (Elt Ideal) S256x2048 .f32)), y ∈ pc.1.set :=
  View.cover_of_tiledL (s := S256x2048) _ S256x512.size (by sl_kernel_rfl) y

/-- Five slabs of a gradient make its block. -/
theorem slabs_eq (dy : Vec Ideal S1920x2048 .bf16) (w : Vec Ideal S256x2048 .bf16) (p : Vec Ideal S1920x256 .f32) (sx : Vec Ideal S1920x1 .f32) :
    View.canon (Val := Elt Ideal) (s := S1920x256) (e := .bf16) [⟨rows (n := 1920) (c := 256) (384 * 4) 384 (by decide), slab 4 dy w p sx⟩, ⟨rows (n := 1920) (c := 256) (384 * 3) 384 (by decide), slab 3 dy w p sx⟩,
      ⟨rows (n := 1920) (c := 256) (384 * 2) 384 (by decide), slab 2 dy w p sx⟩, ⟨rows (n := 1920) (c := 256) (384 * 1) 384 (by decide), slab 1 dy w p sx⟩, ⟨rows (n := 1920) (c := 256) (384 * 0) 384 (by decide), slab 0 dy w p sx⟩]
      = dact (n := 256) dy w p sx := by
  funext y
  refine View.canon_apply_of_pieces (Val := Elt Ideal) (S := S1920x256) (e := .bf16) _ _ ?_ y (cover_rows (fun m => slab m dy w p sx) y)
  simp only [List.forall_mem_cons]
  exact ⟨slab_apply 4 dy w p sx, slab_apply 3 dy w p sx, slab_apply 2 dy w p sx, slab_apply 1 dy w p sx, slab_apply 0 dy w p sx, nofun⟩

/-- The block of the first gradient, at every entry. -/
theorem out9_eq : (out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) = dact (n := 256) x0 (weight (n := 256) (R := 4) rfl x6 (scales x7) x8) x5 x2 := by
  rw [out9_slabs (hw := readCov_wpieces arg13.view x6 x7 x8), slabs_eq]

/-- The block of the second gradient, at every entry. -/
theorem out10_eq : (out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) = dact (n := 256) x0 (weight (n := 256) (R := 4) rfl x6 (scales x7) x8) x4 x2 := by
  rw [out10_slabs (hw := readCov_wpieces arg13.view x6 x7 x8), slabs_eq]

/-- The block of the last gradient, at every entry. -/
theorem out11_eq : (out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) = dvd (n := 256) (R := 4) rfl x1 x3 x6 (scales x7) x8 := by
  funext y
  rw [out11_slabs]
  refine View.canon_apply_of_pieces (Val := Elt Ideal) (S := S256x2048) (e := .f32) _ _ ?_ y (cover_cols (fun n => slabD n x1 x3 x6 x7 x8) y)
  simp only [List.forall_mem_cons]
  exact ⟨slabD_apply 3 x1 x3 x6 x7 x8, slabD_apply 2 x1 x3 x6 x7 x8, slabD_apply 1 x1 x3 x6 x7 x8, slabD_apply 0 x1 x3 x6 x7 x8, nofun⟩

end Cert.BackDownBlock

end
-- ==== Proof.Down.Block.lean ====
/-
  What one grid point of `down` computes. It puts 256 rows of the down projection's weight together in one scratch buffer and, 128
  rows at a time, the codes of the activations in another; then, 512 columns at a time, it adds the product of the two to the sums
  the grid points before it left.
-/
module

public import proofs.«01_k».proof.Proof.Codes
public import proofs.«01_k».proof.Proof.BackDown.Block
public import proofs.«01_k».proof.Proof.Gen.DownIdeal.Value

@[expose] public section

noncomputable section

namespace Cert.DownBlock

open Idealize.ShloMosaic Idealize.ShloMosaic.TcCoe Cert.Soft Cert.DownIdeal Cert.DownIdeal.Gen
open Cert.BackDownBlock (scales wpieces srow srow_apply)

/-- The product of the clipped quotients and the weight. -/
def prod {n : ℕ} (q : (S 1920 n).Idx → EReal) (w : (S n 2048).Idx → EReal) : (S 1920 2048).Idx → EReal :=
  fun y => ∑ k : Fin n, q (ix2 (y 0) k) * w (ix2 k (y 1))

variable (x0 : Vec Ideal S1920x256 .f32) (x1 : Vec Ideal S1920x1 .f32) (x2 : Vec Ideal S256x2048 .i8) (x3 : Vec Ideal S1x4x2048 .f32)
  (x4 : Vec Ideal S256x2048 .f32)

/-- The clipped quotients of 128 rows. -/
def clipR (r : ℕ) (h : 128 * r + 128 ≤ 1920) : FVec Ideal (S 128 256) .f32 :=
  clipV (n := 128) (c := 256) (View.ld x0 (rows (n := 1920) (c := 256) (128 * r) 128 h)) (View.ld x1 (rows (n := 1920) (c := 1) (128 * r) 128 h)) broadcasts_S128x1_S128x256

theorem clipR_eq (r : ℕ) (h : 128 * r + 128 ≤ 1920) (x : (S 128 256).Idx) :
    clipR x0 x1 r h x = clips (n := 1920) (c := 256) x0 x1 ((rows (n := 1920) (c := 256) (128 * r) 128 h).emb x) := by
  unfold clipR
  rw [clipV_eq]
  exact clips_rows h x0 x1 x

/-- The codes a grid point writes, and the copy it keeps in scratch: fifteen times 128 rows. -/
def aqP : List (View.Piece (Elt Ideal) S1920x256 .i8) :=
  rowPieces (e := .i8) (n := 1920) (c := 256) (k := 128) (fun r h => fptosi (F := Ideal) 8 (clipR x0 x1 r h)) 15 (by decide)
def abP : List (View.Piece (Elt Ideal) S1920x256 .bf16) :=
  rowPieces (e := .bf16) (n := 1920) (c := 256) (k := 128)
    (fun r h => shapeCast (S 128 256) (truncf (F := Ideal) .bf16 (clipR x0 x1 r h) bitsLt_bf16_f32) shapeCasts_S128x256_S128x256) 15 (by decide)

theorem aqP_eq : View.canon (aqP x0 x1) = codes (n := 1920) (c := 256) x0 x1 :=
  rowPieces_eq (e := .i8) (n := 1920) (c := 256) (k := 128) 15 rfl _ _
    fun r h x => congrArg (FloatOps.fptosi (F := Ideal) (φ := .f32) 8) (clipR_eq x0 x1 r h x)

theorem abP_eq : View.canon (abP x0 x1) = clips (n := 1920) (c := 256) x0 x1 :=
  rowPieces_eq (e := .bf16) (n := 1920) (c := 256) (k := 128) 15 rfl _ _
    fun r h x => (congrFun (shapeCast_self _ shapeCasts_S128x256_S128x256) x).trans (clipR_eq x0 x1 r h x)

/-- The scratch copy of the codes read back whole. -/
theorem readCov_abP {sig : RefSig} {κ : Kind} {sp : Space} (vw : View sig κ sp S1920x256 .bf16) :
    vw.readCov (abP x0 x1) (rows (n := 1920) (c := 256) 0 1920 (by decide)).toLoadRect = clips (n := 1920) (c := 256) x0 x1 := by
  rw [View.readCov_eq_canon', abP_eq]
  exact whole_of (clips (n := 1920) (c := 256) x0 x1) _ (fun y => by show 0 + 1 * (y 0).val = (y 0).val; omega)
    (fun y => by show 0 + 1 * (y 1).val = (y 1).val; omega)

/-- Any columns of the scratch weight read back. -/
theorem readCov_wcols {sig : RefSig} {κ : Kind} {sp : Space} (vw : View sig κ sp S256x2048 .bf16) (r : Rect S256x2048) :
    vw.readCov (wpieces x2 x3 x4) r.toLoadRect = View.ld (Val := Elt Ideal) (e' := .bf16) (weight (n := 256) (R := 4) rfl x2 (scales x3) x4) r := by
  have hc : ∀ y, ∃ p ∈ wpieces x2 x3 x4, y ∈ p.1.set :=
    fun y => View.cover_of_tiledL (wpieces x2 x3 x4) S64x2048.size (by sl_kernel_rfl) y
  rw [View.readCov_eq_canon_ld _ _ _ hc]
  refine congrArg (fun X => View.ld (Val := Elt Ideal) (e' := .bf16) X r) (funext fun y => ?_)
  refine View.canon_apply_of_pieces (Val := Elt Ideal) (S := S256x2048) (e := .bf16) _ _ ?_ y (hc y)
  unfold wpieces
  simp only [List.forall_mem_cons]
  exact ⟨wpiece_apply (R := 4) rfl _ x2 x4 _ _ (scales x3) (srow_apply x3 3), wpiece_apply (R := 4) rfl _ x2 x4 _ _ (scales x3) (srow_apply x3 2),
    wpiece_apply (R := 4) rfl _ x2 x4 _ _ (scales x3) (srow_apply x3 1), wpiece_apply (R := 4) rfl _ x2 x4 _ _ (scales x3) (srow_apply x3 0), nofun⟩

/-- Columns `512 n` to `512 n + 511` of the sums. -/
def yV (n : Fin 4) (old : Vec Ideal S1920x2048 .f32) (q : Vec Ideal S1920x256 .bf16) (w : (r : Rect S256x2048) → r.shape.Idx → Elt Ideal .bf16) : FVec Ideal S1920x512 .f32 :=
  addf (φ := .f32) (shapeCast S1920x512 (View.ld old (cols (n := 1920) (c := 2048) (512 * n.val) 512 (by omega))) shapeCasts_S1920x512_S1920x512)
    (matmul (φ₁ := .bf16) (φ₂ := .bf16) dot_S1920x256_S256x512_S1920x512_1_0_0_1_n_n none q
      (w (cols (n := 256) (c := 2048) (512 * n.val) 512 (by omega))) (constant S1920x512 .f32 0x00000000#32))

/-- An entry of the product of the codes with 512 columns of the weight. -/
theorem dot_apply (a : FVec Ideal S1920x256 .bf16) (b : FVec Ideal S256x512 .bf16) (i : Fin 1920) (j : Fin 512) :
    matmul dot_S1920x256_S256x512_S1920x512_1_0_0_1_n_n none a b (constant S1920x512 .f32 0x00000000#32) (ix2 i j)
      = ∑ k : Fin 256, a (ix2 i k) * b (ix2 k j) := by
  pointwise

theorem yV_apply (n : Fin 4) (old : Vec Ideal S1920x2048 .f32) (q : Vec Ideal S1920x256 .bf16) (w : Vec Ideal S256x2048 .bf16) (y : S1920x512.Idx) :
    yV n old q (fun r => View.ld w r) y = old ((cols (n := 1920) (c := 2048) (512 * n.val) 512 (by omega)).emb y)
      + prod (n := 256) q w ((cols (n := 1920) (c := 2048) (512 * n.val) 512 (by omega)).emb y) := by
  obtain ⟨i, j, rfl⟩ : ∃ i j, y = ix2 i j := ⟨_, _, eq_ix2 y⟩
  unfold yV
  rw [emb_cols]
  refine congrArg₂ (· + ·) ((congrFun (shapeCast_self _ shapeCasts_S1920x512_S1920x512) (ix2 i j)).trans (ld_cols (α := Elt Ideal) (e := .f32) _ old i j)) ((dot_apply _ _ i j).trans (Finset.sum_congr rfl fun k _ => ?_))
  exact congrArg (q (ix2 i k) * ·) (ld_cols (α := Elt Ideal) (e := .bf16) _ w k j)

/-- The stores of the sums, last store first. -/
def yP (old : Vec Ideal S1920x2048 .f32) (q : Vec Ideal S1920x256 .bf16) (w : (r : Rect S256x2048) → r.shape.Idx → Elt Ideal .bf16) : List (View.Piece (Elt Ideal) S1920x2048 .f32) :=
  [⟨cols (n := 1920) (c := 2048) (512 * 3) 512 (by decide), yV 3 old q w⟩, ⟨cols (n := 1920) (c := 2048) (512 * 2) 512 (by decide), yV 2 old q w⟩,
   ⟨cols (n := 1920) (c := 2048) (512 * 1) 512 (by decide), yV 1 old q w⟩, ⟨cols (n := 1920) (c := 2048) (512 * 0) 512 (by decide), yV 0 old q w⟩]
/-- At the first grid point the sums start from a store of zeros. -/
abbrev zeros : Vec Ideal S1920x2048 .f32 := k0_pay4 (F := Ideal)
def yP0 (q : Vec Ideal S1920x256 .bf16) (w : (r : Rect S256x2048) → r.shape.Idx → Elt Ideal .bf16) : List (View.Piece (Elt Ideal) S1920x2048 .f32) :=
  yP zeros q w ++ [⟨rows (n := 1920) (c := 2048) 0 1920 (by decide), zeros⟩]

theorem yP_eq (old : Vec Ideal S1920x2048 .f32) (q : Vec Ideal S1920x256 .bf16) (w : Vec Ideal S256x2048 .bf16) (Z : List (View.Piece (Elt Ideal) S1920x2048 .f32)) :
    View.canon (yP old q (fun r => View.ld w r) ++ Z) = fun y => old y + prod (n := 256) q w y := by
  funext y
  have hc : ∃ p ∈ yP old q (fun r => View.ld w r), y ∈ p.1.set :=
    View.cover_of_tiledL (s := S1920x2048) (yP old q (fun r => View.ld w r)) S1920x512.size (by sl_kernel_rfl) y
  refine View.canon_append_of_pieces (Val := Elt Ideal) (S := S1920x2048) (e := .f32) (fun y => old y + prod (n := 256) q w y) Z _ ?_ y hc
  unfold yP
  simp only [List.forall_mem_cons]
  exact ⟨yV_apply 3 old q w, yV_apply 2 old q w, yV_apply 1 old q w, yV_apply 0 old q w, nofun⟩

variable (c : Dev nD) (i : grid0.Coords)
  (arg1 : Memref sig .tc .vmem S1920x256 .f32) (harg1 : arg1.IsWhole) (arg2 : Memref sig .tc .vmem S1920x1 .f32) (harg2 : arg2.IsWhole) (arg3 : Memref sig .tc .vmem S256x2048 .i8) (harg3 : arg3.IsWhole) (arg4 : Memref sig .tc .vmem S1x4x2048 .f32) (harg4 : arg4.IsWhole) (arg5 : Memref sig .tc .vmem S256x2048 .f32) (harg5 : arg5.IsWhole) (arg6 : Memref sig .tc .vmem S1920x256 .i8) (harg6 : arg6.IsWhole) (arg7 : Memref sig .tc .vmem S1920x2048 .f32) (harg7 : arg7.IsWhole) (arg8 : Memref sig .tc .vmem S1920x256 .bf16) (harg8 : arg8.IsWhole) (arg9 : Memref sig .tc .vmem S256x2048 .bf16) (harg9 : arg9.IsWhole)
  (xo6 : Vec Ideal S1920x2048 .f32)

/-! The first grid point. -/

theorem out0_A_5_eq (hc0 : cond0_0 i) : out0_A_5 c i arg1 harg1 arg2 harg2 arg3 harg3 arg4 harg4 arg5 harg5 arg6 harg6 arg7 harg7 arg8 harg8 arg9 harg9 hc0 x0 x1 x2 x3 x4 = codes (n := 1920) (c := 256) x0 x1 := by
  refine Eq.trans ?_ (aqP_eq x0 x1)
  frame_out
  rfl

theorem out0_A_6_stores (hc0 : cond0_0 i) : out0_A_6 c i arg1 harg1 arg2 harg2 arg3 harg3 arg4 harg4 arg5 harg5 arg6 harg6 arg7 harg7 arg8 harg8 arg9 harg9 hc0 x0 x1 x2 x3 x4
    = View.canon (yP0 (arg8.view.readCov (abP x0 x1) (rows (n := 1920) (c := 256) 0 1920 (by decide)).toLoadRect) (fun r => arg9.view.readCov (wpieces x2 x3 x4) r.toLoadRect)) := by
  frame_out [↓View.readCov_skip, View.readCov_fill]
  rfl

theorem out0_A_6_eq (hc0 : cond0_0 i) : out0_A_6 c i arg1 harg1 arg2 harg2 arg3 harg3 arg4 harg4 arg5 harg5 arg6 harg6 arg7 harg7 arg8 harg8 arg9 harg9 hc0 x0 x1 x2 x3 x4
    = fun y => zeros y + prod (n := 256) (clips (n := 1920) (c := 256) x0 x1) (weight (n := 256) (R := 4) rfl x2 (scales x3) x4) y := by
  rw [out0_A_6_stores, readCov_abP, (funext fun r => readCov_wcols x2 x3 x4 arg9.view r :
    (fun r : Rect S256x2048 => arg9.view.readCov (wpieces x2 x3 x4) r.toLoadRect) = _)]
  exact yP_eq zeros _ _ _

/-! The other grid points. -/

theorem out0_B_5_eq (hc0 : ¬cond0_0 i) : out0_B_5 c i arg1 harg1 arg2 harg2 arg3 harg3 arg4 harg4 arg5 harg5 arg6 harg6 arg7 harg7 arg8 harg8 arg9 harg9 hc0 x0 x1 x2 x3 x4 xo6 = codes (n := 1920) (c := 256) x0 x1 := by
  refine Eq.trans ?_ (aqP_eq x0 x1)
  frame_out
  rfl

theorem out0_B_6_stores (hc0 : ¬cond0_0 i) : out0_B_6 c i arg1 harg1 arg2 harg2 arg3 harg3 arg4 harg4 arg5 harg5 arg6 harg6 arg7 harg7 arg8 harg8 arg9 harg9 hc0 x0 x1 x2 x3 x4 xo6
    = View.canon (yP xo6 (arg8.view.readCov (abP x0 x1) (rows (n := 1920) (c := 256) 0 1920 (by decide)).toLoadRect) (fun r => arg9.view.readCov (wpieces x2 x3 x4) r.toLoadRect)) := by
  frame_out
  rfl

theorem out0_B_6_eq (hc0 : ¬cond0_0 i) : out0_B_6 c i arg1 harg1 arg2 harg2 arg3 harg3 arg4 harg4 arg5 harg5 arg6 harg6 arg7 harg7 arg8 harg8 arg9 harg9 hc0 x0 x1 x2 x3 x4 xo6
    = fun y => xo6 y + prod (n := 256) (clips (n := 1920) (c := 256) x0 x1) (weight (n := 256) (R := 4) rfl x2 (scales x3) x4) y := by
  rw [out0_B_6_stores, readCov_abP, (funext fun r => readCov_wcols x2 x3 x4 arg9.view r :
    (fun r : Rect S256x2048 => arg9.view.readCov (wpieces x2 x3 x4) r.toLoadRect) = _), ← List.append_nil (yP _ _ _)]
  exact yP_eq xo6 _ _ _

end Cert.DownBlock

end
-- ==== Proof.BackDown.Array.lean ====
/-
  The arrays `back_down` leaves, put together from their blocks of 256 columns or 256 rows.
-/
module

public import proofs.«01_k».proof.Proof.BackDown.Block

@[expose] public section

noncomputable section

namespace Cert.BackDownArray

open Idealize.ShloMosaic Idealize.ShloMosaic.TcCoe Idealize.SL.Sem Cert.Soft Cert.BackDownIdeal Cert.BackDownIdeal.Gen Cert.BackDownBlock
open Idealize.ShloMosaic.Pipeline (Dat)

variable (m : (ℓ : Loc nD τ sig) → Buf (Elt Ideal) ℓ) (ρ : Dev nD → PrngReg)

/-- Block `t` of columns of an array with 16384 columns. -/
abbrev cblk {α : Type} {n : ℕ} (t : Fin cfg0.N) (X : (S n 16384).Idx → α) : (S n 256).Idx → α := colBlk 256 64 rfl t X
/-- Block `t` of rows of an array with 16384 rows. -/
abbrev rblk {α : Type} {n : ℕ} (t : Fin cfg0.N) (X : (S 16384 n).Idx → α) : (S 256 n).Idx → α := rowBlk 256 64 rfl t X

/-- Which block each window holds at grid point `t`. -/
theorem idx : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = t.val ∧ win0_6.index t (1 : Fin 2) = 0
    ∧ win0_8.index t (0 : Fin 2) = t.val ∧ win0_8.index t (1 : Fin 2) = 0
    ∧ win0_9.index t (0 : Fin 2) = 0 ∧ win0_9.index t (1 : Fin 2) = t.val
    ∧ win0_10.index t (0 : Fin 2) = 0 ∧ win0_10.index t (1 : Fin 2) = t.val
    ∧ win0_11.index t (0 : Fin 2) = t.val ∧ win0_11.index t (1 : Fin 2) = 0 :=
  (by decide +kernel : ∀ t : Fin grid0.N, _)

/-- The window of the scales holds the four rows of grid point `t`. -/
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

theorem iblk0 (c : Dev nD) (t : Fin cfg0.N) : iblk m c 0 t = m ((c : Thread nD τ).loc main_arg0) := by
  rw [← V_main_arg0 m c]
  have h := idx t
  exact whole_of (V m c main_arg0) ((cfg0.win 0).blk t).view.emb
    (fun y => by show win0_0.index t (0 : Fin 2) * 1920 + 1 * (y 0).val = (y 0).val; omega)
    (fun y => by show win0_0.index t (1 : Fin 2) * 2048 + 1 * (y 1).val = (y 1).val; omega)

theorem iblk1 (c : Dev nD) (t : Fin cfg0.N) : iblk m c 1 t = m ((c : Thread nD τ).loc main_arg1) := by
  rw [← V_main_arg1 m c]
  have h := idx t
  exact whole_of (V m c main_arg1) ((cfg0.win 1).blk t).view.emb
    (fun y => by show win0_1.index t (0 : Fin 2) * 1920 + 1 * (y 0).val = (y 0).val; omega)
    (fun y => by show win0_1.index t (1 : Fin 2) * 2048 + 1 * (y 1).val = (y 1).val; omega)

theorem iblk2 (c : Dev nD) (t : Fin cfg0.N) : iblk m c 2 t = m ((c : Thread nD τ).loc main_arg2) := by
  rw [← V_main_arg2 m c]
  have h := idx t
  exact whole_of (V m c main_arg2) ((cfg0.win 2).blk t).view.emb
    (fun y => by show win0_2.index t (0 : Fin 2) * 1920 + 1 * (y 0).val = (y 0).val; omega)
    (fun y => by show win0_2.index t (1 : Fin 2) * 1 + 1 * (y 1).val = (y 1).val; omega)

theorem iblk3 (c : Dev nD) (t : Fin cfg0.N) : iblk m c 3 t = cblk t (m ((c : Thread nD τ).loc main_arg3)) := by
  rw [← V_main_arg3 m c]
  have h := idx t
  exact colBlk_of 256 64 rfl t (V m c main_arg3) ((cfg0.win 3).blk t).view.emb
    (fun y => by show win0_3.index t (0 : Fin 2) * 1920 + 1 * (y 0).val = (y 0).val; omega)
    (fun y => by show win0_3.index t (1 : Fin 2) * 256 + 1 * (y 1).val = 256 * t.val + (y 1).val; omega)

theorem iblk4 (c : Dev nD) (t : Fin cfg0.N) : iblk m c 4 t = cblk t (m ((c : Thread nD τ).loc main_arg4)) := by
  rw [← V_main_arg4 m c]
  have h := idx t
  exact colBlk_of 256 64 rfl t (V m c main_arg4) ((cfg0.win 4).blk t).view.emb
    (fun y => by show win0_4.index t (0 : Fin 2) * 1920 + 1 * (y 0).val = (y 0).val; omega)
    (fun y => by show win0_4.index t (1 : Fin 2) * 256 + 1 * (y 1).val = 256 * t.val + (y 1).val; omega)

theorem iblk5 (c : Dev nD) (t : Fin cfg0.N) : iblk m c 5 t = cblk t (m ((c : Thread nD τ).loc main_arg5)) := by
  rw [← V_main_arg5 m c]
  have h := idx t
  exact colBlk_of 256 64 rfl t (V m c main_arg5) ((cfg0.win 5).blk t).view.emb
    (fun y => by show win0_5.index t (0 : Fin 2) * 1920 + 1 * (y 0).val = (y 0).val; omega)
    (fun y => by show win0_5.index t (1 : Fin 2) * 256 + 1 * (y 1).val = 256 * t.val + (y 1).val; omega)

theorem iblk6 (c : Dev nD) (t : Fin cfg0.N) : iblk m c 6 t = rblk t (m ((c : Thread nD τ).loc main_arg6)) := by
  rw [← V_main_arg6 m c]
  have h := idx t
  exact rowBlk_of 256 64 rfl t (V m c main_arg6) ((cfg0.win 6).blk t).view.emb
    (fun y => by show win0_6.index t (0 : Fin 2) * 256 + 1 * (y 0).val = 256 * t.val + (y 0).val; omega)
    (fun y => by show win0_6.index t (1 : Fin 2) * 2048 + 1 * (y 1).val = (y 1).val; omega)

theorem iblk8 (c : Dev nD) (t : Fin cfg0.N) : iblk m c 8 t = rblk t (m ((c : Thread nD τ).loc main_arg8)) := by
  rw [← V_main_arg8 m c]
  have h := idx t
  exact rowBlk_of 256 64 rfl t (V m c main_arg8) ((cfg0.win 8).blk t).view.emb
    (fun y => by show win0_8.index t (0 : Fin 2) * 256 + 1 * (y 0).val = 256 * t.val + (y 0).val; omega)
    (fun y => by show win0_8.index t (1 : Fin 2) * 2048 + 1 * (y 1).val = (y 1).val; omega)

/-- The scales as the region finds them: the argument's rows in groups of four. -/
theorem V_main_v0 (c : Dev nD) : V m c main_v0 = shapeCast S64x4x2048 (m ((c : Thread nD τ).loc main_arg7)) shapeCasts_S256x2048_S64x4x2048 := rfl

theorem scales_iblk7 (c : Dev nD) (t : Fin cfg0.N) :
    scales (iblk m c 7 t) = rowBlk 4 64 rfl t (m ((c : Thread nD τ).loc main_arg7)) := by
  funext y
  obtain ⟨e0, e1, e2⟩ := idx7 t
  have ht : t.val < 64 := t.isLt
  have h0 : (y 0).val < 4 := (y 0).isLt
  show V m c main_v0 (((cfg0.win 7).blk t).view.emb (ix3 0 (y 0) (y 1))) = _
  have e : ((cfg0.win 7).blk t).view.emb (ix3 0 (y 0) (y 1)) = (ix3 t (y 0) (y 1) : S64x4x2048.Idx) := by
    funext a
    match a with
    | ⟨0, _⟩ => exact Fin.ext (by show win0_7.index t (0 : Fin 3) * 1 + 1 * 0 = t.val; omega)
    | ⟨1, _⟩ => exact Fin.ext (by show win0_7.index t (1 : Fin 3) * 4 + 1 * (y 0).val = (y 0).val; omega)
    | ⟨2, _⟩ => exact Fin.ext (by show win0_7.index t (2 : Fin 3) * 2048 + 1 * (y 1).val = (y 1).val; omega)
  rw [e, V_main_v0]
  refine shapeCast_apply _ shapeCasts_S256x2048_S64x4x2048 _ (ix2 ⟨4 * t.val + (y 0).val, by omega⟩ (y 1)) ?_
  rw [Shape.rowMajor_val_three, Shape.rowMajor_val_two]
  show (4 * t.val + (y 0).val) * 2048 + (y 1).val = (t.val * 4 + (y 0).val) * 2048 + (y 1).val
  omega

/-- A block of rows of the weight is the weight of the blocks. -/
theorem weight_rblk (t : Fin cfg0.N) (f : (S 16384 2048).Idx → BitVec 8) (s : (S 256 2048).Idx → EReal) (v : (S 16384 2048).Idx → EReal) :
    weight (n := 256) (R := 4) rfl (rblk t f) (rowBlk 4 64 rfl t s) (rblk t v) = rblk t (weight (n := 16384) (R := 256) rfl f s v) := by
  funext y
  show wq _ _ * s _ = wq _ _ * s _
  congr 2
  funext a
  match a with
  | ⟨0, _⟩ => exact Fin.ext (by show 4 * t.val + (y 0).val / 64 = (256 * t.val + (y 0).val) / 64; omega)
  | ⟨1, _⟩ => rfl

/-- A block of rows of the last gradient is that gradient of the blocks. -/
theorem dvd_rblk (t : Fin cfg0.N) (dy : (S 1920 2048).Idx → EReal) (q : (S 1920 16384).Idx → BitVec 8) (f : (S 16384 2048).Idx → BitVec 8)
    (s : (S 256 2048).Idx → EReal) (v : (S 16384 2048).Idx → EReal) :
    dvd (n := 256) (R := 4) rfl dy (cblk t q) (rblk t f) (rowBlk 4 64 rfl t s) (rblk t v) = rblk t (dvd (n := 16384) (R := 256) rfl dy q f s v) := by
  funext y
  show dv (_ * s _) _ _ = dv (_ * s _) _ _
  congr 3
  funext a
  match a with
  | ⟨0, _⟩ => exact Fin.ext (by show 4 * t.val + (y 0).val / 64 = (256 * t.val + (y 0).val) / 64; omega)
  | ⟨1, _⟩ => rfl

/-- What the launch leaves in its first result. -/
theorem final9 (c : Dev nD) : (dats m 0 c).arrAt 9 cfg0.N = dact (n := 16384) (m ((c : Thread nD τ).loc main_arg0)) (weight (n := 16384) (R := 256) rfl (m ((c : Thread nD τ).loc main_arg6)) (m ((c : Thread nD τ).loc main_arg7)) (m ((c : Thread nD τ).loc main_arg8))) (m ((c : Thread nD τ).loc main_arg5)) (m ((c : Thread nD τ).loc main_arg2)) := by
  have hemb : ∀ (t : Fin cfg0.N) (y : S1920x256.Idx), (((cfg0.win 9).blk t).view.emb y 0).val = (y 0).val
      ∧ (((cfg0.win 9).blk t).view.emb y 1).val = 256 * t.val + (y 1).val := fun t y => by
    have h := idx t
    constructor
    · show win0_9.index t (0 : Fin 2) * 1920 + 1 * (y 0).val = (y 0).val; omega
    · show win0_9.index t (1 : Fin 2) * 256 + 1 * (y 1).val = 256 * t.val + (y 1).val; omega
  refine (dats m 0 c).arrAt_eq_of_cover 9 _ (fun t _ => ?_) fun i => ?_
  · rw [Value.flushed9_A, out9_eq, iblk0, iblk2, iblk5, iblk6, iblk8, scales_iblk7, weight_rblk]
    exact (colBlk_of 256 64 rfl t (dact (n := 16384) (m ((c : Thread nD τ).loc main_arg0)) (weight (n := 16384) (R := 256) rfl (m ((c : Thread nD τ).loc main_arg6)) (m ((c : Thread nD τ).loc main_arg7)) (m ((c : Thread nD τ).loc main_arg8))) (m ((c : Thread nD τ).loc main_arg5)) (m ((c : Thread nD τ).loc main_arg2))) ((cfg0.win 9).blk t).view.emb (fun y => (hemb t y).1) (fun y => (hemb t y).2)).symm
  · have h0 : (i 0).val < 1920 := (i 0).isLt
    have h1 : (i 1).val < 16384 := (i 1).isLt
    let t : Fin cfg0.N := ⟨(i 1).val / 256, show _ < 64 by omega⟩
    refine ⟨t, flush0_9 t, ?_⟩
    have h := ((cfg0.win 9).blk t).view.emb_mem_set (ix2 (i 0) ⟨(i 1).val % 256, by omega⟩)
    have e : ((cfg0.win 9).blk t).view.emb (ix2 (i 0) ⟨(i 1).val % 256, by omega⟩) = i := by
      funext a
      match a with
      | ⟨0, _⟩ => exact Fin.ext (hemb t _).1
      | ⟨1, _⟩ => exact Fin.ext ((hemb t _).2.trans (Nat.div_add_mod _ 256))
    rwa [e] at h

/-- What the launch leaves in its second result. -/
theorem final10 (c : Dev nD) : (dats m 0 c).arrAt 10 cfg0.N = dact (n := 16384) (m ((c : Thread nD τ).loc main_arg0)) (weight (n := 16384) (R := 256) rfl (m ((c : Thread nD τ).loc main_arg6)) (m ((c : Thread nD τ).loc main_arg7)) (m ((c : Thread nD τ).loc main_arg8))) (m ((c : Thread nD τ).loc main_arg4)) (m ((c : Thread nD τ).loc main_arg2)) := by
  have hemb : ∀ (t : Fin cfg0.N) (y : S1920x256.Idx), (((cfg0.win 10).blk t).view.emb y 0).val = (y 0).val
      ∧ (((cfg0.win 10).blk t).view.emb y 1).val = 256 * t.val + (y 1).val := fun t y => by
    have h := idx t
    constructor
    · show win0_10.index t (0 : Fin 2) * 1920 + 1 * (y 0).val = (y 0).val; omega
    · show win0_10.index t (1 : Fin 2) * 256 + 1 * (y 1).val = 256 * t.val + (y 1).val; omega
  refine (dats m 0 c).arrAt_eq_of_cover 10 _ (fun t _ => ?_) fun i => ?_
  · rw [Value.flushed10_A, out10_eq, iblk0, iblk2, iblk4, iblk6, iblk8, scales_iblk7, weight_rblk]
    exact (colBlk_of 256 64 rfl t (dact (n := 16384) (m ((c : Thread nD τ).loc main_arg0)) (weight (n := 16384) (R := 256) rfl (m ((c : Thread nD τ).loc main_arg6)) (m ((c : Thread nD τ).loc main_arg7)) (m ((c : Thread nD τ).loc main_arg8))) (m ((c : Thread nD τ).loc main_arg4)) (m ((c : Thread nD τ).loc main_arg2))) ((cfg0.win 10).blk t).view.emb (fun y => (hemb t y).1) (fun y => (hemb t y).2)).symm
  · have h0 : (i 0).val < 1920 := (i 0).isLt
    have h1 : (i 1).val < 16384 := (i 1).isLt
    let t : Fin cfg0.N := ⟨(i 1).val / 256, show _ < 64 by omega⟩
    refine ⟨t, flush0_10 t, ?_⟩
    have h := ((cfg0.win 10).blk t).view.emb_mem_set (ix2 (i 0) ⟨(i 1).val % 256, by omega⟩)
    have e : ((cfg0.win 10).blk t).view.emb (ix2 (i 0) ⟨(i 1).val % 256, by omega⟩) = i := by
      funext a
      match a with
      | ⟨0, _⟩ => exact Fin.ext (hemb t _).1
      | ⟨1, _⟩ => exact Fin.ext ((hemb t _).2.trans (Nat.div_add_mod _ 256))
    rwa [e] at h

/-- What the launch leaves in its third result. -/
theorem final11 (c : Dev nD) : (dats m 0 c).arrAt 11 cfg0.N = dvd (n := 16384) (R := 256) rfl (m ((c : Thread nD τ).loc main_arg1)) (m ((c : Thread nD τ).loc main_arg3)) (m ((c : Thread nD τ).loc main_arg6)) (m ((c : Thread nD τ).loc main_arg7)) (m ((c : Thread nD τ).loc main_arg8)) := by
  have hemb : ∀ (t : Fin cfg0.N) (y : S256x2048.Idx), (((cfg0.win 11).blk t).view.emb y 0).val = 256 * t.val + (y 0).val
      ∧ (((cfg0.win 11).blk t).view.emb y 1).val = (y 1).val := fun t y => by
    have h := idx t
    constructor
    · show win0_11.index t (0 : Fin 2) * 256 + 1 * (y 0).val = 256 * t.val + (y 0).val; omega
    · show win0_11.index t (1 : Fin 2) * 2048 + 1 * (y 1).val = (y 1).val; omega
  refine (dats m 0 c).arrAt_eq_of_cover 11 _ (fun t _ => ?_) fun i => ?_
  · rw [Value.flushed11_A, out11_eq, iblk1, iblk3, iblk6, iblk8, scales_iblk7, dvd_rblk]
    exact (rowBlk_of 256 64 rfl t (dvd (n := 16384) (R := 256) rfl (m ((c : Thread nD τ).loc main_arg1)) (m ((c : Thread nD τ).loc main_arg3)) (m ((c : Thread nD τ).loc main_arg6)) (m ((c : Thread nD τ).loc main_arg7)) (m ((c : Thread nD τ).loc main_arg8))) ((cfg0.win 11).blk t).view.emb (fun y => (hemb t y).1) (fun y => (hemb t y).2)).symm
  · have h0 : (i 0).val < 16384 := (i 0).isLt
    have h1 : (i 1).val < 2048 := (i 1).isLt
    let t : Fin cfg0.N := ⟨(i 0).val / 256, show _ < 64 by omega⟩
    refine ⟨t, flush0_11 t, ?_⟩
    have h := ((cfg0.win 11).blk t).view.emb_mem_set (ix2 ⟨(i 0).val % 256, by omega⟩ (i 1))
    have e : ((cfg0.win 11).blk t).view.emb (ix2 ⟨(i 0).val % 256, by omega⟩ (i 1)) = i := by
      funext a
      match a with
      | ⟨0, _⟩ => exact Fin.ext ((hemb t _).1.trans (Nat.div_add_mod _ 256))
      | ⟨1, _⟩ => exact Fin.ext (hemb t _).2
    rwa [e] at h

end Cert.BackDownArray

end
-- ==== Proof.Down.Array.lean ====
/-
  The arrays `down` leaves: the codes, put together from their blocks of 256 columns, and the product of the codes with the weight,
  whose sum over 16384 columns the 64 grid points add up 256 at a time.
-/
module

public import proofs.«01_k».proof.Proof.Down.Block
public import proofs.«01_k».proof.Proof.BackDown.Array

@[expose] public section

noncomputable section

namespace Cert.DownArray

open Idealize.ShloMosaic Idealize.ShloMosaic.TcCoe Idealize.SL.Sem Cert.Soft Cert.DownIdeal Cert.DownIdeal.Gen Cert.DownBlock
open Cert.BackDownBlock (scales)
open Idealize.ShloMosaic.Pipeline (Dat)

variable (m : (ℓ : Loc nD τ sig) → Buf (Elt Ideal) ℓ) (ρ : Dev nD → PrngReg)

/-- Block `t` of columns of an array with 16384 columns. -/
abbrev cblk {α : Type} {n : ℕ} (t : Fin cfg0.N) (X : (S n 16384).Idx → α) : (S n 256).Idx → α := colBlk 256 64 rfl t X
/-- Block `t` of rows of an array with 16384 rows. -/
abbrev rblk {α : Type} {n : ℕ} (t : Fin cfg0.N) (X : (S 16384 n).Idx → α) : (S 256 n).Idx → α := rowBlk 256 64 rfl t X

/-- Which block each window holds at grid point `t`. -/
theorem idx : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0
    ∧ win0_4.index t (0 : Fin 2) = t.val ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = 0 :=
  (by decide +kernel : ∀ t : Fin grid0.N, _)

/-- The window of the scales holds the four rows of grid point `t`. -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

theorem iblk0 (c : Dev nD) (t : Fin cfg0.N) : iblk m c 0 t = cblk t (m ((c : Thread nD τ).loc main_arg0)) := by
  rw [← V_main_arg0 m c]
  have h := idx t
  exact colBlk_of 256 64 rfl t (V m c main_arg0) ((cfg0.win 0).blk t).view.emb
    (fun y => by show win0_0.index t (0 : Fin 2) * 1920 + 1 * (y 0).val = (y 0).val; omega)
    (fun y => by show win0_0.index t (1 : Fin 2) * 256 + 1 * (y 1).val = 256 * t.val + (y 1).val; omega)

theorem iblk1 (c : Dev nD) (t : Fin cfg0.N) : iblk m c 1 t = m ((c : Thread nD τ).loc main_arg1) := by
  rw [← V_main_arg1 m c]
  have h := idx t
  exact whole_of (V m c main_arg1) ((cfg0.win 1).blk t).view.emb
    (fun y => by show win0_1.index t (0 : Fin 2) * 1920 + 1 * (y 0).val = (y 0).val; omega)
    (fun y => by show win0_1.index t (1 : Fin 2) * 1 + 1 * (y 1).val = (y 1).val; omega)

theorem iblk2 (c : Dev nD) (t : Fin cfg0.N) : iblk m c 2 t = rblk t (m ((c : Thread nD τ).loc main_arg2)) := by
  rw [← V_main_arg2 m c]
  have h := idx t
  exact rowBlk_of 256 64 rfl t (V m c main_arg2) ((cfg0.win 2).blk t).view.emb
    (fun y => by show win0_2.index t (0 : Fin 2) * 256 + 1 * (y 0).val = 256 * t.val + (y 0).val; omega)
    (fun y => by show win0_2.index t (1 : Fin 2) * 2048 + 1 * (y 1).val = (y 1).val; omega)

theorem iblk4 (c : Dev nD) (t : Fin cfg0.N) : iblk m c 4 t = rblk t (m ((c : Thread nD τ).loc main_arg4)) := by
  rw [← V_main_arg4 m c]
  have h := idx t
  exact rowBlk_of 256 64 rfl t (V m c main_arg4) ((cfg0.win 4).blk t).view.emb
    (fun y => by show win0_4.index t (0 : Fin 2) * 256 + 1 * (y 0).val = 256 * t.val + (y 0).val; omega)
    (fun y => by show win0_4.index t (1 : Fin 2) * 2048 + 1 * (y 1).val = (y 1).val; omega)

/-- The scales as the region finds them: the argument's rows in groups of four. -/
theorem V_main_v0 (c : Dev nD) : V m c main_v0 = shapeCast S64x4x2048 (m ((c : Thread nD τ).loc main_arg3)) shapeCasts_S256x2048_S64x4x2048 := rfl

theorem scales_iblk3 (c : Dev nD) (t : Fin cfg0.N) :
    scales (iblk m c 3 t) = rowBlk 4 64 rfl t (m ((c : Thread nD τ).loc main_arg3)) := by
  funext y
  obtain ⟨e0, e1, e2⟩ := idx3 t
  have ht : t.val < 64 := t.isLt
  have h0 : (y 0).val < 4 := (y 0).isLt
  show V m c main_v0 (((cfg0.win 3).blk t).view.emb (ix3 0 (y 0) (y 1))) = _
  have e : ((cfg0.win 3).blk t).view.emb (ix3 0 (y 0) (y 1)) = (ix3 t (y 0) (y 1) : S64x4x2048.Idx) := by
    funext a
    match a with
    | ⟨0, _⟩ => exact Fin.ext (by show win0_3.index t (0 : Fin 3) * 1 + 1 * 0 = t.val; omega)
    | ⟨1, _⟩ => exact Fin.ext (by show win0_3.index t (1 : Fin 3) * 4 + 1 * (y 0).val = (y 0).val; omega)
    | ⟨2, _⟩ => exact Fin.ext (by show win0_3.index t (2 : Fin 3) * 2048 + 1 * (y 1).val = (y 1).val; omega)
  rw [e, V_main_v0]
  refine shapeCast_apply _ shapeCasts_S256x2048_S64x4x2048 _ (ix2 ⟨4 * t.val + (y 0).val, by omega⟩ (y 1)) ?_
  rw [Shape.rowMajor_val_three, Shape.rowMajor_val_two]
  show (4 * t.val + (y 0).val) * 2048 + (y 1).val = (t.val * 4 + (y 0).val) * 2048 + (y 1).val
  omega

/-- The arguments, and the two matrices that `down` multiplies. -/
abbrev clipsA (c : Dev nD) : (S 1920 16384).Idx → EReal := clips (n := 1920) (c := 16384) (m ((c : Thread nD τ).loc main_arg0)) (m ((c : Thread nD τ).loc main_arg1))
abbrev codesA (c : Dev nD) : (S 1920 16384).Idx → BitVec 8 := codes (n := 1920) (c := 16384) (m ((c : Thread nD τ).loc main_arg0)) (m ((c : Thread nD τ).loc main_arg1))
abbrev weightA (c : Dev nD) : (S 16384 2048).Idx → EReal :=
  weight (n := 16384) (R := 256) rfl (m ((c : Thread nD τ).loc main_arg2)) (m ((c : Thread nD τ).loc main_arg3)) (m ((c : Thread nD τ).loc main_arg4))

/-- A block of rows of the weight is the weight of the blocks. -/
theorem weight_blk (c : Dev nD) (t : Fin cfg0.N) : weight (n := 256) (R := 4) rfl (iblk m c 2 t) (scales (iblk m c 3 t)) (iblk m c 4 t) = rblk t (weightA m c) := by
  rw [iblk2, iblk4, scales_iblk3]
  exact Cert.BackDownArray.weight_rblk t _ _ _

/-- A block of columns of the codes is the codes of the block. -/
theorem clips_blk (c : Dev nD) (t : Fin cfg0.N) : clips (n := 1920) (c := 256) (iblk m c 0 t) (iblk m c 1 t) = cblk t (clipsA m c) := by
  rw [iblk0, iblk1]
  rfl
theorem codes_blk (c : Dev nD) (t : Fin cfg0.N) : codes (n := 1920) (c := 256) (iblk m c 0 t) (iblk m c 1 t) = cblk t (codesA m c) := by
  rw [iblk0, iblk1]
  rfl

theorem flushed5 (c : Dev nD) (t : Fin cfg0.N) : (dats m 0 c).flushed 5 t = (cfg0.win 5).cut (grid0.coords t) (cblk t (codesA m c)) := by
  by_cases h0 : t.val % 64 = 0
  · rw [Value.flushed5_A m c t h0, out0_A_5_eq, codes_blk]
  · rw [Value.flushed5_B m c t h0, out0_B_5_eq, codes_blk]

/-- What the launch leaves in its first result. -/
theorem final5 (c : Dev nD) : (dats m 0 c).arrAt 5 cfg0.N = codesA m c := by
  have hemb : ∀ (t : Fin cfg0.N) (y : S1920x256.Idx), (((cfg0.win 5).blk t).view.emb y 0).val = (y 0).val
      ∧ (((cfg0.win 5).blk t).view.emb y 1).val = 256 * t.val + (y 1).val := fun t y => by
    have h := idx t
    constructor
    · show win0_5.index t (0 : Fin 2) * 1920 + 1 * (y 0).val = (y 0).val; omega
    · show win0_5.index t (1 : Fin 2) * 256 + 1 * (y 1).val = 256 * t.val + (y 1).val; omega
  refine (dats m 0 c).arrAt_eq_of_cover 5 _ (fun t _ => ?_) fun i => ?_
  · rw [flushed5]
    exact (colBlk_of 256 64 rfl t (codesA m c) ((cfg0.win 5).blk t).view.emb (fun y => (hemb t y).1) (fun y => (hemb t y).2)).symm
  · have h0 : (i 0).val < 1920 := (i 0).isLt
    have h1 : (i 1).val < 16384 := (i 1).isLt
    let t : Fin cfg0.N := ⟨(i 1).val / 256, show _ < 64 by omega⟩
    refine ⟨t, flush0_5 t, ?_⟩
    have h := ((cfg0.win 5).blk t).view.emb_mem_set (ix2 (i 0) ⟨(i 1).val % 256, by omega⟩)
    have e : ((cfg0.win 5).blk t).view.emb (ix2 (i 0) ⟨(i 1).val % 256, by omega⟩) = i := by
      funext a
      match a with
      | ⟨0, _⟩ => exact Fin.ext (hemb t _).1
      | ⟨1, _⟩ => exact Fin.ext ((hemb t _).2.trans (Nat.div_add_mod _ 256))
    rwa [e] at h

/-- The sums after grid point `n`. -/
abbrev sums (c : Dev nD) (n : ℕ) (hn : n < cfg0.N) : (S 1920 2048).Idx → EReal := (outsAt0 m c n hn).2

/-- What grid point `t` adds. -/
abbrev part (c : Dev nD) (t : Fin cfg0.N) : (S 1920 2048).Idx → EReal := prod (n := 256) (cblk t (clipsA m c)) (rblk t (weightA m c))

theorem zeros_eq (y : (S 1920 2048).Idx) : zeros y = (0 : EReal) := by
  unfold zeros k0_pay4
  show Ideal.ofBits .f32 0x00000000#32 = 0
  simp [Ideal.ofBits, Ideal.ieee]

theorem sums_zero (c : Dev nD) (hn : 0 < cfg0.N) (y : (S 1920 2048).Idx) : sums m c 0 hn y = part m c ⟨0, hn⟩ y := by
  unfold sums
  rw [outsAt0_A m c ⟨0, hn⟩ rfl]
  dsimp only
  rw [out0_A_6_eq, clips_blk, weight_blk]
  exact (congrArg (· + part m c ⟨0, hn⟩ y) (zeros_eq y)).trans (zero_add _)

theorem sums_succ (c : Dev nD) (n : ℕ) (hn : n + 1 < cfg0.N) (y : (S 1920 2048).Idx) :
    sums m c (n + 1) hn y = sums m c n (Nat.lt_of_succ_lt hn) y + part m c ⟨n + 1, hn⟩ y := by
  have hN : n + 1 < 64 := hn
  unfold sums
  rw [outsAt0_B m c ⟨n + 1, hn⟩ (by show ¬ (n + 1) % 64 = 0; omega)]
  dsimp only
  rw [out0_B_6_eq, clips_blk, weight_blk]
  rfl

/-- Term `k` of the sum at `(i, j)`. -/
def term (c : Dev nD) (i : Fin 1920) (j : Fin 2048) (k : ℕ) : EReal :=
  if h : k < 16384 then clipsA m c (ix2 i ⟨k, h⟩) * weightA m c (ix2 ⟨k, h⟩ j) else 0

/-- A grid point adds the next 256 terms. -/
theorem part_eq (c : Dev nD) (t : Fin cfg0.N) (i : Fin 1920) (j : Fin 2048) :
    part m c t (ix2 i j) = ∑ k ∈ Finset.range 256, term m c i j (256 * t.val + k) := by
  have ht : t.val < 64 := t.isLt
  rw [Finset.sum_range]
  refine Finset.sum_congr rfl fun k _ => ?_
  unfold term
  rw [dif_pos (by omega)]
  rfl

/-- After grid point `n` the sums hold the first `256 (n + 1)` terms. -/
theorem sums_eq (c : Dev nD) (i : Fin 1920) (j : Fin 2048) : ∀ (n : ℕ) (hn : n < cfg0.N),
    sums m c n hn (ix2 i j) = ∑ k ∈ Finset.range (256 * n + 256), term m c i j k
  | 0, hn => by
    rw [sums_zero, part_eq]
    refine (Finset.sum_congr rfl fun k _ => ?_).trans (congrArg (fun b => ∑ k ∈ Finset.range b, term m c i j k) (Nat.zero_add 256).symm)
    exact congrArg (term m c i j) (Nat.zero_add k)
  | n + 1, hn => by
    rw [sums_succ, sums_eq c i j n, part_eq, Finset.sum_range_add _ (256 * (n + 1)) 256]
    rfl

/-- After the last grid point they hold the product. -/
theorem sums_last (c : Dev nD) (n : ℕ) (hn : n < cfg0.N) (h : n % 64 = 63) :
    sums m c n hn = prod (n := 16384) (clipsA m c) (weightA m c) := by
  have hN : n < 64 := hn
  funext y
  obtain ⟨i, j, rfl⟩ : ∃ i j, y = ix2 i j := ⟨_, _, eq_ix2 y⟩
  rw [sums_eq, show 256 * n + 256 = 16384 by omega, Finset.sum_range]
  refine Finset.sum_congr rfl fun k _ => ?_
  unfold term
  rw [dif_pos k.isLt]
  rfl

/-- What the launch leaves in its second result. -/
theorem final6 (c : Dev nD) : (dats m 0 c).arrAt 6 cfg0.N = prod (n := 16384) (clipsA m c) (weightA m c) := by
  have hemb : ∀ (t : Fin cfg0.N) (y : S1920x2048.Idx), (((cfg0.win 6).blk t).view.emb y 0).val = (y 0).val
      ∧ (((cfg0.win 6).blk t).view.emb y 1).val = (y 1).val := fun t y => by
    have h := idx t
    constructor
    · show win0_6.index t (0 : Fin 2) * 1920 + 1 * (y 0).val = (y 0).val; omega
    · show win0_6.index t (1 : Fin 2) * 2048 + 1 * (y 1).val = (y 1).val; omega
  refine (dats m 0 c).arrAt_eq_of_cover 6 _ (fun t ht => ?_) fun i => ?_
  · rw [Value.flushed6]
    show (cfg0.win 6).cut (grid0.coords t) (sums m c t.val t.isLt) = _
    rw [sums_last m c t.val t.isLt ((flush0_6 t).mp ht)]
    generalize prod (n := 16384) (clipsA m c) (weightA m c) = X
    exact (whole_of X ((cfg0.win 6).blk t).view.emb (fun y => (hemb t y).1) (fun y => (hemb t y).2)).symm
  · let t : Fin cfg0.N := ⟨63, show 63 < 64 by decide⟩
    refine ⟨t, (flush0_6 t).mpr rfl, ?_⟩
    have h := ((cfg0.win 6).blk t).view.emb_mem_set i
    have e : ((cfg0.win 6).blk t).view.emb i = i := by
      funext a
      match a with
      | ⟨0, _⟩ => exact Fin.ext (hemb t _).1
      | ⟨1, _⟩ => exact Fin.ext (hemb t _).2
    rwa [e] at h

end Cert.DownArray

end
-- ==== Proof.Down.Ref.lean ====
/-
  What the reference of `down` computes: the codes, and their product with the weight, over whole matrices at once.
-/
module

public import proofs.«01_k».proof.Proof.Down.Block
public import proofs.«01_k».proof.Proof.Gen.DownRefIdeal.Value

@[expose] public section

noncomputable section

namespace Cert.DownRefs

open Idealize.ShloMosaic Cert.Soft Cert.DownRefIdeal Cert.DownRefIdeal.Gen Cert.DownBlock

variable (a : Vec Ideal S1920x16384 .f32) (sa : Vec Ideal S1920x1 .f32)
  (f : Vec Ideal S16384x2048 .i8) (s : Vec Ideal S256x2048 .f32) (v : Vec Ideal S16384x2048 .f32)

/-- The weight as the reference writes it. -/
def weightR : Vec Ideal S16384x2048 .bf16 :=
  groupRef .bf16 256 16384 2048 (fun i => wq (f i) (v i)) (truncf (F := Ideal) .bf16 s bitsLt_bf16_f32)
    shapeCasts_S16384x2048_S256x64x2048 shapeCasts_S256x2048_S256x1x2048 broadcasts_S256x1x2048_S256x64x2048 shapeCasts_S256x64x2048_S16384x2048

theorem weightR_eq : weightR f s v = weight (n := 16384) (R := 256) rfl f s v := by
  unfold weightR
  exact weight_of_groupRef (n := 16384) (c := 2048) (R := 256) rfl f s v _ _ _ _

/-- An entry of the product of the codes with the weight. -/
theorem dot_apply (q : FVec Ideal S1920x16384 .bf16) (w : FVec Ideal S16384x2048 .bf16) (i : Fin 1920) (j : Fin 2048) :
    matmul dot_S1920x16384_S16384x2048_S1920x2048_1_0_0_1_n_n none q w (constant S1920x2048 .f32 0x00000000#32) (ix2 i j)
      = ∑ k : Fin 16384, q (ix2 i k) * w (ix2 k j) := by
  pointwise

theorem dot_eq (q : FVec Ideal S1920x16384 .bf16) (w : FVec Ideal S16384x2048 .bf16) :
    matmul dot_S1920x16384_S16384x2048_S1920x2048_1_0_0_1_n_n none q w (constant S1920x2048 .f32 0x00000000#32) = prod (n := 16384) q w := by
  funext y
  obtain ⟨i, j, rfl⟩ : ∃ i j, y = ix2 i j := ⟨_, _, eq_ix2 y⟩
  exact dot_apply q w i j

theorem pay1_eq : k0_pay1 a sa = codes (n := 1920) (c := 16384) a sa :=
  (show _ = fptosi (F := Ideal) 8 (clipV (n := 1920) (c := 16384) a sa broadcasts_S1920x1_S1920x16384) from rfl).trans (fptosi_clipV (n := 1920) (c := 16384) a sa _)

/-- The product as the reference writes it. -/
theorem pay2_open : k0_pay2 a sa f s v
    = matmul (φ₁ := .bf16) (φ₂ := .bf16) dot_S1920x16384_S16384x2048_S1920x2048_1_0_0_1_n_n none (sitofp (F := Ideal) .bf16 (k0_pay1 a sa)) (weightR f s v)
      (constant S1920x2048 .f32 0x00000000#32) := rfl

theorem pay2_eq : k0_pay2 a sa f s v = prod (n := 16384) (clips (n := 1920) (c := 16384) a sa) (weight (n := 16384) (R := 256) rfl f s v) := by
  rw [pay2_open, weightR_eq, pay1_eq, dot_eq]
  exact congrArg (fun q => prod (n := 16384) q (weight (n := 16384) (R := 256) rfl f s v)) (sitofp_codes .bf16 (n := 1920) (c := 16384) a sa)

/-- The reference's first result. -/
theorem G5_eq : Value.G5 a sa f s v = codes (n := 1920) (c := 16384) a sa := by
  unfold Value.G5
  exact pay1_eq a sa
/-- The reference's second result. -/
theorem G6_eq : Value.G6 a sa f s v = prod (n := 16384) (clips (n := 1920) (c := 16384) a sa) (weight (n := 16384) (R := 256) rfl f s v) := by
  unfold Value.G6
  exact pay2_eq a sa f s v

end Cert.DownRefs

end
-- ==== Proof.Down.Algebraic.lean ====
/-
  `down` and its reference end with equal results.
-/
module

public import proofs.«01_k».proof.Proof.Down.Array
public import proofs.«01_k».proof.Proof.Down.Ref
public import proofs.«01_k».proof.Defs

@[expose] public section

noncomputable section

namespace Cert.DownProof

open Idealize.ShloMosaic Idealize.SL.Sem

theorem algebraic : Cert.algebraic_DownIdeal_DownRefIdeal (hDownIdeal := Cert.DownIdeal.Gen.facts)
    (hDownRefIdeal := Cert.DownRefIdeal.Gen.facts) := by
  intro m g m' g' _ hargs
  refine ⟨_, _, Cert.DownIdeal.Value.run_blocks (F := Ideal) m g, ?_⟩
  refine (θ_run (Cert.DownRefIdeal.defs (F := Ideal)) _ _).mono (fun r h c => ?_) (Cert.DownRefIdeal.Value.run (F := Ideal) m' g')
  obtain ⟨r0, r1, rest⟩ := h c
  obtain ⟨a0, a1, a2, a3, a4⟩ := hargs c
  refine ⟨r0.trans ?_, r1.trans ?_, rest⟩
  · rw [a0, a1, a2, a3, a4]
    exact (Cert.DownRefs.G5_eq ..).trans (Cert.DownArray.final5 m c).symm
  · rw [a0, a1, a2, a3, a4]
    exact (Cert.DownRefs.G6_eq ..).trans (Cert.DownArray.final6 m c).symm

end Cert.DownProof

end
-- ==== Proof.Loss.Block.lean ====
/-
  The loss of each token and the two gradients, as `loss` and its reference compute them.
-/
module

public import proofs.«01_k».proof.Proof.RowMax
public import proofs.«01_k».proof.Proof.Weight
public import proofs.«01_k».proof.Proof.Gen.LossIdeal.Value
public import proofs.«01_k».proof.Proof.Gen.LossRefIdeal.Run

@[expose] public section

noncomputable section

namespace Cert.LossBlock

open Idealize.ShloMosaic Cert.Soft

/-- The difference of an output, scaled by its token's scale, from the target. -/
def diff {n c : ℕ} (y : (S n c).Idx → EReal) (s : (S n 1).Idx → EReal) (q : (S n c).Idx → EReal) : (S n c).Idx → EReal :=
  fun z => y z * s (ix2 (z 0) 0) - q z
/-- The difference times the square of the weight of its entry. -/
def wdiff {n c : ℕ} (y : (S n c).Idx → EReal) (s : (S n 1).Idx → EReal) (q g : (S n c).Idx → EReal) : (S n c).Idx → EReal :=
  fun z => g z * g z * diff y s q z
/-- The loss of each token. -/
def tok {n c : ℕ} (y : (S n c).Idx → EReal) (s : (S n 1).Idx → EReal) (q g : (S n c).Idx → EReal) : (S n 1).Idx → EReal :=
  fun z => (∑ k : Fin c, wdiff y s q g (ix2 (z 0) k) * diff y s q (ix2 (z 0) k)) * K 0x3A088889#32
/-- The gradient of the loss, and the gradient times the token's scale. -/
def dy {n c : ℕ} (y : (S n c).Idx → EReal) (s : (S n 1).Idx → EReal) (q g : (S n c).Idx → EReal) : (S n c).Idx → EReal :=
  fun z => K 0x40000000#32 * wdiff y s q g z * K 0x3A088889#32
def dys {n c : ℕ} (y : (S n c).Idx → EReal) (s : (S n 1).Idx → EReal) (q g : (S n c).Idx → EReal) : (S n c).Idx → EReal :=
  fun z => dy y s q g z * s (ix2 (z 0) 0)

/-- A matrix read whole. -/
theorem ld_whole {n c : ℕ} {e : EltTy} (x : (S n c).Idx → Elt Ideal e) (h : ∀ a, (![0, 0] : Fin 2 → ℕ) a + (S n c).size a ≤ (S n c).size a) :
    View.ld (Val := Elt Ideal) (e' := e) x (Rect.unit (s := S n c) ![0, 0] (S n c).size h) = x :=
  whole_of x _ (fun y => by show 0 + 1 * (y 0).val = (y 0).val; omega) (fun y => by show 0 + 1 * (y 1).val = (y 1).val; omega)

section kernel

open Cert.LossIdeal Cert.LossIdeal.Gen

variable (y : Vec Ideal S384x2048 .f32) (s : Vec Ideal S384x1 .f32) (q g : Vec Ideal S384x2048 .bf16)

theorem pay1_eq : k0_pay1 s y q = diff (n := 384) (c := 2048) y s q := by
  funext z
  obtain ⟨i, j, rfl⟩ : ∃ i j, z = ix2 i j := ⟨_, _, eq_ix2 (n0 := 384) (n1 := 2048) z⟩
  exact congrArg₂ (fun a b : EReal => y (ix2 i j) * a - b) (bcast_col s broadcasts_S384x1_S384x2048 i j)
    (congrFun (shapeCast_self (s := S384x2048) q _) (ix2 i j))
theorem pay2_eq : k0_pay2 s y q g = wdiff (n := 384) (c := 2048) y s q g := by
  funext z
  exact congrArg₂ (fun a b : EReal => a * a * b) (congrFun (shapeCast_self (s := S384x2048) g _) z) (congrFun (pay1_eq y s q) z)
/-- The sums of the rows. -/
theorem sum_apply (x : FVec Ideal S384x2048 .f32) (i : Fin 384) :
    multiReduction .add [1] S384 x 0x00000000#32 reduces_S384x2048_S384 (.inl rfl) rfl (ix1 i) = ∑ k : Fin 2048, x (ix2 i k) := by
  simp only [pointwise, Ideal.reduceAdd_def]
theorem pay3_eq : k0_pay3 s y q g = tok (n := 384) (c := 2048) y s q g := by
  funext z
  obtain ⟨i, j, rfl⟩ : ∃ i j, z = ix2 i j := ⟨_, _, eq_ix2 (n0 := 384) (n1 := 1) z⟩
  obtain rfl : j = 0 := Subsingleton.elim _ _
  unfold k0_pay3
  rw [pay1_eq, pay2_eq]
  exact congrArg (· * K 0x3A088889#32) ((upright _ shapeCasts_S384_S384x1 i).trans (sum_apply _ i))
theorem pay4_eq : k0_pay4 s y q g = dy (n := 384) (c := 2048) y s q g := by
  unfold k0_pay4
  rw [pay2_eq]
  rfl
theorem pay5_eq : k0_pay5 s y q g = dy (n := 384) (c := 2048) y s q g := by
  unfold k0_pay5
  exact pay4_eq y s q g
theorem pay6_eq : k0_pay6 s y q g = dys (n := 384) (c := 2048) y s q g := by
  funext z
  obtain ⟨i, j, rfl⟩ : ∃ i j, z = ix2 i j := ⟨_, _, eq_ix2 (n0 := 384) (n1 := 2048) z⟩
  exact congrArg₂ (· * ·) (congrFun (pay4_eq y s q g) (ix2 i j)) (bcast_col s broadcasts_S384x1_S384x2048 i j)

theorem out4_eq : out0_4 y s q g = tok (n := 384) (c := 2048) y s q g := by
  funext z
  unfold out0_4
  rw [show View.ld y r0_1 = y from ld_whole (n := 384) (c := 2048) (e := .f32) y _, show View.ld s r0_0 = s from ld_whole (n := 384) (c := 1) (e := .f32) s _,
    show View.ld q r0_1 = q from ld_whole (n := 384) (c := 2048) (e := .bf16) q _, show View.ld g r0_1 = g from ld_whole (n := 384) (c := 2048) (e := .bf16) g _, pay3_eq]
  refine View.canon_apply_of_pieces (Val := Elt Ideal) (S := S384x1) (e := .f32) _ _ ?_ z (cover0_4 _ z)
  simp only [List.forall_mem_cons]
  refine ⟨fun x => ?_, nofun⟩
  exact (congrFun (whole_of (tok (n := 384) (c := 2048) y s q g) _ (fun y => by show 0 + 1 * (y 0).val = (y 0).val; omega)
    (fun y => by show 0 + 1 * (y 1).val = (y 1).val; omega)) x).symm
theorem out5_eq : out0_5 y s q g = dy (n := 384) (c := 2048) y s q g := by
  funext z
  unfold out0_5
  rw [show View.ld y r0_1 = y from ld_whole (n := 384) (c := 2048) (e := .f32) y _, show View.ld s r0_0 = s from ld_whole (n := 384) (c := 1) (e := .f32) s _,
    show View.ld q r0_1 = q from ld_whole (n := 384) (c := 2048) (e := .bf16) q _, show View.ld g r0_1 = g from ld_whole (n := 384) (c := 2048) (e := .bf16) g _, pay5_eq]
  refine View.canon_apply_of_pieces (Val := Elt Ideal) (S := S384x2048) (e := .bf16) _ _ ?_ z (cover0_5 _ z)
  simp only [List.forall_mem_cons]
  refine ⟨fun x => ?_, nofun⟩
  exact (congrFun (whole_of (dy (n := 384) (c := 2048) y s q g) _ (fun y => by show 0 + 1 * (y 0).val = (y 0).val; omega)
    (fun y => by show 0 + 1 * (y 1).val = (y 1).val; omega)) x).symm
theorem out6_eq : out0_6 y s q g = dys (n := 384) (c := 2048) y s q g := by
  funext z
  unfold out0_6
  rw [show View.ld y r0_1 = y from ld_whole (n := 384) (c := 2048) (e := .f32) y _, show View.ld s r0_0 = s from ld_whole (n := 384) (c := 1) (e := .f32) s _,
    show View.ld q r0_1 = q from ld_whole (n := 384) (c := 2048) (e := .bf16) q _, show View.ld g r0_1 = g from ld_whole (n := 384) (c := 2048) (e := .bf16) g _, pay6_eq]
  refine View.canon_apply_of_pieces (Val := Elt Ideal) (S := S384x2048) (e := .bf16) _ _ ?_ z (cover0_6 _ z)
  simp only [List.forall_mem_cons]
  refine ⟨fun x => ?_, nofun⟩
  exact (congrFun (whole_of (dys (n := 384) (c := 2048) y s q g) _ (fun y => by show 0 + 1 * (y 0).val = (y 0).val; omega)
    (fun y => by show 0 + 1 * (y 1).val = (y 1).val; omega)) x).symm

end kernel

section reference

open Cert.LossRefIdeal Cert.LossRefIdeal.Gen

variable (y : Vec Ideal S1920x2048 .f32) (s : Vec Ideal S1920x1 .f32) (q g : Vec Ideal S1920x2048 .bf16)

/-- The difference as the reference writes it, and the difference times the squared weight. -/
def diffR : FVec Ideal S1920x2048 .f32 :=
  subf (mulf y (broadcastInDim S1920x2048 ![0, 1] bcast_S1920x1_S1920x2048_0_1 s)) (extf (F := Ideal) .f32 q bitsLt_bf16_f32)
def wdiffR : FVec Ideal S1920x2048 .f32 :=
  mulf (mulf (extf (F := Ideal) .f32 g bitsLt_bf16_f32) (extf (F := Ideal) .f32 g bitsLt_bf16_f32)) (diffR y s q)

/-- A column spread over 2048 columns. -/
theorem spread_apply (i : Fin 1920) (j : Fin 2048) : broadcastInDim S1920x2048 ![0, 1] bcast_S1920x1_S1920x2048_0_1 s (ix2 i j) = s (ix2 i 0) := by
  pointwise

theorem diffR_eq : diffR y s q = diff (n := 1920) (c := 2048) y s q := by
  funext z
  obtain ⟨i, j, rfl⟩ : ∃ i j, z = ix2 i j := ⟨_, _, eq_ix2 (n0 := 1920) (n1 := 2048) z⟩
  exact congrArg (fun a : EReal => y (ix2 i j) * a - q (ix2 i j)) (spread_apply s i j)
theorem wdiffR_eq : wdiffR y s q g = wdiff (n := 1920) (c := 2048) y s q g := by
  unfold wdiffR
  rw [diffR_eq]
  rfl

/-- The reference's three results. -/
def tokR : FVec Ideal S1920x1 .f32 :=
  broadcastInDim S1920x1 ![0] bcast_S1920_S1920x1_0 (mulf (Host.reduceAdd (mulf (wdiffR y s q g) (diffR y s q)) (constant S_ .f32 0x00000000#32) reducesTo_S1920x2048_S1920_d1 h_S_)
    (broadcastInDim S1920 ![] bcast_S_S1920 (constant S_ .f32 0x3A088889#32)))
def dyR : FVec Ideal S1920x2048 .f32 :=
  mulf (mulf (broadcastInDim S1920x2048 ![] bcast_S_S1920x2048 (constant S_ .f32 0x40000000#32)) (wdiffR y s q g)) (broadcastInDim S1920x2048 ![] bcast_S_S1920x2048 (constant S_ .f32 0x3A088889#32))
def dysR : FVec Ideal S1920x2048 .f32 := mulf (dyR y s q g) (broadcastInDim S1920x2048 ![0, 1] bcast_S1920x1_S1920x2048_0_1 s)

/-- A row of the reference's sums. -/
theorem rsum_apply (x : FVec Ideal S1920x2048 .f32) (i : Fin 1920) :
    Host.reduceAdd x (constant S_ .f32 0x00000000#32) reducesTo_S1920x2048_S1920_d1 h_S_ (ix1 i) = ∑ k : Fin 2048, x (ix2 i k) := by
  pointwise

/-- A vector set upright. -/
theorem stand_apply (x : FVec Ideal S1920 .f32) (i : Fin 1920) : broadcastInDim S1920x1 ![0] bcast_S1920_S1920x1_0 x (ix2 i 0) = x (ix1 i) := by
  pointwise

theorem tokR_eq : tokR y s q g = tok (n := 1920) (c := 2048) y s q g := by
  funext z
  obtain ⟨i, j, rfl⟩ : ∃ i j, z = ix2 i j := ⟨_, _, eq_ix2 (n0 := 1920) (n1 := 1) z⟩
  obtain rfl : j = 0 := Subsingleton.elim _ _
  unfold tokR
  rw [wdiffR_eq, diffR_eq, stand_apply]
  exact congrArg (· * K 0x3A088889#32) (rsum_apply _ i)
theorem dyR_eq : dyR y s q g = dy (n := 1920) (c := 2048) y s q g := by
  unfold dyR
  rw [wdiffR_eq]
  rfl
theorem dysR_eq : dysR y s q g = dys (n := 1920) (c := 2048) y s q g := by
  funext z
  obtain ⟨i, j, rfl⟩ : ∃ i j, z = ix2 i j := ⟨_, _, eq_ix2 (n0 := 1920) (n1 := 2048) z⟩
  exact congrArg₂ (· * ·) (congrFun (dyR_eq y s q g) (ix2 i j)) (spread_apply s i j)

end reference

end Cert.LossBlock

end
-- ==== Proof.Loss.Array.lean ====
/-
  The arrays `loss` leaves: the losses of all tokens and the two gradients, put together from blocks of 384 rows.
-/
module

public import proofs.«01_k».proof.Proof.Loss.Block

@[expose] public section

noncomputable section

namespace Cert.LossArray

open Idealize.ShloMosaic Idealize.ShloMosaic.TcCoe Idealize.SL.Sem Cert.Soft Cert.LossIdeal Cert.LossIdeal.Gen Cert.LossBlock
open Idealize.ShloMosaic.Pipeline (Dat)

variable (m : (ℓ : Loc nD τ sig) → Buf (Elt Ideal) ℓ) (ρ : Dev nD → PrngReg)

/-- Block `t` of rows. -/
abbrev rblk {α : Type} {n : ℕ} (t : Fin cfg0.N) (X : (S 1920 n).Idx → α) : (S 384 n).Idx → α := rowBlk 384 5 rfl t X

/-- Each window holds block `t` of the rows of its array at grid point `t`. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- An operand with its tokens in one column of rows. -/
abbrev inp (x : Vec Ideal S3x640x2048 .bf16) : (S 1920 2048).Idx → EReal := shapeCast S1920x2048 x shapeCasts_S3x640x2048_S1920x2048

theorem V_main_v0 (c : Dev nD) : V m c main_v0 = inp (m ((c : Thread nD τ).loc main_arg2)) := rfl
theorem V_main_v1 (c : Dev nD) : V m c main_v1 = inp (m ((c : Thread nD τ).loc main_arg3)) := rfl

theorem iblk0 (c : Dev nD) (t : Fin cfg0.N) : iblk m c 0 t = rblk t (m ((c : Thread nD τ).loc main_arg0)) := by
  rw [← V_main_arg0 m c]
  have h := idx t
  exact rowBlk_of 384 5 rfl t (V m c main_arg0) ((cfg0.win 0).blk t).view.emb
    (fun y => by show win0_0.index t (0 : Fin 2) * 384 + 1 * (y 0).val = 384 * t.val + (y 0).val; omega)
    (fun y => by show win0_0.index t (1 : Fin 2) * 2048 + 1 * (y 1).val = (y 1).val; omega)

theorem iblk1 (c : Dev nD) (t : Fin cfg0.N) : iblk m c 1 t = rblk t (m ((c : Thread nD τ).loc main_arg1)) := by
  rw [← V_main_arg1 m c]
  have h := idx t
  exact rowBlk_of 384 5 rfl t (V m c main_arg1) ((cfg0.win 1).blk t).view.emb
    (fun y => by show win0_1.index t (0 : Fin 2) * 384 + 1 * (y 0).val = 384 * t.val + (y 0).val; omega)
    (fun y => by show win0_1.index t (1 : Fin 2) * 1 + 1 * (y 1).val = (y 1).val; omega)

theorem iblk2 (c : Dev nD) (t : Fin cfg0.N) : iblk m c 2 t = rblk t (inp (m ((c : Thread nD τ).loc main_arg2))) := by
  rw [← V_main_v0 m c]
  have h := idx t
  exact rowBlk_of 384 5 rfl t (V m c main_v0) ((cfg0.win 2).blk t).view.emb
    (fun y => by show win0_2.index t (0 : Fin 2) * 384 + 1 * (y 0).val = 384 * t.val + (y 0).val; omega)
    (fun y => by show win0_2.index t (1 : Fin 2) * 2048 + 1 * (y 1).val = (y 1).val; omega)

theorem iblk3 (c : Dev nD) (t : Fin cfg0.N) : iblk m c 3 t = rblk t (inp (m ((c : Thread nD τ).loc main_arg3))) := by
  rw [← V_main_v1 m c]
  have h := idx t
  exact rowBlk_of 384 5 rfl t (V m c main_v1) ((cfg0.win 3).blk t).view.emb
    (fun y => by show win0_3.index t (0 : Fin 2) * 384 + 1 * (y 0).val = 384 * t.val + (y 0).val; omega)
    (fun y => by show win0_3.index t (1 : Fin 2) * 2048 + 1 * (y 1).val = (y 1).val; omega)

variable (y : (S 1920 2048).Idx → EReal) (s : (S 1920 1).Idx → EReal) (q g : (S 1920 2048).Idx → EReal)

/-- What a block of rows gives is that block of what all rows give. -/
theorem tok_rblk (t : Fin cfg0.N) : tok (rblk t y) (rblk t s) (rblk t q) (rblk t g) = rblk t (tok y s q g) := rfl
theorem dy_rblk (t : Fin cfg0.N) : dy (rblk t y) (rblk t s) (rblk t q) (rblk t g) = rblk t (dy y s q g) := rfl
theorem dys_rblk (t : Fin cfg0.N) : dys (rblk t y) (rblk t s) (rblk t q) (rblk t g) = rblk t (dys y s q g) := rfl

/-- What the launch leaves in its first result. -/
theorem final4 (c : Dev nD) : (dats m 0 c).arrAt 4 cfg0.N = (tok (m ((c : Thread nD τ).loc main_arg0)) (m ((c : Thread nD τ).loc main_arg1)) (inp (m ((c : Thread nD τ).loc main_arg2))) (inp (m ((c : Thread nD τ).loc main_arg3)))) := by
  have hemb : ∀ (t : Fin cfg0.N) (y : S384x1.Idx), (((cfg0.win 4).blk t).view.emb y 0).val = 384 * t.val + (y 0).val
      ∧ (((cfg0.win 4).blk t).view.emb y 1).val = (y 1).val := fun t y => by
    have h := idx t
    constructor
    · show win0_4.index t (0 : Fin 2) * 384 + 1 * (y 0).val = 384 * t.val + (y 0).val; omega
    · show win0_4.index t (1 : Fin 2) * 1 + 1 * (y 1).val = (y 1).val; omega
  refine (dats m 0 c).arrAt_eq_of_cover 4 _ (fun t _ => ?_) fun i => ?_
  · rw [Value.flushed4, out4_eq, iblk0, iblk1, iblk2, iblk3, tok_rblk]
    exact (rowBlk_of 384 5 rfl t (tok (m ((c : Thread nD τ).loc main_arg0)) (m ((c : Thread nD τ).loc main_arg1)) (inp (m ((c : Thread nD τ).loc main_arg2))) (inp (m ((c : Thread nD τ).loc main_arg3)))) ((cfg0.win 4).blk t).view.emb (fun y => (hemb t y).1) (fun y => (hemb t y).2)).symm
  · have h0 : (i 0).val < 1920 := (i 0).isLt
    let t : Fin cfg0.N := ⟨(i 0).val / 384, show _ < 5 by omega⟩
    refine ⟨t, flush0_4 t, ?_⟩
    have h := ((cfg0.win 4).blk t).view.emb_mem_set (ix2 ⟨(i 0).val % 384, by omega⟩ (i 1))
    have e : ((cfg0.win 4).blk t).view.emb (ix2 ⟨(i 0).val % 384, by omega⟩ (i 1)) = i := by
      funext a
      match a with
      | ⟨0, _⟩ => exact Fin.ext ((hemb t _).1.trans (Nat.div_add_mod _ 384))
      | ⟨1, _⟩ => exact Fin.ext (hemb t _).2
    rwa [e] at h

/-- What the launch leaves in its second result. -/
theorem final5 (c : Dev nD) : (dats m 0 c).arrAt 5 cfg0.N = (dy (m ((c : Thread nD τ).loc main_arg0)) (m ((c : Thread nD τ).loc main_arg1)) (inp (m ((c : Thread nD τ).loc main_arg2))) (inp (m ((c : Thread nD τ).loc main_arg3)))) := by
  have hemb : ∀ (t : Fin cfg0.N) (y : S384x2048.Idx), (((cfg0.win 5).blk t).view.emb y 0).val = 384 * t.val + (y 0).val
      ∧ (((cfg0.win 5).blk t).view.emb y 1).val = (y 1).val := fun t y => by
    have h := idx t
    constructor
    · show win0_5.index t (0 : Fin 2) * 384 + 1 * (y 0).val = 384 * t.val + (y 0).val; omega
    · show win0_5.index t (1 : Fin 2) * 2048 + 1 * (y 1).val = (y 1).val; omega
  refine (dats m 0 c).arrAt_eq_of_cover 5 _ (fun t _ => ?_) fun i => ?_
  · rw [Value.flushed5, out5_eq, iblk0, iblk1, iblk2, iblk3, dy_rblk]
    exact (rowBlk_of 384 5 rfl t (dy (m ((c : Thread nD τ).loc main_arg0)) (m ((c : Thread nD τ).loc main_arg1)) (inp (m ((c : Thread nD τ).loc main_arg2))) (inp (m ((c : Thread nD τ).loc main_arg3)))) ((cfg0.win 5).blk t).view.emb (fun y => (hemb t y).1) (fun y => (hemb t y).2)).symm
  · have h0 : (i 0).val < 1920 := (i 0).isLt
    let t : Fin cfg0.N := ⟨(i 0).val / 384, show _ < 5 by omega⟩
    refine ⟨t, flush0_5 t, ?_⟩
    have h := ((cfg0.win 5).blk t).view.emb_mem_set (ix2 ⟨(i 0).val % 384, by omega⟩ (i 1))
    have e : ((cfg0.win 5).blk t).view.emb (ix2 ⟨(i 0).val % 384, by omega⟩ (i 1)) = i := by
      funext a
      match a with
      | ⟨0, _⟩ => exact Fin.ext ((hemb t _).1.trans (Nat.div_add_mod _ 384))
      | ⟨1, _⟩ => exact Fin.ext (hemb t _).2
    rwa [e] at h

/-- What the launch leaves in its third result. -/
theorem final6 (c : Dev nD) : (dats m 0 c).arrAt 6 cfg0.N = (dys (m ((c : Thread nD τ).loc main_arg0)) (m ((c : Thread nD τ).loc main_arg1)) (inp (m ((c : Thread nD τ).loc main_arg2))) (inp (m ((c : Thread nD τ).loc main_arg3)))) := by
  have hemb : ∀ (t : Fin cfg0.N) (y : S384x2048.Idx), (((cfg0.win 6).blk t).view.emb y 0).val = 384 * t.val + (y 0).val
      ∧ (((cfg0.win 6).blk t).view.emb y 1).val = (y 1).val := fun t y => by
    have h := idx t
    constructor
    · show win0_6.index t (0 : Fin 2) * 384 + 1 * (y 0).val = 384 * t.val + (y 0).val; omega
    · show win0_6.index t (1 : Fin 2) * 2048 + 1 * (y 1).val = (y 1).val; omega
  refine (dats m 0 c).arrAt_eq_of_cover 6 _ (fun t _ => ?_) fun i => ?_
  · rw [Value.flushed6, out6_eq, iblk0, iblk1, iblk2, iblk3, dys_rblk]
    exact (rowBlk_of 384 5 rfl t (dys (m ((c : Thread nD τ).loc main_arg0)) (m ((c : Thread nD τ).loc main_arg1)) (inp (m ((c : Thread nD τ).loc main_arg2))) (inp (m ((c : Thread nD τ).loc main_arg3)))) ((cfg0.win 6).blk t).view.emb (fun y => (hemb t y).1) (fun y => (hemb t y).2)).symm
  · have h0 : (i 0).val < 1920 := (i 0).isLt
    let t : Fin cfg0.N := ⟨(i 0).val / 384, show _ < 5 by omega⟩
    refine ⟨t, flush0_6 t, ?_⟩
    have h := ((cfg0.win 6).blk t).view.emb_mem_set (ix2 ⟨(i 0).val % 384, by omega⟩ (i 1))
    have e : ((cfg0.win 6).blk t).view.emb (ix2 ⟨(i 0).val % 384, by omega⟩ (i 1)) = i := by
      funext a
      match a with
      | ⟨0, _⟩ => exact Fin.ext ((hemb t _).1.trans (Nat.div_add_mod _ 384))
      | ⟨1, _⟩ => exact Fin.ext (hemb t _).2
    rwa [e] at h

end Cert.LossArray

end
-- ==== Proof.Loss.Algebraic.lean ====
/-
  `loss` and its reference end with equal results.
-/
module

public import proofs.«01_k».proof.Proof.Loss.Array
public import proofs.«01_k».proof.Defs

@[expose] public section

noncomputable section

namespace Cert.LossProof

open Idealize.ShloMosaic Idealize.SL.Sem

theorem algebraic : Cert.algebraic_LossIdeal_LossRefIdeal (hLossIdeal := Cert.LossIdeal.Gen.facts)
    (hLossRefIdeal := Cert.LossRefIdeal.Gen.facts) := by
  intro m g m' g' _ hargs
  refine ⟨_, _, _, Cert.LossIdeal.Value.run_blocks (F := Ideal) m g, ?_⟩
  refine (θ_run (Cert.LossRefIdeal.defs (F := Ideal)) _ _).mono (fun r h c => ?_) (Cert.LossRefIdeal.Value.run (F := Ideal) m' g')
  obtain ⟨r0, r1, r2, rest⟩ := h c
  obtain ⟨a0, a1, a2, a3⟩ := hargs c
  refine ⟨r0.trans ?_, r1.trans ?_, r2.trans ?_, rest⟩
  · rw [a0, a1, a2, a3]
    exact (Cert.LossBlock.tokR_eq ..).trans (Cert.LossArray.final4 m c).symm
  · rw [a0, a1, a2, a3]
    exact (Cert.LossBlock.dyR_eq ..).trans (Cert.LossArray.final5 m c).symm
  · rw [a0, a1, a2, a3]
    exact (Cert.LossBlock.dysR_eq ..).trans (Cert.LossArray.final6 m c).symm

end Cert.LossProof

end
-- ==== Proof.BackDown.Ref.lean ====
/-
  What the reference of `back_down` computes: the same three gradients, over whole matrices at once.
-/
module

public import proofs.«01_k».proof.Proof.BackDown.Block
public import proofs.«01_k».proof.Proof.Gen.BackDownRefIdeal.Value

@[expose] public section

noncomputable section

namespace Cert.BackDownRefs

open Idealize.ShloMosaic Cert.Soft Cert.BackDownRefIdeal Cert.BackDownRefIdeal.Gen Cert.BackDownBlock

variable (dyb dys : Vec Ideal S1920x2048 .bf16) (sx : Vec Ideal S1920x1 .f32) (q : Vec Ideal S1920x16384 .i8) (silu p : Vec Ideal S1920x16384 .f32)
  (f : Vec Ideal S16384x2048 .i8) (s : Vec Ideal S256x2048 .f32) (v : Vec Ideal S16384x2048 .f32)

/-- The weight as the reference writes it. -/
def weightR : Vec Ideal S16384x2048 .bf16 :=
  groupRef .bf16 256 16384 2048 (fun i => wq (f i) (v i)) (truncf (F := Ideal) .bf16 s bitsLt_bf16_f32)
    shapeCasts_S16384x2048_S256x64x2048 shapeCasts_S256x2048_S256x1x2048 broadcasts_S256x1x2048_S256x64x2048 shapeCasts_S256x64x2048_S16384x2048

theorem weightR_eq : weightR f s v = weight (n := 16384) (R := 256) rfl f s v := by
  unfold weightR
  exact weight_of_groupRef (n := 16384) (c := 2048) (R := 256) rfl f s v _ _ _ _

/-- The gradient of an intermediate as the reference writes it. -/
def actR (w : Vec Ideal S16384x2048 .bf16) : Vec Ideal S1920x16384 .bf16 :=
  truncf (F := Ideal) .bf16 (mulf (mulf (matmul (φ₁ := .bf16) (φ₂ := .bf16) dot_S1920x2048_S16384x2048_S1920x16384_1_1_0_0_n_n none dyb w
    (constant S1920x16384 .f32 0x00000000#32)) p) (broadcastTo S1920x16384 sx broadcasts_S1920x1_S1920x16384)) bitsLt_bf16_f32

/-- An entry of the product with the weight. -/
theorem dot_apply (a : FVec Ideal S1920x2048 .bf16) (b : FVec Ideal S16384x2048 .bf16) (i : Fin 1920) (j : Fin 16384) :
    matmul dot_S1920x2048_S16384x2048_S1920x16384_1_1_0_0_n_n none a b (constant S1920x16384 .f32 0x00000000#32) (ix2 i j)
      = ∑ k : Fin 2048, a (ix2 i k) * b (ix2 j k) := by
  pointwise

theorem actR_eq (w : Vec Ideal S16384x2048 .bf16) : actR dyb sx p w = dact (n := 16384) dyb w p sx := by
  funext y
  obtain ⟨i, j, rfl⟩ : ∃ i j, y = ix2 i j := ⟨_, _, eq_ix2 y⟩
  exact congrArg₂ (· * ·) (congrArg₂ (· * ·) (dot_apply dyb w i j) rfl) (bcast_col sx _ i j)

/-- The gradient of the rounding variable as the reference writes it. -/
def dvR : Vec Ideal S16384x2048 .f32 :=
  dvV (groupRef .f32 256 16384 2048
    (matmul (φ₁ := .bf16) (φ₂ := .bf16) dot_S1920x16384_S1920x2048_S16384x2048_0_0_1_1_n_n none (sitofp .bf16 q) dys (constant S16384x2048 .f32 0x00000000#32))
    s shapeCasts_S16384x2048_S256x64x2048 shapeCasts_S256x2048_S256x1x2048 broadcasts_S256x1x2048_S256x64x2048
    shapeCasts_S256x64x2048_S16384x2048) f v

/-- An entry of the product with the codes. -/
theorem dotD_apply (a : FVec Ideal S1920x16384 .bf16) (b : FVec Ideal S1920x2048 .bf16) (i : Fin 16384) (j : Fin 2048) :
    matmul dot_S1920x16384_S1920x2048_S16384x2048_0_0_1_1_n_n none a b (constant S16384x2048 .f32 0x00000000#32) (ix2 i j)
      = ∑ k : Fin 1920, a (ix2 k i) * b (ix2 k j) := by
  pointwise

theorem dvR_eq : dvR dys q f s v = dvd (n := 16384) (R := 256) rfl dys q f s v := by
  funext y
  obtain ⟨i, j, rfl⟩ : ∃ i j, y = ix2 i j := ⟨_, _, eq_ix2 y⟩
  show dv (groupRef .f32 256 16384 2048 _ _ _ _ _ _ (ix2 i j)) _ _ = dv _ _ _
  rw [groupRef_apply rfl, dotD_apply]
  rfl

/-- The weight the first two results share. -/
theorem pay10_eq : k0_pay10 dyb dys sx q silu p f s v = weightR f s v := by
  unfold k0_pay10
  rw [View.ld_unit_zero (S := S16384x2048) Value.hz6 _ f, View.ld_unit_zero (S := S16384x2048) Value.hz8 _ v, View.ld_unit_zero (S := S256x2048) Value.hz7 _ s]
  rfl

/-- The reference's first result. -/
theorem G9_eq : Value.G9 dyb dys sx q silu p f s v = dact (n := 16384) dyb (weight (n := 16384) (R := 256) rfl f s v) p sx := by
  unfold Value.G9
  rw [pay10_eq, ← weightR_eq, ← actR_eq]
  rfl
/-- The reference's second result. -/
theorem G10_eq : Value.G10 dyb dys sx q silu p f s v = dact (n := 16384) dyb (weight (n := 16384) (R := 256) rfl f s v) silu sx := by
  unfold Value.G10
  rw [pay10_eq, ← weightR_eq, ← actR_eq]
  rfl
/-- The reference's third result. -/
theorem G11_eq : Value.G11 dyb dys sx q silu p f s v = dvd (n := 16384) (R := 256) rfl dys q f s v :=
  (show _ = dvR dys q f s v from rfl).trans (dvR_eq ..)

end Cert.BackDownRefs

end
-- ==== Proof.BackDown.Algebraic.lean ====
/-
  `back_down` and its reference end with equal results.
-/
module

public import proofs.«01_k».proof.Proof.BackDown.Array
public import proofs.«01_k».proof.Proof.BackDown.Ref
public import proofs.«01_k».proof.Defs

@[expose] public section

noncomputable section

namespace Cert.BackDownProof

open Idealize.ShloMosaic Idealize.SL.Sem

theorem algebraic : Cert.algebraic_BackDownIdeal_BackDownRefIdeal (hBackDownIdeal := Cert.BackDownIdeal.Gen.facts)
    (hBackDownRefIdeal := Cert.BackDownRefIdeal.Gen.facts) := by
  intro m g m' g' _ hargs
  refine ⟨_, _, _, Cert.BackDownIdeal.Value.run_blocks (F := Ideal) m g, ?_⟩
  refine (θ_run (Cert.BackDownRefIdeal.defs (F := Ideal)) _ _).mono (fun r h c => ?_) (Cert.BackDownRefIdeal.Value.run (F := Ideal) m' g')
  obtain ⟨r0, r1, r2, rest⟩ := h c
  obtain ⟨a0, a1, a2, a3, a4, a5, a6, a7, a8⟩ := hargs c
  refine ⟨r0.trans ?_, r1.trans ?_, r2.trans ?_, rest⟩
  · rw [a0, a1, a2, a3, a4, a5, a6, a7, a8]
    exact (Cert.BackDownRefs.G9_eq ..).trans (Cert.BackDownArray.final9 m c).symm
  · rw [a0, a1, a2, a3, a4, a5, a6, a7, a8]
    exact (Cert.BackDownRefs.G10_eq ..).trans (Cert.BackDownArray.final10 m c).symm
  · rw [a0, a1, a2, a3, a4, a5, a6, a7, a8]
    exact (Cert.BackDownRefs.G11_eq ..).trans (Cert.BackDownArray.final11 m c).symm

end Cert.BackDownProof

end
-- ==== Proof.BackUp.Block.lean ====
/-
  What one grid point of `back_up` computes: a 2048 × 256 block of each gradient, written as four slabs of 512 rows, is at every
  entry the gradient `Soft.dv` of the product's entry times its group's scale.
-/
module

public import proofs.«01_k».proof.Proof.Soft
public import proofs.«01_k».proof.Proof.Gen.BackUpIdeal.Value

@[expose] public section

noncomputable section

namespace Cert.BackUpBlock

open Idealize.ShloMosaic Cert.Soft Cert.BackUpIdeal Cert.BackUpIdeal.Gen

/-- The gradient of the rounding variable at entry `(i, j)`, for matrices with `n` columns: row `i` of `x` against column `j` of
    `g`, times the scale of the row's group, through `Soft.dv`. -/
def grad {n : ℕ} (x : (S 2048 1920).Idx → EReal) (g : (S 1920 n).Idx → EReal) (f : (S 2048 n).Idx → BitVec 8)
    (s : (S 32 n).Idx → EReal) (v : (S 2048 n).Idx → EReal) : (S 2048 n).Idx → EReal :=
  fun y => dv ((∑ k : Fin 1920, x (ix2 (y 0) k) * g (ix2 k (y 1))) * s (ix2 ⟨(y 0).val / 64, Nat.div_lt_of_lt_mul (y 0).isLt⟩ (y 1))) (f y) (v y)

theorem inb_rows {n k c : ℕ} (o : ℕ) (h : o + k ≤ n) : ∀ a, (![o, 0] : Fin 2 → ℕ) a + (S k c).size a ≤ (S n c).size a
  | ⟨0, _⟩ => h
  | ⟨1, _⟩ => le_of_eq (Nat.zero_add _)

/-- Eight blocks of 64 rows set below each other have 512 rows. -/
theorem cat8 (f : Fin 8 → (S 64 256).Idx → EReal) :
    Shape.Concatenates ((List.ofFn fun r : Fin 8 => (⟨S 64 256, f r⟩ : (s : Shape) × (s.Idx → EReal))).map (·.1)) (S 512 256) 0 :=
  concatenates_S64x256_S64x256_S64x256_S64x256_S64x256_S64x256_S64x256_S64x256_S512x256_d0

/-- Slab `m`: rows `512 m` to `512 m + 511` of the block, as the body computes them. -/
def slab (m : Fin 4) (x0 : Vec Ideal S2048x1920 .bf16) (x1 : Vec Ideal S1920x256 .bf16) (x3 : Vec Ideal S2048x256 .i8)
    (x4 : Vec Ideal S32x256 .f32) (x5 : Vec Ideal S2048x256 .f32) : Vec Ideal S512x256 .f32 :=
  dvV (group 8 512 256 rfl
      (matmul (φ₁ := .bf16) (φ₂ := .bf16) dot_S512x1920_S1920x256_S512x256_1_0_0_1_n_n none
        (View.ld x0 (Rect.unit (s := S2048x1920) ![512 * m.val, 0] S512x1920.size (inb_rows _ (by omega))))
        (View.ld x1 (Rect.unit (s := S1920x256) ![0, 0] S1920x256.size (inb_rows _ (by omega))))
        (constant S512x256 .f32 0x00000000#32))
      (fun r => View.ld x4 (Rect.unit (s := S32x256) ![8 * m.val + r.val, 0] S1x256.size (inb_rows _ (by omega))))
      (by decide) (by decide) cat8)
    (View.ld x3 (Rect.unit (s := S2048x256) ![512 * m.val, 0] S512x256.size (inb_rows _ (by omega))))
    (View.ld x5 (Rect.unit (s := S2048x256) ![512 * m.val, 0] S512x256.size (inb_rows _ (by omega))))

variable (x0 : Vec Ideal S2048x1920 .bf16) (x1 x2 : Vec Ideal S1920x256 .bf16) (x3 : Vec Ideal S2048x256 .i8)
  (x4 : Vec Ideal S32x256 .f32) (x5 : Vec Ideal S2048x256 .f32) (x6 : Vec Ideal S2048x256 .i8)
  (x7 : Vec Ideal S32x256 .f32) (x8 : Vec Ideal S2048x256 .f32)

/-- The block of the first gradient is its four slabs. -/
theorem out9_slabs : out0_9 x0 x1 x2 x3 x4 x5 x6 x7 x8
    = View.canon [⟨r0_32, slab 3 x0 x1 x3 x4 x5⟩, ⟨r0_22, slab 2 x0 x1 x3 x4 x5⟩, ⟨r0_12, slab 1 x0 x1 x3 x4 x5⟩, ⟨r0_2, slab 0 x0 x1 x3 x4 x5⟩] :=
  rfl

/-- The block of the second gradient is its four slabs. -/
theorem out10_slabs : out0_10 x0 x1 x2 x3 x4 x5 x6 x7 x8
    = View.canon [⟨r0_32, slab 3 x0 x2 x6 x7 x8⟩, ⟨r0_22, slab 2 x0 x2 x6 x7 x8⟩, ⟨r0_12, slab 1 x0 x2 x6 x7 x8⟩, ⟨r0_2, slab 0 x0 x2 x6 x7 x8⟩] :=
  rfl

/-- An entry of the product of 512 rows with a block. -/
theorem dot_apply (a : FVec Ideal S512x1920 .bf16) (b : FVec Ideal S1920x256 .bf16) (i : Fin 512) (j : Fin 256) :
    matmul dot_S512x1920_S1920x256_S512x256_1_0_0_1_n_n none a b (constant S512x256 .f32 0x00000000#32) (ix2 i j)
      = ∑ k : Fin 1920, a (ix2 i k) * b (ix2 k j) := by
  pointwise

/-- Slab `m` is the gradient on its rows. -/
theorem slab_apply (m : Fin 4) (y : S512x256.Idx) :
    slab m x0 x1 x3 x4 x5 y
      = grad x0 x1 x3 x4 x5 ((Rect.unit (s := S2048x256) ![512 * m.val, 0] S512x256.size (inb_rows _ (by omega))).emb y) := by
  obtain ⟨i, j, rfl⟩ : ∃ i j, y = ix2 i j := ⟨_, _, eq_ix2 y⟩
  show dv (group 8 512 256 _ _ _ _ _ _ (ix2 i j)) _ _ = dv _ _ _
  rw [group_apply, dot_apply]
  congr 2
  · refine Finset.sum_congr rfl fun k _ => ?_
    congr 1
    · show x0 _ = x0 _
      congr 1
      funext a
      match a with
      | ⟨0, _⟩ => rfl
      | ⟨1, _⟩ => exact Fin.ext (by show 0 + 1 * k.val = k.val; omega)
    · show x1 _ = x1 _
      congr 1
      funext a
      match a with
      | ⟨0, _⟩ => exact Fin.ext (by show 0 + 1 * k.val = k.val; omega)
      | ⟨1, _⟩ => rfl
  · show x4 _ = x4 _
    congr 1
    funext a
    match a with
    | ⟨0, _⟩ => exact Fin.ext (by show 8 * m.val + i.val / 64 + 1 * 0 = (512 * m.val + 1 * i.val) / 64; omega)
    | ⟨1, _⟩ => rfl

/-- The block of the first gradient, at every entry. -/
theorem out9_eq : out0_9 x0 x1 x2 x3 x4 x5 x6 x7 x8 = grad x0 x1 x3 x4 x5 := by
  funext y
  rw [out9_slabs]
  refine View.canon_apply_of_pieces (Val := Elt Ideal) (S := S2048x256) (e := .f32) _ _ ?_ y (cover0_9 _ _ _ _ y)
  simp only [List.forall_mem_cons]
  exact ⟨slab_apply x0 x1 x3 x4 x5 3, slab_apply x0 x1 x3 x4 x5 2, slab_apply x0 x1 x3 x4 x5 1, slab_apply x0 x1 x3 x4 x5 0, nofun⟩

/-- The block of the second gradient, at every entry. -/
theorem out10_eq : out0_10 x0 x1 x2 x3 x4 x5 x6 x7 x8 = grad x0 x2 x6 x7 x8 := by
  funext y
  rw [out10_slabs]
  refine View.canon_apply_of_pieces (Val := Elt Ideal) (S := S2048x256) (e := .f32) _ _ ?_ y (cover0_10 _ _ _ _ y)
  simp only [List.forall_mem_cons]
  exact ⟨slab_apply x0 x2 x6 x7 x8 3, slab_apply x0 x2 x6 x7 x8 2, slab_apply x0 x2 x6 x7 x8 1, slab_apply x0 x2 x6 x7 x8 0, nofun⟩

end Cert.BackUpBlock

end
-- ==== Proof.BackUp.Array.lean ====
/-
  The arrays `back_up` leaves: the two gradients of whole matrices, put together from their blocks of 256 columns.
-/
module

public import proofs.«01_k».proof.Proof.BackUp.Block

@[expose] public section

noncomputable section

namespace Cert.BackUpArray

open Idealize.ShloMosaic Idealize.ShloMosaic.TcCoe Idealize.SL.Sem Cert.Soft Cert.BackUpIdeal Cert.BackUpIdeal.Gen Cert.BackUpBlock
open Idealize.ShloMosaic.Pipeline (Dat)

variable (m : (ℓ : Loc nD τ sig) → Buf (Elt Ideal) ℓ) (ρ : Dev nD → PrngReg)

/-- Every window but the first moves one block of columns to the right at each grid point. -/
theorem idx : ∀ t : Fin cfg0.N,
    win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val
    ∧ win0_9.index t (0 : Fin 2) = 0 ∧ win0_9.index t (1 : Fin 2) = t.val
    ∧ win0_10.index t (0 : Fin 2) = 0 ∧ win0_10.index t (1 : Fin 2) = t.val :=
  (by decide +kernel : ∀ t : Fin grid0.N, _)

/-- The first window always holds the whole of its array. -/
theorem idx0 : ∀ t : Fin cfg0.N, win0_0.index t (0 : Fin 2) = 0 ∧ win0_0.index t (1 : Fin 2) = 0 :=
  (by decide +kernel : ∀ t : Fin grid0.N, _)

/-- Block `t` of columns of an array with 16384 columns. -/
abbrev blk {α : Type} {n : ℕ} (t : Fin cfg0.N) (X : (S n 16384).Idx → α) : (S n 256).Idx → α := colBlk 256 64 rfl t X

theorem iblk0 (c : Dev nD) (t : Fin cfg0.N) : iblk m c 0 t = m ((c : Thread nD τ).loc main_arg0) := by
  rw [← V_main_arg0 m c]
  obtain ⟨e0, e1⟩ := idx0 t
  funext y
  show V m c main_arg0 (((cfg0.win 0).blk t).view.emb y) = V m c main_arg0 y
  refine congrArg _ ?_
  funext a
  match a with
  | ⟨0, _⟩ => exact Fin.ext (by show win0_0.index t (0 : Fin 2) * 2048 + 1 * (y 0).val = (y 0).val; omega)
  | ⟨1, _⟩ => exact Fin.ext (by show win0_0.index t (1 : Fin 2) * 1920 + 1 * (y 1).val = (y 1).val; omega)

theorem iblk1 (c : Dev nD) (t : Fin cfg0.N) : iblk m c 1 t = blk t (m ((c : Thread nD τ).loc main_arg1)) := by
  rw [← V_main_arg1 m c]
  have h := idx t
  exact colBlk_of 256 64 rfl t (V m c main_arg1) ((cfg0.win 1).blk t).view.emb
    (fun y => by show win0_1.index t (0 : Fin 2) * 1920 + 1 * (y 0).val = (y 0).val; omega)
    (fun y => by show win0_1.index t (1 : Fin 2) * 256 + 1 * (y 1).val = 256 * t.val + (y 1).val; omega)

theorem iblk2 (c : Dev nD) (t : Fin cfg0.N) : iblk m c 2 t = blk t (m ((c : Thread nD τ).loc main_arg2)) := by
  rw [← V_main_arg2 m c]
  have h := idx t
  exact colBlk_of 256 64 rfl t (V m c main_arg2) ((cfg0.win 2).blk t).view.emb
    (fun y => by show win0_2.index t (0 : Fin 2) * 1920 + 1 * (y 0).val = (y 0).val; omega)
    (fun y => by show win0_2.index t (1 : Fin 2) * 256 + 1 * (y 1).val = 256 * t.val + (y 1).val; omega)

theorem iblk3 (c : Dev nD) (t : Fin cfg0.N) : iblk m c 3 t = blk t (m ((c : Thread nD τ).loc main_arg3)) := by
  rw [← V_main_arg3 m c]
  have h := idx t
  exact colBlk_of 256 64 rfl t (V m c main_arg3) ((cfg0.win 3).blk t).view.emb
    (fun y => by show win0_3.index t (0 : Fin 2) * 2048 + 1 * (y 0).val = (y 0).val; omega)
    (fun y => by show win0_3.index t (1 : Fin 2) * 256 + 1 * (y 1).val = 256 * t.val + (y 1).val; omega)

theorem iblk4 (c : Dev nD) (t : Fin cfg0.N) : iblk m c 4 t = blk t (m ((c : Thread nD τ).loc main_arg4)) := by
  rw [← V_main_arg4 m c]
  have h := idx t
  exact colBlk_of 256 64 rfl t (V m c main_arg4) ((cfg0.win 4).blk t).view.emb
    (fun y => by show win0_4.index t (0 : Fin 2) * 32 + 1 * (y 0).val = (y 0).val; omega)
    (fun y => by show win0_4.index t (1 : Fin 2) * 256 + 1 * (y 1).val = 256 * t.val + (y 1).val; omega)

theorem iblk5 (c : Dev nD) (t : Fin cfg0.N) : iblk m c 5 t = blk t (m ((c : Thread nD τ).loc main_arg5)) := by
  rw [← V_main_arg5 m c]
  have h := idx t
  exact colBlk_of 256 64 rfl t (V m c main_arg5) ((cfg0.win 5).blk t).view.emb
    (fun y => by show win0_5.index t (0 : Fin 2) * 2048 + 1 * (y 0).val = (y 0).val; omega)
    (fun y => by show win0_5.index t (1 : Fin 2) * 256 + 1 * (y 1).val = 256 * t.val + (y 1).val; omega)

theorem iblk6 (c : Dev nD) (t : Fin cfg0.N) : iblk m c 6 t = blk t (m ((c : Thread nD τ).loc main_arg6)) := by
  rw [← V_main_arg6 m c]
  have h := idx t
  exact colBlk_of 256 64 rfl t (V m c main_arg6) ((cfg0.win 6).blk t).view.emb
    (fun y => by show win0_6.index t (0 : Fin 2) * 2048 + 1 * (y 0).val = (y 0).val; omega)
    (fun y => by show win0_6.index t (1 : Fin 2) * 256 + 1 * (y 1).val = 256 * t.val + (y 1).val; omega)

theorem iblk7 (c : Dev nD) (t : Fin cfg0.N) : iblk m c 7 t = blk t (m ((c : Thread nD τ).loc main_arg7)) := by
  rw [← V_main_arg7 m c]
  have h := idx t
  exact colBlk_of 256 64 rfl t (V m c main_arg7) ((cfg0.win 7).blk t).view.emb
    (fun y => by show win0_7.index t (0 : Fin 2) * 32 + 1 * (y 0).val = (y 0).val; omega)
    (fun y => by show win0_7.index t (1 : Fin 2) * 256 + 1 * (y 1).val = 256 * t.val + (y 1).val; omega)

theorem iblk8 (c : Dev nD) (t : Fin cfg0.N) : iblk m c 8 t = blk t (m ((c : Thread nD τ).loc main_arg8)) := by
  rw [← V_main_arg8 m c]
  have h := idx t
  exact colBlk_of 256 64 rfl t (V m c main_arg8) ((cfg0.win 8).blk t).view.emb
    (fun y => by show win0_8.index t (0 : Fin 2) * 2048 + 1 * (y 0).val = (y 0).val; omega)
    (fun y => by show win0_8.index t (1 : Fin 2) * 256 + 1 * (y 1).val = 256 * t.val + (y 1).val; omega)

/-- What the launch leaves in its first result. -/
theorem final9 (c : Dev nD) : (dats m 0 c).arrAt 9 cfg0.N = (grad (m ((c : Thread nD τ).loc main_arg0)) (m ((c : Thread nD τ).loc main_arg1)) (m ((c : Thread nD τ).loc main_arg3)) (m ((c : Thread nD τ).loc main_arg4)) (m ((c : Thread nD τ).loc main_arg5))) := by
  have hemb : ∀ (t : Fin cfg0.N) (y : S2048x256.Idx), (((cfg0.win 9).blk t).view.emb y 0).val = (y 0).val
      ∧ (((cfg0.win 9).blk t).view.emb y 1).val = 256 * t.val + (y 1).val := fun t y => by
    have h := idx t
    constructor
    · show win0_9.index t (0 : Fin 2) * 2048 + 1 * (y 0).val = (y 0).val; omega
    · show win0_9.index t (1 : Fin 2) * 256 + 1 * (y 1).val = 256 * t.val + (y 1).val; omega
  refine (dats m 0 c).arrAt_eq_of_cover 9 _ (fun t _ => ?_) fun i => ?_
  · rw [Value.flushed9, out9_eq, iblk0, iblk1, iblk3, iblk4, iblk5]
    exact (colBlk_of 256 64 rfl t (grad (m ((c : Thread nD τ).loc main_arg0)) (m ((c : Thread nD τ).loc main_arg1)) (m ((c : Thread nD τ).loc main_arg3)) (m ((c : Thread nD τ).loc main_arg4)) (m ((c : Thread nD τ).loc main_arg5))) ((cfg0.win 9).blk t).view.emb (fun y => (hemb t y).1) (fun y => (hemb t y).2)).symm
  · have h0 : (i 0).val < 2048 := (i 0).isLt
    have h1 : (i 1).val < 16384 := (i 1).isLt
    let t : Fin cfg0.N := ⟨(i 1).val / 256, show _ < 64 by omega⟩
    refine ⟨t, flush0_9 t, ?_⟩
    have h := ((cfg0.win 9).blk t).view.emb_mem_set (ix2 (i 0) ⟨(i 1).val % 256, by omega⟩)
    have e : ((cfg0.win 9).blk t).view.emb (ix2 (i 0) ⟨(i 1).val % 256, by omega⟩) = i := by
      funext a
      match a with
      | ⟨0, _⟩ => exact Fin.ext (hemb t _).1
      | ⟨1, _⟩ => exact Fin.ext ((hemb t _).2.trans (Nat.div_add_mod _ 256))
    rwa [e] at h

/-- What the launch leaves in its second result. -/
theorem final10 (c : Dev nD) : (dats m 0 c).arrAt 10 cfg0.N = (grad (m ((c : Thread nD τ).loc main_arg0)) (m ((c : Thread nD τ).loc main_arg2)) (m ((c : Thread nD τ).loc main_arg6)) (m ((c : Thread nD τ).loc main_arg7)) (m ((c : Thread nD τ).loc main_arg8))) := by
  have hemb : ∀ (t : Fin cfg0.N) (y : S2048x256.Idx), (((cfg0.win 10).blk t).view.emb y 0).val = (y 0).val
      ∧ (((cfg0.win 10).blk t).view.emb y 1).val = 256 * t.val + (y 1).val := fun t y => by
    have h := idx t
    constructor
    · show win0_10.index t (0 : Fin 2) * 2048 + 1 * (y 0).val = (y 0).val; omega
    · show win0_10.index t (1 : Fin 2) * 256 + 1 * (y 1).val = 256 * t.val + (y 1).val; omega
  refine (dats m 0 c).arrAt_eq_of_cover 10 _ (fun t _ => ?_) fun i => ?_
  · rw [Value.flushed10, out10_eq, iblk0, iblk2, iblk6, iblk7, iblk8]
    exact (colBlk_of 256 64 rfl t (grad (m ((c : Thread nD τ).loc main_arg0)) (m ((c : Thread nD τ).loc main_arg2)) (m ((c : Thread nD τ).loc main_arg6)) (m ((c : Thread nD τ).loc main_arg7)) (m ((c : Thread nD τ).loc main_arg8))) ((cfg0.win 10).blk t).view.emb (fun y => (hemb t y).1) (fun y => (hemb t y).2)).symm
  · have h0 : (i 0).val < 2048 := (i 0).isLt
    have h1 : (i 1).val < 16384 := (i 1).isLt
    let t : Fin cfg0.N := ⟨(i 1).val / 256, show _ < 64 by omega⟩
    refine ⟨t, flush0_10 t, ?_⟩
    have h := ((cfg0.win 10).blk t).view.emb_mem_set (ix2 (i 0) ⟨(i 1).val % 256, by omega⟩)
    have e : ((cfg0.win 10).blk t).view.emb (ix2 (i 0) ⟨(i 1).val % 256, by omega⟩) = i := by
      funext a
      match a with
      | ⟨0, _⟩ => exact Fin.ext (hemb t _).1
      | ⟨1, _⟩ => exact Fin.ext ((hemb t _).2.trans (Nat.div_add_mod _ 256))
    rwa [e] at h

end Cert.BackUpArray

end
-- ==== Proof.BackUp.Ref.lean ====
/-
  What the reference of `back_up` computes: the same two gradients, over whole matrices at once.
-/
module

public import proofs.«01_k».proof.Proof.BackUp.Block
public import proofs.«01_k».proof.Proof.Gen.BackUpRefIdeal.Value

@[expose] public section

noncomputable section

namespace Cert.BackUpRefs

open Idealize.ShloMosaic Cert.Soft Cert.BackUpRefIdeal Cert.BackUpRefIdeal.Gen

variable (x : Vec Ideal S2048x1920 .bf16) (g : Vec Ideal S1920x16384 .bf16) (f : Vec Ideal S2048x16384 .i8)
  (s : Vec Ideal S32x16384 .f32) (v : Vec Ideal S2048x16384 .f32)

/-- The gradient as the reference writes it. -/
def whole : Vec Ideal S2048x16384 .f32 :=
  dvV (groupRef .f32 32 2048 16384
    (matmul (φ₁ := .bf16) (φ₂ := .bf16) dot_S2048x1920_S1920x16384_S2048x16384_1_0_0_1_n_n none x g (constant S2048x16384 .f32 0x00000000#32))
    s shapeCasts_S2048x16384_S32x64x16384 shapeCasts_S32x16384_S32x1x16384 broadcasts_S32x1x16384_S32x64x16384
    shapeCasts_S32x64x16384_S2048x16384) f v

/-- An entry of the product. -/
theorem dot_apply (a : FVec Ideal S2048x1920 .bf16) (b : FVec Ideal S1920x16384 .bf16) (i : Fin 2048) (j : Fin 16384) :
    matmul dot_S2048x1920_S1920x16384_S2048x16384_1_0_0_1_n_n none a b (constant S2048x16384 .f32 0x00000000#32) (ix2 i j)
      = ∑ k : Fin 1920, a (ix2 i k) * b (ix2 k j) := by
  pointwise

/-- It is the gradient at every entry. -/
theorem whole_eq : whole x g f s v = BackUpBlock.grad x g f s v := by
  funext y
  obtain ⟨i, j, rfl⟩ : ∃ i j, y = ix2 i j := ⟨_, _, eq_ix2 y⟩
  show dv (groupRef .f32 32 2048 16384 _ _ _ _ _ _ (ix2 i j)) _ _ = dv _ _ _
  rw [groupRef_apply rfl, dot_apply]
  rfl

variable (g' : Vec Ideal S1920x16384 .bf16) (f' : Vec Ideal S2048x16384 .i8) (s' : Vec Ideal S32x16384 .f32) (v' : Vec Ideal S2048x16384 .f32)

/-- The reference's first result. -/
theorem G9_eq : Value.G9 x g g' f s v f' s' v' = BackUpBlock.grad x g f s v := (show _ = whole x g f s v from rfl).trans (whole_eq ..)
/-- The reference's second result. -/
theorem G10_eq : Value.G10 x g g' f s v f' s' v' = BackUpBlock.grad x g' f' s' v' := (show _ = whole x g' f' s' v' from rfl).trans (whole_eq ..)

end Cert.BackUpRefs

end
-- ==== Proof.BackUp.Algebraic.lean ====
/-
  `back_up` and its reference end with equal results.
-/
module

public import proofs.«01_k».proof.Proof.BackUp.Array
public import proofs.«01_k».proof.Proof.BackUp.Ref
public import proofs.«01_k».proof.Defs

@[expose] public section

noncomputable section

namespace Cert.BackUpProof

open Idealize.ShloMosaic Idealize.SL.Sem

theorem algebraic : Cert.algebraic_BackUpIdeal_BackUpRefIdeal (hBackUpIdeal := Cert.BackUpIdeal.Gen.facts)
    (hBackUpRefIdeal := Cert.BackUpRefIdeal.Gen.facts) := by
  intro m g m' g' _ hargs
  refine ⟨_, _, Cert.BackUpIdeal.Value.run_blocks (F := Ideal) m g, ?_⟩
  refine (θ_run (Cert.BackUpRefIdeal.defs (F := Ideal)) _ _).mono (fun r h c => ?_) (Cert.BackUpRefIdeal.Value.run (F := Ideal) m' g')
  obtain ⟨r0, r1, rest⟩ := h c
  obtain ⟨a0, a1, a2, a3, a4, a5, a6, a7, a8⟩ := hargs c
  refine ⟨r0.trans ?_, r1.trans ?_, rest⟩
  · rw [a0, a1, a2, a3, a4, a5, a6, a7, a8]
    exact (Cert.BackUpRefs.G9_eq ..).trans (Cert.BackUpArray.final9 m c).symm
  · rw [a0, a1, a2, a3, a4, a5, a6, a7, a8]
    exact (Cert.BackUpRefs.G10_eq ..).trans (Cert.BackUpArray.final10 m c).symm

end Cert.BackUpProof

end
-- ==== Proof.lean ====
module

public import proofs.«01_k».proof.Defs
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantRefIdeal
public import proofs.«01_k».proof.Proof.Gen.QuantRefIdeal.Skeleton
public import proofs.«01_k».proof.Proof.Gen.QuantRefIdeal.Launch
public import proofs.«01_k».proof.Proof.Gen.QuantRefIdeal.Points
public import proofs.«01_k».proof.Proof.Gen.QuantRefIdeal.Frame
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.BackDown
public import proofs.«01_k».proof.Proof.Gen.BackDown.Skeleton
public import proofs.«01_k».proof.Proof.Gen.BackDown.Launch
public import proofs.«01_k».proof.Proof.Gen.BackDown.Points
public import proofs.«01_k».proof.Proof.Gen.BackDown.Frame
public import proofs.«01_k».proof.Proof.Gen.BackDownIdeal
public import proofs.«01_k».proof.Proof.Gen.BackDownIdeal.Skeleton
public import proofs.«01_k».proof.Proof.Gen.BackDownIdeal.Launch
public import proofs.«01_k».proof.Proof.Gen.BackDownIdeal.Points
public import proofs.«01_k».proof.Proof.Gen.BackDownIdeal.Frame
public import proofs.«01_k».proof.Proof.Gen.BackDownRefIdeal
public import proofs.«01_k».proof.Proof.Gen.BackDownRefIdeal.Skeleton
public import proofs.«01_k».proof.Proof.Gen.BackDownRefIdeal.Launch
public import proofs.«01_k».proof.Proof.Gen.BackDownRefIdeal.Points
public import proofs.«01_k».proof.Proof.Gen.BackDownRefIdeal.Frame
public import proofs.«01_k».proof.Proof.Gen.BackUp
public import proofs.«01_k».proof.Proof.Gen.BackUp.Skeleton
public import proofs.«01_k».proof.Proof.Gen.BackUp.Launch
public import proofs.«01_k».proof.Proof.Gen.BackUp.Points
public import proofs.«01_k».proof.Proof.Gen.BackUp.Frame
public import proofs.«01_k».proof.Proof.Gen.BackUpIdeal
public import proofs.«01_k».proof.Proof.Gen.BackUpIdeal.Skeleton
public import proofs.«01_k».proof.Proof.Gen.BackUpIdeal.Launch
public import proofs.«01_k».proof.Proof.Gen.BackUpIdeal.Points
public import proofs.«01_k».proof.Proof.Gen.BackUpIdeal.Frame
public import proofs.«01_k».proof.Proof.Gen.BackUpRefIdeal
public import proofs.«01_k».proof.Proof.Gen.BackUpRefIdeal.Skeleton
public import proofs.«01_k».proof.Proof.Gen.BackUpRefIdeal.Launch
public import proofs.«01_k».proof.Proof.Gen.BackUpRefIdeal.Points
public import proofs.«01_k».proof.Proof.Gen.BackUpRefIdeal.Frame
public import proofs.«01_k».proof.Proof.Gen.QuantIdeal.Value
public import proofs.«01_k».proof.Proof.Gen.QuantRefIdeal.Value
public import proofs.«01_k».proof.Proof.Gen.GateUpIdeal.Value
public import proofs.«01_k».proof.Proof.Gen.GateUpRefIdeal.Value
public import proofs.«01_k».proof.Proof.Gen.DownIdeal.Value
public import proofs.«01_k».proof.Proof.Gen.DownRefIdeal.Value
public import proofs.«01_k».proof.Proof.Gen.LossIdeal.Value
public import proofs.«01_k».proof.Proof.Gen.LossRefIdeal.Run
public import proofs.«01_k».proof.Proof.Gen.BackDownIdeal.Value
public import proofs.«01_k».proof.Proof.Gen.BackDownRefIdeal.Value
public import proofs.«01_k».proof.Proof.Gen.BackUpIdeal.Value
public import proofs.«01_k».proof.Proof.Gen.BackUpRefIdeal.Value
public import proofs.«01_k».proof.Proof.Quant.Algebraic
public import proofs.«01_k».proof.Proof.GateUp.Algebraic
public import proofs.«01_k».proof.Proof.Down.Algebraic
public import proofs.«01_k».proof.Proof.Loss.Algebraic
public import proofs.«01_k».proof.Proof.BackDown.Algebraic
public import proofs.«01_k».proof.Proof.BackUp.Algebraic
public import Idealize.ShloMosaic.Adequacy
public import Idealize.ShloMosaic.Init

@[expose] public section

noncomputable section

namespace Cert.Proof

open Idealize.ShloMosaic Idealize.SL.Sem Cert.Quant

/-- The reference of `loss` is host code without semaphores: it leaves its arguments as they were. -/
theorem frame_lossRef : Cert.quiescent_LossRefIdeal := fun m ρ _ =>
  (θ_run (Cert.LossRefIdeal.defs (F := Ideal)) _ _).mono (fun r h => ⟨fun c => (h c).2.2.2, sem_eq_zero_of_no_sems (by decide) r.2⟩)
    (Cert.LossRefIdeal.Value.run (F := Ideal) m ρ)

/-- Everything that is claimed. -/
theorem claim : Cert.Claim := ⟨
  -- what each program states about itself
  Cert.Quant.Gen.facts, Cert.QuantIdeal.Gen.facts, Cert.QuantRefIdeal.Gen.facts,
  Cert.GateUp.Gen.facts, Cert.GateUpIdeal.Gen.facts, Cert.GateUpRefIdeal.Gen.facts,
  Cert.Down.Gen.facts, Cert.DownIdeal.Gen.facts, Cert.DownRefIdeal.Gen.facts,
  Cert.Loss.Gen.facts, Cert.LossIdeal.Gen.facts, Cert.LossRefIdeal.Gen.facts,
  Cert.BackDown.Gen.facts, Cert.BackDownIdeal.Gen.facts, Cert.BackDownRefIdeal.Gen.facts,
  Cert.BackUp.Gen.facts, Cert.BackUpIdeal.Gen.facts, Cert.BackUpRefIdeal.Gen.facts,
  -- every program ends without fault and leaves its arguments as they were
  fun m ρ _ => Cert.Quant.Gen.frame m ρ,
  fun m ρ _ => Cert.QuantIdeal.Gen.frame m ρ,
  fun m ρ _ => Cert.QuantRefIdeal.Gen.frame m ρ,
  fun m ρ _ => Cert.GateUp.Gen.frame m ρ,
  fun m ρ _ => Cert.GateUpIdeal.Gen.frame m ρ,
  fun m ρ _ => Cert.GateUpRefIdeal.Gen.frame m ρ,
  fun m ρ _ => Cert.Down.Gen.frame m ρ,
  fun m ρ _ => Cert.DownIdeal.Gen.frame m ρ,
  fun m ρ _ => Cert.DownRefIdeal.Gen.frame m ρ,
  fun m ρ _ => Cert.Loss.Gen.frame m ρ,
  fun m ρ _ => Cert.LossIdeal.Gen.frame m ρ,
  frame_lossRef,
  fun m ρ _ => Cert.BackDown.Gen.frame m ρ,
  fun m ρ _ => Cert.BackDownIdeal.Gen.frame m ρ,
  fun m ρ _ => Cert.BackDownRefIdeal.Gen.frame m ρ,
  fun m ρ _ => Cert.BackUp.Gen.frame m ρ,
  fun m ρ _ => Cert.BackUpIdeal.Gen.frame m ρ,
  fun m ρ _ => Cert.BackUpRefIdeal.Gen.frame m ρ,
  -- the ideal program is the kernel; kernel and reference end with equal results
  trivial,
  Cert.QuantProof.algebraic,
  trivial,
  Cert.GateUpProof.algebraic,
  trivial,
  Cert.DownProof.algebraic,
  trivial,
  Cert.LossProof.algebraic,
  trivial,
  Cert.BackDownProof.algebraic,
  trivial,
  Cert.BackUpProof.algebraic⟩

end Cert.Proof

end
